-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![4096, 64]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.block ⟨2, ![128, 64]⟩ ⟨2, ![4096, 64]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S_ : Shape := ⟨0, ![]⟩
abbrev S32x128x64 : Shape := ⟨3, ![32, 128, 64]⟩
abbrev S5 : Shape := ⟨1, ![5]⟩
abbrev S1x128x64 : Shape := ⟨3, ![1, 128, 64]⟩
abbrev S1 : Shape := ⟨1, ![1]⟩
abbrev S256x64 : Shape := ⟨2, ![256, 64]⟩
abbrev S1x2x128x64 : Shape := ⟨4, ![1, 2, 128, 64]⟩
abbrev S1x1x128x64 : Shape := ⟨4, ![1, 1, 128, 64]⟩
abbrev S2x2x64x64 : Shape := ⟨4, ![2, 2, 64, 64]⟩
abbrev S2x1x64x64 : Shape := ⟨4, ![2, 1, 64, 64]⟩
abbrev S2x64x64 : Shape := ⟨3, ![2, 64, 64]⟩
abbrev S4x2x32x64 : Shape := ⟨4, ![4, 2, 32, 64]⟩
abbrev S4x1x32x64 : Shape := ⟨4, ![4, 1, 32, 64]⟩
abbrev S4x32x64 : Shape := ⟨3, ![4, 32, 64]⟩
abbrev S8x2x16x64 : Shape := ⟨4, ![8, 2, 16, 64]⟩
abbrev S8x1x16x64 : Shape := ⟨4, ![8, 1, 16, 64]⟩
abbrev S8x16x64 : Shape := ⟨3, ![8, 16, 64]⟩
abbrev S16x2x8x64 : Shape := ⟨4, ![16, 2, 8, 64]⟩
abbrev S16x1x8x64 : Shape := ⟨4, ![16, 1, 8, 64]⟩
abbrev S16x8x64 : Shape := ⟨3, ![16, 8, 64]⟩
abbrev S252x64 : Shape := ⟨2, ![252, 64]⟩
abbrev S4x64 : Shape := ⟨2, ![4, 64]⟩
abbrev S254x64 : Shape := ⟨2, ![254, 64]⟩
abbrev S2x64 : Shape := ⟨2, ![2, 64]⟩
abbrev S255x64 : Shape := ⟨2, ![255, 64]⟩
abbrev S1x64 : Shape := ⟨2, ![1, 64]⟩
abbrev S2x128x64 : Shape := ⟨3, ![2, 128, 64]⟩
abbrev S512x64 : Shape := ⟨2, ![512, 64]⟩
abbrev S1x2x256x64 : Shape := ⟨4, ![1, 2, 256, 64]⟩
abbrev S1x1x256x64 : Shape := ⟨4, ![1, 1, 256, 64]⟩
abbrev S1x256x64 : Shape := ⟨3, ![1, 256, 64]⟩
abbrev S2x2x128x64 : Shape := ⟨4, ![2, 2, 128, 64]⟩
abbrev S2x1x128x64 : Shape := ⟨4, ![2, 1, 128, 64]⟩
abbrev S4x2x64x64 : Shape := ⟨4, ![4, 2, 64, 64]⟩
abbrev S4x1x64x64 : Shape := ⟨4, ![4, 1, 64, 64]⟩
abbrev S4x64x64 : Shape := ⟨3, ![4, 64, 64]⟩
abbrev S8x2x32x64 : Shape := ⟨4, ![8, 2, 32, 64]⟩
abbrev S8x1x32x64 : Shape := ⟨4, ![8, 1, 32, 64]⟩
abbrev S8x32x64 : Shape := ⟨3, ![8, 32, 64]⟩
abbrev S16x2x16x64 : Shape := ⟨4, ![16, 2, 16, 64]⟩
abbrev S16x1x16x64 : Shape := ⟨4, ![16, 1, 16, 64]⟩
abbrev S16x16x64 : Shape := ⟨3, ![16, 16, 64]⟩
abbrev S32x2x8x64 : Shape := ⟨4, ![32, 2, 8, 64]⟩
abbrev S32x1x8x64 : Shape := ⟨4, ![32, 1, 8, 64]⟩
abbrev S32x8x64 : Shape := ⟨3, ![32, 8, 64]⟩
abbrev S508x64 : Shape := ⟨2, ![508, 64]⟩
abbrev S510x64 : Shape := ⟨2, ![510, 64]⟩
abbrev S511x64 : Shape := ⟨2, ![511, 64]⟩
abbrev S4x128x64 : Shape := ⟨3, ![4, 128, 64]⟩
abbrev S1024x64 : Shape := ⟨2, ![1024, 64]⟩
abbrev S1x2x512x64 : Shape := ⟨4, ![1, 2, 512, 64]⟩
abbrev S1x1x512x64 : Shape := ⟨4, ![1, 1, 512, 64]⟩
abbrev S1x512x64 : Shape := ⟨3, ![1, 512, 64]⟩
abbrev S2x2x256x64 : Shape := ⟨4, ![2, 2, 256, 64]⟩
abbrev S2x1x256x64 : Shape := ⟨4, ![2, 1, 256, 64]⟩
abbrev S2x256x64 : Shape := ⟨3, ![2, 256, 64]⟩
abbrev S4x2x128x64 : Shape := ⟨4, ![4, 2, 128, 64]⟩
abbrev S4x1x128x64 : Shape := ⟨4, ![4, 1, 128, 64]⟩
abbrev S8x2x64x64 : Shape := ⟨4, ![8, 2, 64, 64]⟩
abbrev S8x1x64x64 : Shape := ⟨4, ![8, 1, 64, 64]⟩
abbrev S8x64x64 : Shape := ⟨3, ![8, 64, 64]⟩
abbrev S16x2x32x64 : Shape := ⟨4, ![16, 2, 32, 64]⟩
abbrev S16x1x32x64 : Shape := ⟨4, ![16, 1, 32, 64]⟩
abbrev S16x32x64 : Shape := ⟨3, ![16, 32, 64]⟩
abbrev S32x2x16x64 : Shape := ⟨4, ![32, 2, 16, 64]⟩
abbrev S32x1x16x64 : Shape := ⟨4, ![32, 1, 16, 64]⟩
abbrev S32x16x64 : Shape := ⟨3, ![32, 16, 64]⟩
abbrev S64x2x8x64 : Shape := ⟨4, ![64, 2, 8, 64]⟩
abbrev S64x1x8x64 : Shape := ⟨4, ![64, 1, 8, 64]⟩
abbrev S64x8x64 : Shape := ⟨3, ![64, 8, 64]⟩
abbrev S1020x64 : Shape := ⟨2, ![1020, 64]⟩
abbrev S1022x64 : Shape := ⟨2, ![1022, 64]⟩
abbrev S1023x64 : Shape := ⟨2, ![1023, 64]⟩
abbrev S8x128x64 : Shape := ⟨3, ![8, 128, 64]⟩
abbrev S2048x64 : Shape := ⟨2, ![2048, 64]⟩
abbrev S1x2x1024x64 : Shape := ⟨4, ![1, 2, 1024, 64]⟩
abbrev S1x1x1024x64 : Shape := ⟨4, ![1, 1, 1024, 64]⟩
abbrev S1x1024x64 : Shape := ⟨3, ![1, 1024, 64]⟩
abbrev S2x2x512x64 : Shape := ⟨4, ![2, 2, 512, 64]⟩
abbrev S2x1x512x64 : Shape := ⟨4, ![2, 1, 512, 64]⟩
abbrev S2x512x64 : Shape := ⟨3, ![2, 512, 64]⟩
abbrev S4x2x256x64 : Shape := ⟨4, ![4, 2, 256, 64]⟩
abbrev S4x1x256x64 : Shape := ⟨4, ![4, 1, 256, 64]⟩
abbrev S4x256x64 : Shape := ⟨3, ![4, 256, 64]⟩
abbrev S8x2x128x64 : Shape := ⟨4, ![8, 2, 128, 64]⟩
abbrev S8x1x128x64 : Shape := ⟨4, ![8, 1, 128, 64]⟩
abbrev S16x2x64x64 : Shape := ⟨4, ![16, 2, 64, 64]⟩
abbrev S16x1x64x64 : Shape := ⟨4, ![16, 1, 64, 64]⟩
abbrev S16x64x64 : Shape := ⟨3, ![16, 64, 64]⟩
abbrev S32x2x32x64 : Shape := ⟨4, ![32, 2, 32, 64]⟩
abbrev S32x1x32x64 : Shape := ⟨4, ![32, 1, 32, 64]⟩
abbrev S32x32x64 : Shape := ⟨3, ![32, 32, 64]⟩
abbrev S64x2x16x64 : Shape := ⟨4, ![64, 2, 16, 64]⟩
abbrev S64x1x16x64 : Shape := ⟨4, ![64, 1, 16, 64]⟩
abbrev S64x16x64 : Shape := ⟨3, ![64, 16, 64]⟩
abbrev S128x2x8x64 : Shape := ⟨4, ![128, 2, 8, 64]⟩
abbrev S128x1x8x64 : Shape := ⟨4, ![128, 1, 8, 64]⟩
abbrev S128x8x64 : Shape := ⟨3, ![128, 8, 64]⟩
abbrev S2044x64 : Shape := ⟨2, ![2044, 64]⟩
abbrev S2046x64 : Shape := ⟨2, ![2046, 64]⟩
abbrev S2047x64 : Shape := ⟨2, ![2047, 64]⟩
abbrev S16x128x64 : Shape := ⟨3, ![16, 128, 64]⟩
abbrev S4096x64 : Shape := ⟨2, ![4096, 64]⟩
abbrev S1x2x2048x64 : Shape := ⟨4, ![1, 2, 2048, 64]⟩
abbrev S1x1x2048x64 : Shape := ⟨4, ![1, 1, 2048, 64]⟩
abbrev S1x2048x64 : Shape := ⟨3, ![1, 2048, 64]⟩
abbrev S2x2x1024x64 : Shape := ⟨4, ![2, 2, 1024, 64]⟩
abbrev S2x1x1024x64 : Shape := ⟨4, ![2, 1, 1024, 64]⟩
abbrev S2x1024x64 : Shape := ⟨3, ![2, 1024, 64]⟩
abbrev S4x2x512x64 : Shape := ⟨4, ![4, 2, 512, 64]⟩
abbrev S4x1x512x64 : Shape := ⟨4, ![4, 1, 512, 64]⟩
abbrev S4x512x64 : Shape := ⟨3, ![4, 512, 64]⟩
abbrev S8x2x256x64 : Shape := ⟨4, ![8, 2, 256, 64]⟩
abbrev S8x1x256x64 : Shape := ⟨4, ![8, 1, 256, 64]⟩
abbrev S8x256x64 : Shape := ⟨3, ![8, 256, 64]⟩
abbrev S16x2x128x64 : Shape := ⟨4, ![16, 2, 128, 64]⟩
abbrev S16x1x128x64 : Shape := ⟨4, ![16, 1, 128, 64]⟩
abbrev S32x2x64x64 : Shape := ⟨4, ![32, 2, 64, 64]⟩
abbrev S32x1x64x64 : Shape := ⟨4, ![32, 1, 64, 64]⟩
abbrev S32x64x64 : Shape := ⟨3, ![32, 64, 64]⟩
abbrev S64x2x32x64 : Shape := ⟨4, ![64, 2, 32, 64]⟩
abbrev S64x1x32x64 : Shape := ⟨4, ![64, 1, 32, 64]⟩
abbrev S64x32x64 : Shape := ⟨3, ![64, 32, 64]⟩
abbrev S128x2x16x64 : Shape := ⟨4, ![128, 2, 16, 64]⟩
abbrev S128x1x16x64 : Shape := ⟨4, ![128, 1, 16, 64]⟩
abbrev S128x16x64 : Shape := ⟨3, ![128, 16, 64]⟩
abbrev S256x2x8x64 : Shape := ⟨4, ![256, 2, 8, 64]⟩
abbrev S256x1x8x64 : Shape := ⟨4, ![256, 1, 8, 64]⟩
abbrev S256x8x64 : Shape := ⟨3, ![256, 8, 64]⟩
abbrev S4092x64 : Shape := ⟨2, ![4092, 64]⟩
abbrev S4094x64 : Shape := ⟨2, ![4094, 64]⟩
abbrev S4095x64 : Shape := ⟨2, ![4095, 64]⟩

abbrev nBuf : Space → Nat
  | .hbm => 135
  | .vmem => 3
  | .smem => 0
  | _ => 0

abbrev hbmTy0_0 (i : Nat) : BufTy := match i % 128 with
  | 0 => ⟨S128x64, .f32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i1⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i1⟩
  | 61 => ⟨S_, .i32⟩
  | 62 => ⟨S_, .i1⟩
  | 63 => ⟨S_, .i1⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i1⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i1⟩
  | 107 => ⟨S_, .i1⟩
  | 108 => ⟨S_, .i32⟩
  | 109 => ⟨S_, .i32⟩
  | 110 => ⟨S_, .i32⟩
  | 111 => ⟨S_, .i32⟩
  | 112 => ⟨S128x64, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i1⟩
  | 124 => ⟨S_, .i32⟩
  | 125 => ⟨S_, .i1⟩
  | 126 => ⟨S_, .i1⟩
  | 127 => ⟨S_, .i1⟩
  | _ => ⟨S128x64, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S128x64, .f32⟩
  | 5 => ⟨S128x64, .f32⟩
  | 6 => ⟨S128x64, .f32⟩
  | _ => ⟨S128x64, .f32⟩

abbrev hbmTy (i : Nat) : BufTy := match i / 128 with
  | 0 => hbmTy0_0 i
  | 1 => hbmTy0_1 i
  | _ => ⟨S128x64, .f32⟩

abbrev bufTy : (tb : Table) → Fin (tcTables nBuf tb) → BufTy
  | .hbm, ⟨i, _⟩ => hbmTy i
  | .local _ .vmem, ⟨0, _⟩ => ⟨S128x64, .f32⟩
  | .local _ .vmem, ⟨1, _⟩ => ⟨S128x64, .f32⟩
  | .local _ .vmem, ⟨2, _⟩ => ⟨S32x128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(7, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c : Ref sig .tc := ⟨.hbm, 14, rfl⟩
abbrev main_call0_v6 : Ref sig .tc := ⟨.hbm, 15, rfl⟩
abbrev main_call0_v7 : Ref sig .tc := ⟨.hbm, 16, rfl⟩
abbrev main_call0_c_0 : Ref sig .tc := ⟨.hbm, 17, rfl⟩
abbrev main_call0_v8 : Ref sig .tc := ⟨.hbm, 18, rfl⟩
abbrev main_v5 : Ref sig .tc := ⟨.hbm, 19, rfl⟩
abbrev main_c_2 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_c_1 : Ref sig .tc := ⟨.hbm, 27, rfl⟩
abbrev main_call1_v4 : Ref sig .tc := ⟨.hbm, 28, rfl⟩
abbrev main_call1_c_2 : Ref sig .tc := ⟨.hbm, 29, rfl⟩
abbrev main_call1_v5 : Ref sig .tc := ⟨.hbm, 30, rfl⟩
abbrev main_call1_c_3 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_v6 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v7 : Ref sig .tc := ⟨.hbm, 49, rfl⟩
abbrev main_c_4 : Ref sig .tc := ⟨.hbm, 50, rfl⟩
abbrev main_call3_v0 : Ref sig .tc := ⟨.hbm, 51, rfl⟩
abbrev main_call3_c : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_c_1 : Ref sig .tc := ⟨.hbm, 57, rfl⟩
abbrev main_call3_v4 : Ref sig .tc := ⟨.hbm, 58, rfl⟩
abbrev main_call3_c_2 : Ref sig .tc := ⟨.hbm, 59, rfl⟩
abbrev main_call3_v5 : Ref sig .tc := ⟨.hbm, 60, rfl⟩
abbrev main_call3_c_3 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_v8 : Ref sig .tc := ⟨.hbm, 66, rfl⟩
abbrev main_c_5 : Ref sig .tc := ⟨.hbm, 67, rfl⟩
abbrev main_v9 : Ref sig .tc := ⟨.hbm, 68, rfl⟩
abbrev main_v10 : Ref sig .tc := ⟨.hbm, 69, rfl⟩
abbrev main_c_6 : Ref sig .tc := ⟨.hbm, 70, rfl⟩
abbrev main_v11 : Ref sig .tc := ⟨.hbm, 71, rfl⟩
abbrev main_c_7 : Ref sig .tc := ⟨.hbm, 72, rfl⟩
abbrev main_v12 : Ref sig .tc := ⟨.hbm, 73, rfl⟩
abbrev main_c_8 : Ref sig .tc := ⟨.hbm, 74, rfl⟩
abbrev main_v13 : Ref sig .tc := ⟨.hbm, 75, rfl⟩
abbrev main_v14 : Ref sig .tc := ⟨.hbm, 76, rfl⟩
abbrev main_c_9 : Ref sig .tc := ⟨.hbm, 77, rfl⟩
abbrev main_v15 : Ref sig .tc := ⟨.hbm, 78, rfl⟩
abbrev main_c_10 : Ref sig .tc := ⟨.hbm, 79, rfl⟩
abbrev main_v16 : Ref sig .tc := ⟨.hbm, 80, rfl⟩
abbrev main_v17 : Ref sig .tc := ⟨.hbm, 81, rfl⟩
abbrev main_c_11 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c : Ref sig .tc := ⟨.hbm, 89, rfl⟩
abbrev main_call4_v6 : Ref sig .tc := ⟨.hbm, 90, rfl⟩
abbrev main_call4_v7 : Ref sig .tc := ⟨.hbm, 91, rfl⟩
abbrev main_call4_c_0 : Ref sig .tc := ⟨.hbm, 92, rfl⟩
abbrev main_call4_v8 : Ref sig .tc := ⟨.hbm, 93, rfl⟩
abbrev main_v18 : Ref sig .tc := ⟨.hbm, 94, rfl⟩
abbrev main_c_12 : Ref sig .tc := ⟨.hbm, 95, rfl⟩
abbrev main_v19 : Ref sig .tc := ⟨.hbm, 96, rfl⟩
abbrev main_v20 : Ref sig .tc := ⟨.hbm, 97, rfl⟩
abbrev main_c_13 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_c : Ref sig .tc := ⟨.hbm, 105, rfl⟩
abbrev main_call5_v6 : Ref sig .tc := ⟨.hbm, 106, rfl⟩
abbrev main_call5_v7 : Ref sig .tc := ⟨.hbm, 107, rfl⟩
abbrev main_call5_c_0 : Ref sig .tc := ⟨.hbm, 108, rfl⟩
abbrev main_call5_v8 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_c_14 : Ref sig .tc := ⟨.hbm, 113, rfl⟩
abbrev main_call7_v0 : Ref sig .tc := ⟨.hbm, 114, rfl⟩
abbrev main_call7_c : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_c_1 : Ref sig .tc := ⟨.hbm, 120, rfl⟩
abbrev main_call7_v4 : Ref sig .tc := ⟨.hbm, 121, rfl⟩
abbrev main_call7_c_2 : Ref sig .tc := ⟨.hbm, 122, rfl⟩
abbrev main_call7_v5 : Ref sig .tc := ⟨.hbm, 123, rfl⟩
abbrev main_call7_c_3 : Ref sig .tc := ⟨.hbm, 124, rfl⟩
abbrev main_call7_v6 : Ref sig .tc := ⟨.hbm, 125, rfl⟩
abbrev main_call7_v7 : Ref sig .tc := ⟨.hbm, 126, rfl⟩
abbrev main_call7_v8 : Ref sig .tc := ⟨.hbm, 127, rfl⟩
abbrev main_call7_v9 : Ref sig .tc := ⟨.hbm, 128, rfl⟩
abbrev main_v24 : Ref sig .tc := ⟨.hbm, 129, rfl⟩
abbrev main_c_15 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier7 : Sem sig := 0

abbrev nD : Nat := 32
abbrev τ : Topo := Topo.v7x

variable {F : FTy → Type} [FloatOps F]

abbrev grid0 : Pipeline.Grid := .none

def k0_dev1 (d0 : Dev nD) : Nat :=
  let c0_i32_239 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c1_i32_42 : BitVec 32 := 1#32
  let v103 : BitVec 32 := Scalar.xori v102 c1_i32_42
  let c1_i32_68 : BitVec 32 := 1#32
  let v160 : BitVec 32 := Scalar.andi v103 c1_i32_68
  let c2_i32_69 : BitVec 32 := 2#32
  let v161 : BitVec 32 := Scalar.muli v160 c2_i32_69
  let c0_i32_71 : BitVec 32 := 0#32
  let v163 : BitVec 1 := Scalar.cmpi .sgt v103 c0_i32_71
  let v164 : BitVec 32 := Scalar.extui v163
  let c0_i32_72 : BitVec 32 := 0#32
  let v165 : BitVec 1 := Scalar.cmpi .slt v103 c0_i32_72
  let v166 : BitVec 32 := Scalar.extui v165
  let v167 : BitVec 32 := Scalar.subi v164 v166
  let c4_i32_70 : BitVec 32 := 4#32
  let c0_i32_73 : BitVec 32 := 0#32
  let v168 : BitVec 1 := Scalar.cmpi .sgt c4_i32_70 c0_i32_73
  let v169 : BitVec 32 := Scalar.extui v168
  let c0_i32_74 : BitVec 32 := 0#32
  let v170 : BitVec 1 := Scalar.cmpi .slt c4_i32_70 c0_i32_74
  let v171 : BitVec 32 := Scalar.extui v170
  let v172 : BitVec 32 := Scalar.subi v169 v171
  let v173 : BitVec 1 := Scalar.cmpi .ne v167 v172
  let v174 : BitVec 32 := Scalar.remsi v103 c4_i32_70
  let c0_i32_75 : BitVec 32 := 0#32
  let v175 : BitVec 1 := Scalar.cmpi .ne v174 c0_i32_75
  let v176 : BitVec 1 := Scalar.andi v173 v175
  let v162 : BitVec 32 := Scalar.divsi v103 c4_i32_70
  let c1_i32_76 : BitVec 32 := 1#32
  let v177 : BitVec 32 := Scalar.subi v162 c1_i32_76
  let v178 : BitVec 32 := Scalar.select v176 v177 v162
  let c1_i32_77 : BitVec 32 := 1#32
  let v179 : BitVec 32 := Scalar.andi v178 c1_i32_77
  let v180 : BitVec 32 := Scalar.addi v161 v179
  let v185 : BitVec 32 := Scalar.muli c8_i32_80 v180
  let c2_i32_78 : BitVec 32 := 2#32
  let c0_i32_52 : BitVec 32 := 0#32
  let v123 : BitVec 1 := Scalar.cmpi .sgt v103 c0_i32_52
  let v124 : BitVec 32 := Scalar.extui v123
  let c0_i32_53 : BitVec 32 := 0#32
  let v125 : BitVec 1 := Scalar.cmpi .slt v103 c0_i32_53
  let v126 : BitVec 32 := Scalar.extui v125
  let v127 : BitVec 32 := Scalar.subi v124 v126
  let c2_i32_51 : BitVec 32 := 2#32
  let c0_i32_54 : BitVec 32 := 0#32
  let v128 : BitVec 1 := Scalar.cmpi .sgt c2_i32_51 c0_i32_54
  let v129 : BitVec 32 := Scalar.extui v128
  let c0_i32_55 : BitVec 32 := 0#32
  let v130 : BitVec 1 := Scalar.cmpi .slt c2_i32_51 c0_i32_55
  let v131 : BitVec 32 := Scalar.extui v130
  let v132 : BitVec 32 := Scalar.subi v129 v131
  let v133 : BitVec 1 := Scalar.cmpi .ne v127 v132
  let v134 : BitVec 32 := Scalar.remsi v103 c2_i32_51
  let c0_i32_56 : BitVec 32 := 0#32
  let v135 : BitVec 1 := Scalar.cmpi .ne v134 c0_i32_56
  let v136 : BitVec 1 := Scalar.andi v133 v135
  let v122 : BitVec 32 := Scalar.divsi v103 c2_i32_51
  let c1_i32_57 : BitVec 32 := 1#32
  let v137 : BitVec 32 := Scalar.subi v122 c1_i32_57
  let v138 : BitVec 32 := Scalar.select v136 v137 v122
  let c1_i32_58 : BitVec 32 := 1#32
  let v139 : BitVec 32 := Scalar.andi v138 c1_i32_58
  let c2_i32_59 : BitVec 32 := 2#32
  let v140 : BitVec 32 := Scalar.muli v139 c2_i32_59
  let c0_i32_61 : BitVec 32 := 0#32
  let v142 : BitVec 1 := Scalar.cmpi .sgt v103 c0_i32_61
  let v143 : BitVec 32 := Scalar.extui v142
  let c0_i32_62 : BitVec 32 := 0#32
  let v144 : BitVec 1 := Scalar.cmpi .slt v103 c0_i32_62
  let v145 : BitVec 32 := Scalar.extui v144
  let v146 : BitVec 32 := Scalar.subi v143 v145
  let c8_i32_60 : BitVec 32 := 8#32
  let c0_i32_63 : BitVec 32 := 0#32
  let v147 : BitVec 1 := Scalar.cmpi .sgt c8_i32_60 c0_i32_63
  let v148 : BitVec 32 := Scalar.extui v147
  let c0_i32_64 : BitVec 32 := 0#32
  let v149 : BitVec 1 := Scalar.cmpi .slt c8_i32_60 c0_i32_64
  let v150 : BitVec 32 := Scalar.extui v149
  let v151 : BitVec 32 := Scalar.subi v148 v150
  let v152 : BitVec 1 := Scalar.cmpi .ne v146 v151
  let v153 : BitVec 32 := Scalar.remsi v103 c8_i32_60
  let c0_i32_65 : BitVec 32 := 0#32
  let v154 : BitVec 1 := Scalar.cmpi .ne v153 c0_i32_65
  let v155 : BitVec 1 := Scalar.andi v152 v154
  let v141 : BitVec 32 := Scalar.divsi v103 c8_i32_60
  let c1_i32_66 : BitVec 32 := 1#32
  let v156 : BitVec 32 := Scalar.subi v141 c1_i32_66
  let v157 : BitVec 32 := Scalar.select v155 v156 v141
  let c1_i32_67 : BitVec 32 := 1#32
  let v158 : BitVec 32 := Scalar.andi v157 c1_i32_67
  let v159 : BitVec 32 := Scalar.addi v140 v158
  let v181 : BitVec 32 := Scalar.muli c2_i32_78 v159
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c16_i32_43 : BitVec 32 := 16#32
  let c0_i32_46 : BitVec 32 := 0#32
  let v110 : BitVec 1 := Scalar.cmpi .sgt c16_i32_43 c0_i32_46
  let v111 : BitVec 32 := Scalar.extui v110
  let c0_i32_47 : BitVec 32 := 0#32
  let v112 : BitVec 1 := Scalar.cmpi .slt c16_i32_43 c0_i32_47
  let v113 : BitVec 32 := Scalar.extui v112
  let v114 : BitVec 32 := Scalar.subi v111 v113
  let v115 : BitVec 1 := Scalar.cmpi .ne v109 v114
  let v116 : BitVec 32 := Scalar.remsi v103 c16_i32_43
  let c0_i32_48 : BitVec 32 := 0#32
  let v117 : BitVec 1 := Scalar.cmpi .ne v116 c0_i32_48
  let v118 : BitVec 1 := Scalar.andi v115 v117
  let v104 : BitVec 32 := Scalar.divsi v103 c16_i32_43
  let c1_i32_49 : BitVec 32 := 1#32
  let v119 : BitVec 32 := Scalar.subi v104 c1_i32_49
  let v120 : BitVec 32 := Scalar.select v118 v119 v104
  let c1_i32_50 : BitVec 32 := 1#32
  let v121 : BitVec 32 := Scalar.andi v120 c1_i32_50
  let c1_i32_79 : BitVec 32 := 1#32
  let v182 : BitVec 32 := Scalar.andi v159 c1_i32_79
  let v183 : BitVec 32 := Scalar.xori v121 v182
  let v184 : BitVec 32 := Scalar.addi v181 v183
  let v186 : BitVec 32 := Scalar.addi v185 v184
  let c1_i32_238 : BitVec 32 := 1#32
  let v524 : BitVec 32 := Scalar.muli v186 c1_i32_238
  let v525 : BitVec 32 := Scalar.addi c0_i32_239 v524
  v525.toNat
def k0_dev2 (d0 : Dev nD) : Nat :=
  let c0_i32_242 : BitVec 32 := 0#32
  let c8_i32_119 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c2_i32_81 : BitVec 32 := 2#32
  let v187 : BitVec 32 := Scalar.xori v102 c2_i32_81
  let c1_i32_107 : BitVec 32 := 1#32
  let v244 : BitVec 32 := Scalar.andi v187 c1_i32_107
  let c2_i32_108 : BitVec 32 := 2#32
  let v245 : BitVec 32 := Scalar.muli v244 c2_i32_108
  let c0_i32_110 : BitVec 32 := 0#32
  let v247 : BitVec 1 := Scalar.cmpi .sgt v187 c0_i32_110
  let v248 : BitVec 32 := Scalar.extui v247
  let c0_i32_111 : BitVec 32 := 0#32
  let v249 : BitVec 1 := Scalar.cmpi .slt v187 c0_i32_111
  let v250 : BitVec 32 := Scalar.extui v249
  let v251 : BitVec 32 := Scalar.subi v248 v250
  let c4_i32_109 : BitVec 32 := 4#32
  let c0_i32_112 : BitVec 32 := 0#32
  let v252 : BitVec 1 := Scalar.cmpi .sgt c4_i32_109 c0_i32_112
  let v253 : BitVec 32 := Scalar.extui v252
  let c0_i32_113 : BitVec 32 := 0#32
  let v254 : BitVec 1 := Scalar.cmpi .slt c4_i32_109 c0_i32_113
  let v255 : BitVec 32 := Scalar.extui v254
  let v256 : BitVec 32 := Scalar.subi v253 v255
  let v257 : BitVec 1 := Scalar.cmpi .ne v251 v256
  let v258 : BitVec 32 := Scalar.remsi v187 c4_i32_109
  let c0_i32_114 : BitVec 32 := 0#32
  let v259 : BitVec 1 := Scalar.cmpi .ne v258 c0_i32_114
  let v260 : BitVec 1 := Scalar.andi v257 v259
  let v246 : BitVec 32 := Scalar.divsi v187 c4_i32_109
  let c1_i32_115 : BitVec 32 := 1#32
  let v261 : BitVec 32 := Scalar.subi v246 c1_i32_115
  let v262 : BitVec 32 := Scalar.select v260 v261 v246
  let c1_i32_116 : BitVec 32 := 1#32
  let v263 : BitVec 32 := Scalar.andi v262 c1_i32_116
  let v264 : BitVec 32 := Scalar.addi v245 v263
  let v269 : BitVec 32 := Scalar.muli c8_i32_119 v264
  let c2_i32_117 : BitVec 32 := 2#32
  let c0_i32_91 : BitVec 32 := 0#32
  let v207 : BitVec 1 := Scalar.cmpi .sgt v187 c0_i32_91
  let v208 : BitVec 32 := Scalar.extui v207
  let c0_i32_92 : BitVec 32 := 0#32
  let v209 : BitVec 1 := Scalar.cmpi .slt v187 c0_i32_92
  let v210 : BitVec 32 := Scalar.extui v209
  let v211 : BitVec 32 := Scalar.subi v208 v210
  let c2_i32_90 : BitVec 32 := 2#32
  let c0_i32_93 : BitVec 32 := 0#32
  let v212 : BitVec 1 := Scalar.cmpi .sgt c2_i32_90 c0_i32_93
  let v213 : BitVec 32 := Scalar.extui v212
  let c0_i32_94 : BitVec 32 := 0#32
  let v214 : BitVec 1 := Scalar.cmpi .slt c2_i32_90 c0_i32_94
  let v215 : BitVec 32 := Scalar.extui v214
  let v216 : BitVec 32 := Scalar.subi v213 v215
  let v217 : BitVec 1 := Scalar.cmpi .ne v211 v216
  let v218 : BitVec 32 := Scalar.remsi v187 c2_i32_90
  let c0_i32_95 : BitVec 32 := 0#32
  let v219 : BitVec 1 := Scalar.cmpi .ne v218 c0_i32_95
  let v220 : BitVec 1 := Scalar.andi v217 v219
  let v206 : BitVec 32 := Scalar.divsi v187 c2_i32_90
  let c1_i32_96 : BitVec 32 := 1#32
  let v221 : BitVec 32 := Scalar.subi v206 c1_i32_96
  let v222 : BitVec 32 := Scalar.select v220 v221 v206
  let c1_i32_97 : BitVec 32 := 1#32
  let v223 : BitVec 32 := Scalar.andi v222 c1_i32_97
  let c2_i32_98 : BitVec 32 := 2#32
  let v224 : BitVec 32 := Scalar.muli v223 c2_i32_98
  let c0_i32_100 : BitVec 32 := 0#32
  let v226 : BitVec 1 := Scalar.cmpi .sgt v187 c0_i32_100
  let v227 : BitVec 32 := Scalar.extui v226
  let c0_i32_101 : BitVec 32 := 0#32
  let v228 : BitVec 1 := Scalar.cmpi .slt v187 c0_i32_101
  let v229 : BitVec 32 := Scalar.extui v228
  let v230 : BitVec 32 := Scalar.subi v227 v229
  let c8_i32_99 : BitVec 32 := 8#32
  let c0_i32_102 : BitVec 32 := 0#32
  let v231 : BitVec 1 := Scalar.cmpi .sgt c8_i32_99 c0_i32_102
  let v232 : BitVec 32 := Scalar.extui v231
  let c0_i32_103 : BitVec 32 := 0#32
  let v233 : BitVec 1 := Scalar.cmpi .slt c8_i32_99 c0_i32_103
  let v234 : BitVec 32 := Scalar.extui v233
  let v235 : BitVec 32 := Scalar.subi v232 v234
  let v236 : BitVec 1 := Scalar.cmpi .ne v230 v235
  let v237 : BitVec 32 := Scalar.remsi v187 c8_i32_99
  let c0_i32_104 : BitVec 32 := 0#32
  let v238 : BitVec 1 := Scalar.cmpi .ne v237 c0_i32_104
  let v239 : BitVec 1 := Scalar.andi v236 v238
  let v225 : BitVec 32 := Scalar.divsi v187 c8_i32_99
  let c1_i32_105 : BitVec 32 := 1#32
  let v240 : BitVec 32 := Scalar.subi v225 c1_i32_105
  let v241 : BitVec 32 := Scalar.select v239 v240 v225
  let c1_i32_106 : BitVec 32 := 1#32
  let v242 : BitVec 32 := Scalar.andi v241 c1_i32_106
  let v243 : BitVec 32 := Scalar.addi v224 v242
  let v265 : BitVec 32 := Scalar.muli c2_i32_117 v243
  let c0_i32_83 : BitVec 32 := 0#32
  let v189 : BitVec 1 := Scalar.cmpi .sgt v187 c0_i32_83
  let v190 : BitVec 32 := Scalar.extui v189
  let c0_i32_84 : BitVec 32 := 0#32
  let v191 : BitVec 1 := Scalar.cmpi .slt v187 c0_i32_84
  let v192 : BitVec 32 := Scalar.extui v191
  let v193 : BitVec 32 := Scalar.subi v190 v192
  let c16_i32_82 : BitVec 32 := 16#32
  let c0_i32_85 : BitVec 32 := 0#32
  let v194 : BitVec 1 := Scalar.cmpi .sgt c16_i32_82 c0_i32_85
  let v195 : BitVec 32 := Scalar.extui v194
  let c0_i32_86 : BitVec 32 := 0#32
  let v196 : BitVec 1 := Scalar.cmpi .slt c16_i32_82 c0_i32_86
  let v197 : BitVec 32 := Scalar.extui v196
  let v198 : BitVec 32 := Scalar.subi v195 v197
  let v199 : BitVec 1 := Scalar.cmpi .ne v193 v198
  let v200 : BitVec 32 := Scalar.remsi v187 c16_i32_82
  let c0_i32_87 : BitVec 32 := 0#32
  let v201 : BitVec 1 := Scalar.cmpi .ne v200 c0_i32_87
  let v202 : BitVec 1 := Scalar.andi v199 v201
  let v188 : BitVec 32 := Scalar.divsi v187 c16_i32_82
  let c1_i32_88 : BitVec 32 := 1#32
  let v203 : BitVec 32 := Scalar.subi v188 c1_i32_88
  let v204 : BitVec 32 := Scalar.select v202 v203 v188
  let c1_i32_89 : BitVec 32 := 1#32
  let v205 : BitVec 32 := Scalar.andi v204 c1_i32_89
  let c1_i32_118 : BitVec 32 := 1#32
  let v266 : BitVec 32 := Scalar.andi v243 c1_i32_118
  let v267 : BitVec 32 := Scalar.xori v205 v266
  let v268 : BitVec 32 := Scalar.addi v265 v267
  let v270 : BitVec 32 := Scalar.addi v269 v268
  let c1_i32_241 : BitVec 32 := 1#32
  let v526 : BitVec 32 := Scalar.muli v270 c1_i32_241
  let v527 : BitVec 32 := Scalar.addi c0_i32_242 v526
  v527.toNat
def k0_dev3 (d0 : Dev nD) : Nat :=
  let c0_i32_245 : BitVec 32 := 0#32
  let c8_i32_158 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c4_i32_120 : BitVec 32 := 4#32
  let v271 : BitVec 32 := Scalar.xori v102 c4_i32_120
  let c1_i32_146 : BitVec 32 := 1#32
  let v328 : BitVec 32 := Scalar.andi v271 c1_i32_146
  let c2_i32_147 : BitVec 32 := 2#32
  let v329 : BitVec 32 := Scalar.muli v328 c2_i32_147
  let c0_i32_149 : BitVec 32 := 0#32
  let v331 : BitVec 1 := Scalar.cmpi .sgt v271 c0_i32_149
  let v332 : BitVec 32 := Scalar.extui v331
  let c0_i32_150 : BitVec 32 := 0#32
  let v333 : BitVec 1 := Scalar.cmpi .slt v271 c0_i32_150
  let v334 : BitVec 32 := Scalar.extui v333
  let v335 : BitVec 32 := Scalar.subi v332 v334
  let c4_i32_148 : BitVec 32 := 4#32
  let c0_i32_151 : BitVec 32 := 0#32
  let v336 : BitVec 1 := Scalar.cmpi .sgt c4_i32_148 c0_i32_151
  let v337 : BitVec 32 := Scalar.extui v336
  let c0_i32_152 : BitVec 32 := 0#32
  let v338 : BitVec 1 := Scalar.cmpi .slt c4_i32_148 c0_i32_152
  let v339 : BitVec 32 := Scalar.extui v338
  let v340 : BitVec 32 := Scalar.subi v337 v339
  let v341 : BitVec 1 := Scalar.cmpi .ne v335 v340
  let v342 : BitVec 32 := Scalar.remsi v271 c4_i32_148
  let c0_i32_153 : BitVec 32 := 0#32
  let v343 : BitVec 1 := Scalar.cmpi .ne v342 c0_i32_153
  let v344 : BitVec 1 := Scalar.andi v341 v343
  let v330 : BitVec 32 := Scalar.divsi v271 c4_i32_148
  let c1_i32_154 : BitVec 32 := 1#32
  let v345 : BitVec 32 := Scalar.subi v330 c1_i32_154
  let v346 : BitVec 32 := Scalar.select v344 v345 v330
  let c1_i32_155 : BitVec 32 := 1#32
  let v347 : BitVec 32 := Scalar.andi v346 c1_i32_155
  let v348 : BitVec 32 := Scalar.addi v329 v347
  let v353 : BitVec 32 := Scalar.muli c8_i32_158 v348
  let c2_i32_156 : BitVec 32 := 2#32
  let c0_i32_130 : BitVec 32 := 0#32
  let v291 : BitVec 1 := Scalar.cmpi .sgt v271 c0_i32_130
  let v292 : BitVec 32 := Scalar.extui v291
  let c0_i32_131 : BitVec 32 := 0#32
  let v293 : BitVec 1 := Scalar.cmpi .slt v271 c0_i32_131
  let v294 : BitVec 32 := Scalar.extui v293
  let v295 : BitVec 32 := Scalar.subi v292 v294
  let c2_i32_129 : BitVec 32 := 2#32
  let c0_i32_132 : BitVec 32 := 0#32
  let v296 : BitVec 1 := Scalar.cmpi .sgt c2_i32_129 c0_i32_132
  let v297 : BitVec 32 := Scalar.extui v296
  let c0_i32_133 : BitVec 32 := 0#32
  let v298 : BitVec 1 := Scalar.cmpi .slt c2_i32_129 c0_i32_133
  let v299 : BitVec 32 := Scalar.extui v298
  let v300 : BitVec 32 := Scalar.subi v297 v299
  let v301 : BitVec 1 := Scalar.cmpi .ne v295 v300
  let v302 : BitVec 32 := Scalar.remsi v271 c2_i32_129
  let c0_i32_134 : BitVec 32 := 0#32
  let v303 : BitVec 1 := Scalar.cmpi .ne v302 c0_i32_134
  let v304 : BitVec 1 := Scalar.andi v301 v303
  let v290 : BitVec 32 := Scalar.divsi v271 c2_i32_129
  let c1_i32_135 : BitVec 32 := 1#32
  let v305 : BitVec 32 := Scalar.subi v290 c1_i32_135
  let v306 : BitVec 32 := Scalar.select v304 v305 v290
  let c1_i32_136 : BitVec 32 := 1#32
  let v307 : BitVec 32 := Scalar.andi v306 c1_i32_136
  let c2_i32_137 : BitVec 32 := 2#32
  let v308 : BitVec 32 := Scalar.muli v307 c2_i32_137
  let c0_i32_139 : BitVec 32 := 0#32
  let v310 : BitVec 1 := Scalar.cmpi .sgt v271 c0_i32_139
  let v311 : BitVec 32 := Scalar.extui v310
  let c0_i32_140 : BitVec 32 := 0#32
  let v312 : BitVec 1 := Scalar.cmpi .slt v271 c0_i32_140
  let v313 : BitVec 32 := Scalar.extui v312
  let v314 : BitVec 32 := Scalar.subi v311 v313
  let c8_i32_138 : BitVec 32 := 8#32
  let c0_i32_141 : BitVec 32 := 0#32
  let v315 : BitVec 1 := Scalar.cmpi .sgt c8_i32_138 c0_i32_141
  let v316 : BitVec 32 := Scalar.extui v315
  let c0_i32_142 : BitVec 32 := 0#32
  let v317 : BitVec 1 := Scalar.cmpi .slt c8_i32_138 c0_i32_142
  let v318 : BitVec 32 := Scalar.extui v317
  let v319 : BitVec 32 := Scalar.subi v316 v318
  let v320 : BitVec 1 := Scalar.cmpi .ne v314 v319
  let v321 : BitVec 32 := Scalar.remsi v271 c8_i32_138
  let c0_i32_143 : BitVec 32 := 0#32
  let v322 : BitVec 1 := Scalar.cmpi .ne v321 c0_i32_143
  let v323 : BitVec 1 := Scalar.andi v320 v322
  let v309 : BitVec 32 := Scalar.divsi v271 c8_i32_138
  let c1_i32_144 : BitVec 32 := 1#32
  let v324 : BitVec 32 := Scalar.subi v309 c1_i32_144
  let v325 : BitVec 32 := Scalar.select v323 v324 v309
  let c1_i32_145 : BitVec 32 := 1#32
  let v326 : BitVec 32 := Scalar.andi v325 c1_i32_145
  let v327 : BitVec 32 := Scalar.addi v308 v326
  let v349 : BitVec 32 := Scalar.muli c2_i32_156 v327
  let c0_i32_122 : BitVec 32 := 0#32
  let v273 : BitVec 1 := Scalar.cmpi .sgt v271 c0_i32_122
  let v274 : BitVec 32 := Scalar.extui v273
  let c0_i32_123 : BitVec 32 := 0#32
  let v275 : BitVec 1 := Scalar.cmpi .slt v271 c0_i32_123
  let v276 : BitVec 32 := Scalar.extui v275
  let v277 : BitVec 32 := Scalar.subi v274 v276
  let c16_i32_121 : BitVec 32 := 16#32
  let c0_i32_124 : BitVec 32 := 0#32
  let v278 : BitVec 1 := Scalar.cmpi .sgt c16_i32_121 c0_i32_124
  let v279 : BitVec 32 := Scalar.extui v278
  let c0_i32_125 : BitVec 32 := 0#32
  let v280 : BitVec 1 := Scalar.cmpi .slt c16_i32_121 c0_i32_125
  let v281 : BitVec 32 := Scalar.extui v280
  let v282 : BitVec 32 := Scalar.subi v279 v281
  let v283 : BitVec 1 := Scalar.cmpi .ne v277 v282
  let v284 : BitVec 32 := Scalar.remsi v271 c16_i32_121
  let c0_i32_126 : BitVec 32 := 0#32
  let v285 : BitVec 1 := Scalar.cmpi .ne v284 c0_i32_126
  let v286 : BitVec 1 := Scalar.andi v283 v285
  let v272 : BitVec 32 := Scalar.divsi v271 c16_i32_121
  let c1_i32_127 : BitVec 32 := 1#32
  let v287 : BitVec 32 := Scalar.subi v272 c1_i32_127
  let v288 : BitVec 32 := Scalar.select v286 v287 v272
  let c1_i32_128 : BitVec 32 := 1#32
  let v289 : BitVec 32 := Scalar.andi v288 c1_i32_128
  let c1_i32_157 : BitVec 32 := 1#32
  let v350 : BitVec 32 := Scalar.andi v327 c1_i32_157
  let v351 : BitVec 32 := Scalar.xori v289 v350
  let v352 : BitVec 32 := Scalar.addi v349 v351
  let v354 : BitVec 32 := Scalar.addi v353 v352
  let c1_i32_244 : BitVec 32 := 1#32
  let v528 : BitVec 32 := Scalar.muli v354 c1_i32_244
  let v529 : BitVec 32 := Scalar.addi c0_i32_245 v528
  v529.toNat
def k0_dev4 (d0 : Dev nD) : Nat :=
  let c0_i32_248 : BitVec 32 := 0#32
  let c8_i32_197 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c8_i32_159 : BitVec 32 := 8#32
  let v355 : BitVec 32 := Scalar.xori v102 c8_i32_159
  let c1_i32_185 : BitVec 32 := 1#32
  let v412 : BitVec 32 := Scalar.andi v355 c1_i32_185
  let c2_i32_186 : BitVec 32 := 2#32
  let v413 : BitVec 32 := Scalar.muli v412 c2_i32_186
  let c0_i32_188 : BitVec 32 := 0#32
  let v415 : BitVec 1 := Scalar.cmpi .sgt v355 c0_i32_188
  let v416 : BitVec 32 := Scalar.extui v415
  let c0_i32_189 : BitVec 32 := 0#32
  let v417 : BitVec 1 := Scalar.cmpi .slt v355 c0_i32_189
  let v418 : BitVec 32 := Scalar.extui v417
  let v419 : BitVec 32 := Scalar.subi v416 v418
  let c4_i32_187 : BitVec 32 := 4#32
  let c0_i32_190 : BitVec 32 := 0#32
  let v420 : BitVec 1 := Scalar.cmpi .sgt c4_i32_187 c0_i32_190
  let v421 : BitVec 32 := Scalar.extui v420
  let c0_i32_191 : BitVec 32 := 0#32
  let v422 : BitVec 1 := Scalar.cmpi .slt c4_i32_187 c0_i32_191
  let v423 : BitVec 32 := Scalar.extui v422
  let v424 : BitVec 32 := Scalar.subi v421 v423
  let v425 : BitVec 1 := Scalar.cmpi .ne v419 v424
  let v426 : BitVec 32 := Scalar.remsi v355 c4_i32_187
  let c0_i32_192 : BitVec 32 := 0#32
  let v427 : BitVec 1 := Scalar.cmpi .ne v426 c0_i32_192
  let v428 : BitVec 1 := Scalar.andi v425 v427
  let v414 : BitVec 32 := Scalar.divsi v355 c4_i32_187
  let c1_i32_193 : BitVec 32 := 1#32
  let v429 : BitVec 32 := Scalar.subi v414 c1_i32_193
  let v430 : BitVec 32 := Scalar.select v428 v429 v414
  let c1_i32_194 : BitVec 32 := 1#32
  let v431 : BitVec 32 := Scalar.andi v430 c1_i32_194
  let v432 : BitVec 32 := Scalar.addi v413 v431
  let v437 : BitVec 32 := Scalar.muli c8_i32_197 v432
  let c2_i32_195 : BitVec 32 := 2#32
  let c0_i32_169 : BitVec 32 := 0#32
  let v375 : BitVec 1 := Scalar.cmpi .sgt v355 c0_i32_169
  let v376 : BitVec 32 := Scalar.extui v375
  let c0_i32_170 : BitVec 32 := 0#32
  let v377 : BitVec 1 := Scalar.cmpi .slt v355 c0_i32_170
  let v378 : BitVec 32 := Scalar.extui v377
  let v379 : BitVec 32 := Scalar.subi v376 v378
  let c2_i32_168 : BitVec 32 := 2#32
  let c0_i32_171 : BitVec 32 := 0#32
  let v380 : BitVec 1 := Scalar.cmpi .sgt c2_i32_168 c0_i32_171
  let v381 : BitVec 32 := Scalar.extui v380
  let c0_i32_172 : BitVec 32 := 0#32
  let v382 : BitVec 1 := Scalar.cmpi .slt c2_i32_168 c0_i32_172
  let v383 : BitVec 32 := Scalar.extui v382
  let v384 : BitVec 32 := Scalar.subi v381 v383
  let v385 : BitVec 1 := Scalar.cmpi .ne v379 v384
  let v386 : BitVec 32 := Scalar.remsi v355 c2_i32_168
  let c0_i32_173 : BitVec 32 := 0#32
  let v387 : BitVec 1 := Scalar.cmpi .ne v386 c0_i32_173
  let v388 : BitVec 1 := Scalar.andi v385 v387
  let v374 : BitVec 32 := Scalar.divsi v355 c2_i32_168
  let c1_i32_174 : BitVec 32 := 1#32
  let v389 : BitVec 32 := Scalar.subi v374 c1_i32_174
  let v390 : BitVec 32 := Scalar.select v388 v389 v374
  let c1_i32_175 : BitVec 32 := 1#32
  let v391 : BitVec 32 := Scalar.andi v390 c1_i32_175
  let c2_i32_176 : BitVec 32 := 2#32
  let v392 : BitVec 32 := Scalar.muli v391 c2_i32_176
  let c0_i32_178 : BitVec 32 := 0#32
  let v394 : BitVec 1 := Scalar.cmpi .sgt v355 c0_i32_178
  let v395 : BitVec 32 := Scalar.extui v394
  let c0_i32_179 : BitVec 32 := 0#32
  let v396 : BitVec 1 := Scalar.cmpi .slt v355 c0_i32_179
  let v397 : BitVec 32 := Scalar.extui v396
  let v398 : BitVec 32 := Scalar.subi v395 v397
  let c8_i32_177 : BitVec 32 := 8#32
  let c0_i32_180 : BitVec 32 := 0#32
  let v399 : BitVec 1 := Scalar.cmpi .sgt c8_i32_177 c0_i32_180
  let v400 : BitVec 32 := Scalar.extui v399
  let c0_i32_181 : BitVec 32 := 0#32
  let v401 : BitVec 1 := Scalar.cmpi .slt c8_i32_177 c0_i32_181
  let v402 : BitVec 32 := Scalar.extui v401
  let v403 : BitVec 32 := Scalar.subi v400 v402
  let v404 : BitVec 1 := Scalar.cmpi .ne v398 v403
  let v405 : BitVec 32 := Scalar.remsi v355 c8_i32_177
  let c0_i32_182 : BitVec 32 := 0#32
  let v406 : BitVec 1 := Scalar.cmpi .ne v405 c0_i32_182
  let v407 : BitVec 1 := Scalar.andi v404 v406
  let v393 : BitVec 32 := Scalar.divsi v355 c8_i32_177
  let c1_i32_183 : BitVec 32 := 1#32
  let v408 : BitVec 32 := Scalar.subi v393 c1_i32_183
  let v409 : BitVec 32 := Scalar.select v407 v408 v393
  let c1_i32_184 : BitVec 32 := 1#32
  let v410 : BitVec 32 := Scalar.andi v409 c1_i32_184
  let v411 : BitVec 32 := Scalar.addi v392 v410
  let v433 : BitVec 32 := Scalar.muli c2_i32_195 v411
  let c0_i32_161 : BitVec 32 := 0#32
  let v357 : BitVec 1 := Scalar.cmpi .sgt v355 c0_i32_161
  let v358 : BitVec 32 := Scalar.extui v357
  let c0_i32_162 : BitVec 32 := 0#32
  let v359 : BitVec 1 := Scalar.cmpi .slt v355 c0_i32_162
  let v360 : BitVec 32 := Scalar.extui v359
  let v361 : BitVec 32 := Scalar.subi v358 v360
  let c16_i32_160 : BitVec 32 := 16#32
  let c0_i32_163 : BitVec 32 := 0#32
  let v362 : BitVec 1 := Scalar.cmpi .sgt c16_i32_160 c0_i32_163
  let v363 : BitVec 32 := Scalar.extui v362
  let c0_i32_164 : BitVec 32 := 0#32
  let v364 : BitVec 1 := Scalar.cmpi .slt c16_i32_160 c0_i32_164
  let v365 : BitVec 32 := Scalar.extui v364
  let v366 : BitVec 32 := Scalar.subi v363 v365
  let v367 : BitVec 1 := Scalar.cmpi .ne v361 v366
  let v368 : BitVec 32 := Scalar.remsi v355 c16_i32_160
  let c0_i32_165 : BitVec 32 := 0#32
  let v369 : BitVec 1 := Scalar.cmpi .ne v368 c0_i32_165
  let v370 : BitVec 1 := Scalar.andi v367 v369
  let v356 : BitVec 32 := Scalar.divsi v355 c16_i32_160
  let c1_i32_166 : BitVec 32 := 1#32
  let v371 : BitVec 32 := Scalar.subi v356 c1_i32_166
  let v372 : BitVec 32 := Scalar.select v370 v371 v356
  let c1_i32_167 : BitVec 32 := 1#32
  let v373 : BitVec 32 := Scalar.andi v372 c1_i32_167
  let c1_i32_196 : BitVec 32 := 1#32
  let v434 : BitVec 32 := Scalar.andi v411 c1_i32_196
  let v435 : BitVec 32 := Scalar.xori v373 v434
  let v436 : BitVec 32 := Scalar.addi v433 v435
  let v438 : BitVec 32 := Scalar.addi v437 v436
  let c1_i32_247 : BitVec 32 := 1#32
  let v530 : BitVec 32 := Scalar.muli v438 c1_i32_247
  let v531 : BitVec 32 := Scalar.addi c0_i32_248 v530
  v531.toNat
def k0_dev5 (d0 : Dev nD) : Nat :=
  let c0_i32_251 : BitVec 32 := 0#32
  let c8_i32_236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c16_i32_198 : BitVec 32 := 16#32
  let v439 : BitVec 32 := Scalar.xori v102 c16_i32_198
  let c1_i32_224 : BitVec 32 := 1#32
  let v496 : BitVec 32 := Scalar.andi v439 c1_i32_224
  let c2_i32_225 : BitVec 32 := 2#32
  let v497 : BitVec 32 := Scalar.muli v496 c2_i32_225
  let c0_i32_227 : BitVec 32 := 0#32
  let v499 : BitVec 1 := Scalar.cmpi .sgt v439 c0_i32_227
  let v500 : BitVec 32 := Scalar.extui v499
  let c0_i32_228 : BitVec 32 := 0#32
  let v501 : BitVec 1 := Scalar.cmpi .slt v439 c0_i32_228
  let v502 : BitVec 32 := Scalar.extui v501
  let v503 : BitVec 32 := Scalar.subi v500 v502
  let c4_i32_226 : BitVec 32 := 4#32
  let c0_i32_229 : BitVec 32 := 0#32
  let v504 : BitVec 1 := Scalar.cmpi .sgt c4_i32_226 c0_i32_229
  let v505 : BitVec 32 := Scalar.extui v504
  let c0_i32_230 : BitVec 32 := 0#32
  let v506 : BitVec 1 := Scalar.cmpi .slt c4_i32_226 c0_i32_230
  let v507 : BitVec 32 := Scalar.extui v506
  let v508 : BitVec 32 := Scalar.subi v505 v507
  let v509 : BitVec 1 := Scalar.cmpi .ne v503 v508
  let v510 : BitVec 32 := Scalar.remsi v439 c4_i32_226
  let c0_i32_231 : BitVec 32 := 0#32
  let v511 : BitVec 1 := Scalar.cmpi .ne v510 c0_i32_231
  let v512 : BitVec 1 := Scalar.andi v509 v511
  let v498 : BitVec 32 := Scalar.divsi v439 c4_i32_226
  let c1_i32_232 : BitVec 32 := 1#32
  let v513 : BitVec 32 := Scalar.subi v498 c1_i32_232
  let v514 : BitVec 32 := Scalar.select v512 v513 v498
  let c1_i32_233 : BitVec 32 := 1#32
  let v515 : BitVec 32 := Scalar.andi v514 c1_i32_233
  let v516 : BitVec 32 := Scalar.addi v497 v515
  let v521 : BitVec 32 := Scalar.muli c8_i32_236 v516
  let c2_i32_234 : BitVec 32 := 2#32
  let c0_i32_208 : BitVec 32 := 0#32
  let v459 : BitVec 1 := Scalar.cmpi .sgt v439 c0_i32_208
  let v460 : BitVec 32 := Scalar.extui v459
  let c0_i32_209 : BitVec 32 := 0#32
  let v461 : BitVec 1 := Scalar.cmpi .slt v439 c0_i32_209
  let v462 : BitVec 32 := Scalar.extui v461
  let v463 : BitVec 32 := Scalar.subi v460 v462
  let c2_i32_207 : BitVec 32 := 2#32
  let c0_i32_210 : BitVec 32 := 0#32
  let v464 : BitVec 1 := Scalar.cmpi .sgt c2_i32_207 c0_i32_210
  let v465 : BitVec 32 := Scalar.extui v464
  let c0_i32_211 : BitVec 32 := 0#32
  let v466 : BitVec 1 := Scalar.cmpi .slt c2_i32_207 c0_i32_211
  let v467 : BitVec 32 := Scalar.extui v466
  let v468 : BitVec 32 := Scalar.subi v465 v467
  let v469 : BitVec 1 := Scalar.cmpi .ne v463 v468
  let v470 : BitVec 32 := Scalar.remsi v439 c2_i32_207
  let c0_i32_212 : BitVec 32 := 0#32
  let v471 : BitVec 1 := Scalar.cmpi .ne v470 c0_i32_212
  let v472 : BitVec 1 := Scalar.andi v469 v471
  let v458 : BitVec 32 := Scalar.divsi v439 c2_i32_207
  let c1_i32_213 : BitVec 32 := 1#32
  let v473 : BitVec 32 := Scalar.subi v458 c1_i32_213
  let v474 : BitVec 32 := Scalar.select v472 v473 v458
  let c1_i32_214 : BitVec 32 := 1#32
  let v475 : BitVec 32 := Scalar.andi v474 c1_i32_214
  let c2_i32_215 : BitVec 32 := 2#32
  let v476 : BitVec 32 := Scalar.muli v475 c2_i32_215
  let c0_i32_217 : BitVec 32 := 0#32
  let v478 : BitVec 1 := Scalar.cmpi .sgt v439 c0_i32_217
  let v479 : BitVec 32 := Scalar.extui v478
  let c0_i32_218 : BitVec 32 := 0#32
  let v480 : BitVec 1 := Scalar.cmpi .slt v439 c0_i32_218
  let v481 : BitVec 32 := Scalar.extui v480
  let v482 : BitVec 32 := Scalar.subi v479 v481
  let c8_i32_216 : BitVec 32 := 8#32
  let c0_i32_219 : BitVec 32 := 0#32
  let v483 : BitVec 1 := Scalar.cmpi .sgt c8_i32_216 c0_i32_219
  let v484 : BitVec 32 := Scalar.extui v483
  let c0_i32_220 : BitVec 32 := 0#32
  let v485 : BitVec 1 := Scalar.cmpi .slt c8_i32_216 c0_i32_220
  let v486 : BitVec 32 := Scalar.extui v485
  let v487 : BitVec 32 := Scalar.subi v484 v486
  let v488 : BitVec 1 := Scalar.cmpi .ne v482 v487
  let v489 : BitVec 32 := Scalar.remsi v439 c8_i32_216
  let c0_i32_221 : BitVec 32 := 0#32
  let v490 : BitVec 1 := Scalar.cmpi .ne v489 c0_i32_221
  let v491 : BitVec 1 := Scalar.andi v488 v490
  let v477 : BitVec 32 := Scalar.divsi v439 c8_i32_216
  let c1_i32_222 : BitVec 32 := 1#32
  let v492 : BitVec 32 := Scalar.subi v477 c1_i32_222
  let v493 : BitVec 32 := Scalar.select v491 v492 v477
  let c1_i32_223 : BitVec 32 := 1#32
  let v494 : BitVec 32 := Scalar.andi v493 c1_i32_223
  let v495 : BitVec 32 := Scalar.addi v476 v494
  let v517 : BitVec 32 := Scalar.muli c2_i32_234 v495
  let c0_i32_200 : BitVec 32 := 0#32
  let v441 : BitVec 1 := Scalar.cmpi .sgt v439 c0_i32_200
  let v442 : BitVec 32 := Scalar.extui v441
  let c0_i32_201 : BitVec 32 := 0#32
  let v443 : BitVec 1 := Scalar.cmpi .slt v439 c0_i32_201
  let v444 : BitVec 32 := Scalar.extui v443
  let v445 : BitVec 32 := Scalar.subi v442 v444
  let c16_i32_199 : BitVec 32 := 16#32
  let c0_i32_202 : BitVec 32 := 0#32
  let v446 : BitVec 1 := Scalar.cmpi .sgt c16_i32_199 c0_i32_202
  let v447 : BitVec 32 := Scalar.extui v446
  let c0_i32_203 : BitVec 32 := 0#32
  let v448 : BitVec 1 := Scalar.cmpi .slt c16_i32_199 c0_i32_203
  let v449 : BitVec 32 := Scalar.extui v448
  let v450 : BitVec 32 := Scalar.subi v447 v449
  let v451 : BitVec 1 := Scalar.cmpi .ne v445 v450
  let v452 : BitVec 32 := Scalar.remsi v439 c16_i32_199
  let c0_i32_204 : BitVec 32 := 0#32
  let v453 : BitVec 1 := Scalar.cmpi .ne v452 c0_i32_204
  let v454 : BitVec 1 := Scalar.andi v451 v453
  let v440 : BitVec 32 := Scalar.divsi v439 c16_i32_199
  let c1_i32_205 : BitVec 32 := 1#32
  let v455 : BitVec 32 := Scalar.subi v440 c1_i32_205
  let v456 : BitVec 32 := Scalar.select v454 v455 v440
  let c1_i32_206 : BitVec 32 := 1#32
  let v457 : BitVec 32 := Scalar.andi v456 c1_i32_206
  let c1_i32_235 : BitVec 32 := 1#32
  let v518 : BitVec 32 := Scalar.andi v495 c1_i32_235
  let v519 : BitVec 32 := Scalar.xori v457 v518
  let v520 : BitVec 32 := Scalar.addi v517 v519
  let v522 : BitVec 32 := Scalar.addi v521 v520
  let c1_i32_250 : BitVec 32 := 1#32
  let v532 : BitVec 32 := Scalar.muli v522 c1_i32_250
  let v533 : BitVec 32 := Scalar.addi c0_i32_251 v532
  v533.toNat
def k0_dev6 (d0 : Dev nD) : Nat :=
  let c0_i32_259 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c1_i32_42 : BitVec 32 := 1#32
  let v103 : BitVec 32 := Scalar.xori v102 c1_i32_42
  let c1_i32_68 : BitVec 32 := 1#32
  let v160 : BitVec 32 := Scalar.andi v103 c1_i32_68
  let c2_i32_69 : BitVec 32 := 2#32
  let v161 : BitVec 32 := Scalar.muli v160 c2_i32_69
  let c0_i32_71 : BitVec 32 := 0#32
  let v163 : BitVec 1 := Scalar.cmpi .sgt v103 c0_i32_71
  let v164 : BitVec 32 := Scalar.extui v163
  let c0_i32_72 : BitVec 32 := 0#32
  let v165 : BitVec 1 := Scalar.cmpi .slt v103 c0_i32_72
  let v166 : BitVec 32 := Scalar.extui v165
  let v167 : BitVec 32 := Scalar.subi v164 v166
  let c4_i32_70 : BitVec 32 := 4#32
  let c0_i32_73 : BitVec 32 := 0#32
  let v168 : BitVec 1 := Scalar.cmpi .sgt c4_i32_70 c0_i32_73
  let v169 : BitVec 32 := Scalar.extui v168
  let c0_i32_74 : BitVec 32 := 0#32
  let v170 : BitVec 1 := Scalar.cmpi .slt c4_i32_70 c0_i32_74
  let v171 : BitVec 32 := Scalar.extui v170
  let v172 : BitVec 32 := Scalar.subi v169 v171
  let v173 : BitVec 1 := Scalar.cmpi .ne v167 v172
  let v174 : BitVec 32 := Scalar.remsi v103 c4_i32_70
  let c0_i32_75 : BitVec 32 := 0#32
  let v175 : BitVec 1 := Scalar.cmpi .ne v174 c0_i32_75
  let v176 : BitVec 1 := Scalar.andi v173 v175
  let v162 : BitVec 32 := Scalar.divsi v103 c4_i32_70
  let c1_i32_76 : BitVec 32 := 1#32
  let v177 : BitVec 32 := Scalar.subi v162 c1_i32_76
  let v178 : BitVec 32 := Scalar.select v176 v177 v162
  let c1_i32_77 : BitVec 32 := 1#32
  let v179 : BitVec 32 := Scalar.andi v178 c1_i32_77
  let v180 : BitVec 32 := Scalar.addi v161 v179
  let v185 : BitVec 32 := Scalar.muli c8_i32_80 v180
  let c2_i32_78 : BitVec 32 := 2#32
  let c0_i32_52 : BitVec 32 := 0#32
  let v123 : BitVec 1 := Scalar.cmpi .sgt v103 c0_i32_52
  let v124 : BitVec 32 := Scalar.extui v123
  let c0_i32_53 : BitVec 32 := 0#32
  let v125 : BitVec 1 := Scalar.cmpi .slt v103 c0_i32_53
  let v126 : BitVec 32 := Scalar.extui v125
  let v127 : BitVec 32 := Scalar.subi v124 v126
  let c2_i32_51 : BitVec 32 := 2#32
  let c0_i32_54 : BitVec 32 := 0#32
  let v128 : BitVec 1 := Scalar.cmpi .sgt c2_i32_51 c0_i32_54
  let v129 : BitVec 32 := Scalar.extui v128
  let c0_i32_55 : BitVec 32 := 0#32
  let v130 : BitVec 1 := Scalar.cmpi .slt c2_i32_51 c0_i32_55
  let v131 : BitVec 32 := Scalar.extui v130
  let v132 : BitVec 32 := Scalar.subi v129 v131
  let v133 : BitVec 1 := Scalar.cmpi .ne v127 v132
  let v134 : BitVec 32 := Scalar.remsi v103 c2_i32_51
  let c0_i32_56 : BitVec 32 := 0#32
  let v135 : BitVec 1 := Scalar.cmpi .ne v134 c0_i32_56
  let v136 : BitVec 1 := Scalar.andi v133 v135
  let v122 : BitVec 32 := Scalar.divsi v103 c2_i32_51
  let c1_i32_57 : BitVec 32 := 1#32
  let v137 : BitVec 32 := Scalar.subi v122 c1_i32_57
  let v138 : BitVec 32 := Scalar.select v136 v137 v122
  let c1_i32_58 : BitVec 32 := 1#32
  let v139 : BitVec 32 := Scalar.andi v138 c1_i32_58
  let c2_i32_59 : BitVec 32 := 2#32
  let v140 : BitVec 32 := Scalar.muli v139 c2_i32_59
  let c0_i32_61 : BitVec 32 := 0#32
  let v142 : BitVec 1 := Scalar.cmpi .sgt v103 c0_i32_61
  let v143 : BitVec 32 := Scalar.extui v142
  let c0_i32_62 : BitVec 32 := 0#32
  let v144 : BitVec 1 := Scalar.cmpi .slt v103 c0_i32_62
  let v145 : BitVec 32 := Scalar.extui v144
  let v146 : BitVec 32 := Scalar.subi v143 v145
  let c8_i32_60 : BitVec 32 := 8#32
  let c0_i32_63 : BitVec 32 := 0#32
  let v147 : BitVec 1 := Scalar.cmpi .sgt c8_i32_60 c0_i32_63
  let v148 : BitVec 32 := Scalar.extui v147
  let c0_i32_64 : BitVec 32 := 0#32
  let v149 : BitVec 1 := Scalar.cmpi .slt c8_i32_60 c0_i32_64
  let v150 : BitVec 32 := Scalar.extui v149
  let v151 : BitVec 32 := Scalar.subi v148 v150
  let v152 : BitVec 1 := Scalar.cmpi .ne v146 v151
  let v153 : BitVec 32 := Scalar.remsi v103 c8_i32_60
  let c0_i32_65 : BitVec 32 := 0#32
  let v154 : BitVec 1 := Scalar.cmpi .ne v153 c0_i32_65
  let v155 : BitVec 1 := Scalar.andi v152 v154
  let v141 : BitVec 32 := Scalar.divsi v103 c8_i32_60
  let c1_i32_66 : BitVec 32 := 1#32
  let v156 : BitVec 32 := Scalar.subi v141 c1_i32_66
  let v157 : BitVec 32 := Scalar.select v155 v156 v141
  let c1_i32_67 : BitVec 32 := 1#32
  let v158 : BitVec 32 := Scalar.andi v157 c1_i32_67
  let v159 : BitVec 32 := Scalar.addi v140 v158
  let v181 : BitVec 32 := Scalar.muli c2_i32_78 v159
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c16_i32_43 : BitVec 32 := 16#32
  let c0_i32_46 : BitVec 32 := 0#32
  let v110 : BitVec 1 := Scalar.cmpi .sgt c16_i32_43 c0_i32_46
  let v111 : BitVec 32 := Scalar.extui v110
  let c0_i32_47 : BitVec 32 := 0#32
  let v112 : BitVec 1 := Scalar.cmpi .slt c16_i32_43 c0_i32_47
  let v113 : BitVec 32 := Scalar.extui v112
  let v114 : BitVec 32 := Scalar.subi v111 v113
  let v115 : BitVec 1 := Scalar.cmpi .ne v109 v114
  let v116 : BitVec 32 := Scalar.remsi v103 c16_i32_43
  let c0_i32_48 : BitVec 32 := 0#32
  let v117 : BitVec 1 := Scalar.cmpi .ne v116 c0_i32_48
  let v118 : BitVec 1 := Scalar.andi v115 v117
  let v104 : BitVec 32 := Scalar.divsi v103 c16_i32_43
  let c1_i32_49 : BitVec 32 := 1#32
  let v119 : BitVec 32 := Scalar.subi v104 c1_i32_49
  let v120 : BitVec 32 := Scalar.select v118 v119 v104
  let c1_i32_50 : BitVec 32 := 1#32
  let v121 : BitVec 32 := Scalar.andi v120 c1_i32_50
  let c1_i32_79 : BitVec 32 := 1#32
  let v182 : BitVec 32 := Scalar.andi v159 c1_i32_79
  let v183 : BitVec 32 := Scalar.xori v121 v182
  let v184 : BitVec 32 := Scalar.addi v181 v183
  let v186 : BitVec 32 := Scalar.addi v185 v184
  let c1_i32_258 : BitVec 32 := 1#32
  let v539 : BitVec 32 := Scalar.muli v186 c1_i32_258
  let v540 : BitVec 32 := Scalar.addi c0_i32_259 v539
  v540.toNat
def k0_dev7 (d0 : Dev nD) : Nat :=
  let c0_i32_371 : BitVec 32 := 0#32
  let c8_i32_119 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c2_i32_81 : BitVec 32 := 2#32
  let v187 : BitVec 32 := Scalar.xori v102 c2_i32_81
  let c1_i32_107 : BitVec 32 := 1#32
  let v244 : BitVec 32 := Scalar.andi v187 c1_i32_107
  let c2_i32_108 : BitVec 32 := 2#32
  let v245 : BitVec 32 := Scalar.muli v244 c2_i32_108
  let c0_i32_110 : BitVec 32 := 0#32
  let v247 : BitVec 1 := Scalar.cmpi .sgt v187 c0_i32_110
  let v248 : BitVec 32 := Scalar.extui v247
  let c0_i32_111 : BitVec 32 := 0#32
  let v249 : BitVec 1 := Scalar.cmpi .slt v187 c0_i32_111
  let v250 : BitVec 32 := Scalar.extui v249
  let v251 : BitVec 32 := Scalar.subi v248 v250
  let c4_i32_109 : BitVec 32 := 4#32
  let c0_i32_112 : BitVec 32 := 0#32
  let v252 : BitVec 1 := Scalar.cmpi .sgt c4_i32_109 c0_i32_112
  let v253 : BitVec 32 := Scalar.extui v252
  let c0_i32_113 : BitVec 32 := 0#32
  let v254 : BitVec 1 := Scalar.cmpi .slt c4_i32_109 c0_i32_113
  let v255 : BitVec 32 := Scalar.extui v254
  let v256 : BitVec 32 := Scalar.subi v253 v255
  let v257 : BitVec 1 := Scalar.cmpi .ne v251 v256
  let v258 : BitVec 32 := Scalar.remsi v187 c4_i32_109
  let c0_i32_114 : BitVec 32 := 0#32
  let v259 : BitVec 1 := Scalar.cmpi .ne v258 c0_i32_114
  let v260 : BitVec 1 := Scalar.andi v257 v259
  let v246 : BitVec 32 := Scalar.divsi v187 c4_i32_109
  let c1_i32_115 : BitVec 32 := 1#32
  let v261 : BitVec 32 := Scalar.subi v246 c1_i32_115
  let v262 : BitVec 32 := Scalar.select v260 v261 v246
  let c1_i32_116 : BitVec 32 := 1#32
  let v263 : BitVec 32 := Scalar.andi v262 c1_i32_116
  let v264 : BitVec 32 := Scalar.addi v245 v263
  let v269 : BitVec 32 := Scalar.muli c8_i32_119 v264
  let c2_i32_117 : BitVec 32 := 2#32
  let c0_i32_91 : BitVec 32 := 0#32
  let v207 : BitVec 1 := Scalar.cmpi .sgt v187 c0_i32_91
  let v208 : BitVec 32 := Scalar.extui v207
  let c0_i32_92 : BitVec 32 := 0#32
  let v209 : BitVec 1 := Scalar.cmpi .slt v187 c0_i32_92
  let v210 : BitVec 32 := Scalar.extui v209
  let v211 : BitVec 32 := Scalar.subi v208 v210
  let c2_i32_90 : BitVec 32 := 2#32
  let c0_i32_93 : BitVec 32 := 0#32
  let v212 : BitVec 1 := Scalar.cmpi .sgt c2_i32_90 c0_i32_93
  let v213 : BitVec 32 := Scalar.extui v212
  let c0_i32_94 : BitVec 32 := 0#32
  let v214 : BitVec 1 := Scalar.cmpi .slt c2_i32_90 c0_i32_94
  let v215 : BitVec 32 := Scalar.extui v214
  let v216 : BitVec 32 := Scalar.subi v213 v215
  let v217 : BitVec 1 := Scalar.cmpi .ne v211 v216
  let v218 : BitVec 32 := Scalar.remsi v187 c2_i32_90
  let c0_i32_95 : BitVec 32 := 0#32
  let v219 : BitVec 1 := Scalar.cmpi .ne v218 c0_i32_95
  let v220 : BitVec 1 := Scalar.andi v217 v219
  let v206 : BitVec 32 := Scalar.divsi v187 c2_i32_90
  let c1_i32_96 : BitVec 32 := 1#32
  let v221 : BitVec 32 := Scalar.subi v206 c1_i32_96
  let v222 : BitVec 32 := Scalar.select v220 v221 v206
  let c1_i32_97 : BitVec 32 := 1#32
  let v223 : BitVec 32 := Scalar.andi v222 c1_i32_97
  let c2_i32_98 : BitVec 32 := 2#32
  let v224 : BitVec 32 := Scalar.muli v223 c2_i32_98
  let c0_i32_100 : BitVec 32 := 0#32
  let v226 : BitVec 1 := Scalar.cmpi .sgt v187 c0_i32_100
  let v227 : BitVec 32 := Scalar.extui v226
  let c0_i32_101 : BitVec 32 := 0#32
  let v228 : BitVec 1 := Scalar.cmpi .slt v187 c0_i32_101
  let v229 : BitVec 32 := Scalar.extui v228
  let v230 : BitVec 32 := Scalar.subi v227 v229
  let c8_i32_99 : BitVec 32 := 8#32
  let c0_i32_102 : BitVec 32 := 0#32
  let v231 : BitVec 1 := Scalar.cmpi .sgt c8_i32_99 c0_i32_102
  let v232 : BitVec 32 := Scalar.extui v231
  let c0_i32_103 : BitVec 32 := 0#32
  let v233 : BitVec 1 := Scalar.cmpi .slt c8_i32_99 c0_i32_103
  let v234 : BitVec 32 := Scalar.extui v233
  let v235 : BitVec 32 := Scalar.subi v232 v234
  let v236 : BitVec 1 := Scalar.cmpi .ne v230 v235
  let v237 : BitVec 32 := Scalar.remsi v187 c8_i32_99
  let c0_i32_104 : BitVec 32 := 0#32
  let v238 : BitVec 1 := Scalar.cmpi .ne v237 c0_i32_104
  let v239 : BitVec 1 := Scalar.andi v236 v238
  let v225 : BitVec 32 := Scalar.divsi v187 c8_i32_99
  let c1_i32_105 : BitVec 32 := 1#32
  let v240 : BitVec 32 := Scalar.subi v225 c1_i32_105
  let v241 : BitVec 32 := Scalar.select v239 v240 v225
  let c1_i32_106 : BitVec 32 := 1#32
  let v242 : BitVec 32 := Scalar.andi v241 c1_i32_106
  let v243 : BitVec 32 := Scalar.addi v224 v242
  let v265 : BitVec 32 := Scalar.muli c2_i32_117 v243
  let c0_i32_83 : BitVec 32 := 0#32
  let v189 : BitVec 1 := Scalar.cmpi .sgt v187 c0_i32_83
  let v190 : BitVec 32 := Scalar.extui v189
  let c0_i32_84 : BitVec 32 := 0#32
  let v191 : BitVec 1 := Scalar.cmpi .slt v187 c0_i32_84
  let v192 : BitVec 32 := Scalar.extui v191
  let v193 : BitVec 32 := Scalar.subi v190 v192
  let c16_i32_82 : BitVec 32 := 16#32
  let c0_i32_85 : BitVec 32 := 0#32
  let v194 : BitVec 1 := Scalar.cmpi .sgt c16_i32_82 c0_i32_85
  let v195 : BitVec 32 := Scalar.extui v194
  let c0_i32_86 : BitVec 32 := 0#32
  let v196 : BitVec 1 := Scalar.cmpi .slt c16_i32_82 c0_i32_86
  let v197 : BitVec 32 := Scalar.extui v196
  let v198 : BitVec 32 := Scalar.subi v195 v197
  let v199 : BitVec 1 := Scalar.cmpi .ne v193 v198
  let v200 : BitVec 32 := Scalar.remsi v187 c16_i32_82
  let c0_i32_87 : BitVec 32 := 0#32
  let v201 : BitVec 1 := Scalar.cmpi .ne v200 c0_i32_87
  let v202 : BitVec 1 := Scalar.andi v199 v201
  let v188 : BitVec 32 := Scalar.divsi v187 c16_i32_82
  let c1_i32_88 : BitVec 32 := 1#32
  let v203 : BitVec 32 := Scalar.subi v188 c1_i32_88
  let v204 : BitVec 32 := Scalar.select v202 v203 v188
  let c1_i32_89 : BitVec 32 := 1#32
  let v205 : BitVec 32 := Scalar.andi v204 c1_i32_89
  let c1_i32_118 : BitVec 32 := 1#32
  let v266 : BitVec 32 := Scalar.andi v243 c1_i32_118
  let v267 : BitVec 32 := Scalar.xori v205 v266
  let v268 : BitVec 32 := Scalar.addi v265 v267
  let v270 : BitVec 32 := Scalar.addi v269 v268
  let c1_i32_370 : BitVec 32 := 1#32
  let v864 : BitVec 32 := Scalar.muli v270 c1_i32_370
  let v865 : BitVec 32 := Scalar.addi c0_i32_371 v864
  v865.toNat
def k0_dev8 (d0 : Dev nD) : Nat :=
  let c0_i32_484 : BitVec 32 := 0#32
  let c8_i32_158 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c4_i32_120 : BitVec 32 := 4#32
  let v271 : BitVec 32 := Scalar.xori v102 c4_i32_120
  let c1_i32_146 : BitVec 32 := 1#32
  let v328 : BitVec 32 := Scalar.andi v271 c1_i32_146
  let c2_i32_147 : BitVec 32 := 2#32
  let v329 : BitVec 32 := Scalar.muli v328 c2_i32_147
  let c0_i32_149 : BitVec 32 := 0#32
  let v331 : BitVec 1 := Scalar.cmpi .sgt v271 c0_i32_149
  let v332 : BitVec 32 := Scalar.extui v331
  let c0_i32_150 : BitVec 32 := 0#32
  let v333 : BitVec 1 := Scalar.cmpi .slt v271 c0_i32_150
  let v334 : BitVec 32 := Scalar.extui v333
  let v335 : BitVec 32 := Scalar.subi v332 v334
  let c4_i32_148 : BitVec 32 := 4#32
  let c0_i32_151 : BitVec 32 := 0#32
  let v336 : BitVec 1 := Scalar.cmpi .sgt c4_i32_148 c0_i32_151
  let v337 : BitVec 32 := Scalar.extui v336
  let c0_i32_152 : BitVec 32 := 0#32
  let v338 : BitVec 1 := Scalar.cmpi .slt c4_i32_148 c0_i32_152
  let v339 : BitVec 32 := Scalar.extui v338
  let v340 : BitVec 32 := Scalar.subi v337 v339
  let v341 : BitVec 1 := Scalar.cmpi .ne v335 v340
  let v342 : BitVec 32 := Scalar.remsi v271 c4_i32_148
  let c0_i32_153 : BitVec 32 := 0#32
  let v343 : BitVec 1 := Scalar.cmpi .ne v342 c0_i32_153
  let v344 : BitVec 1 := Scalar.andi v341 v343
  let v330 : BitVec 32 := Scalar.divsi v271 c4_i32_148
  let c1_i32_154 : BitVec 32 := 1#32
  let v345 : BitVec 32 := Scalar.subi v330 c1_i32_154
  let v346 : BitVec 32 := Scalar.select v344 v345 v330
  let c1_i32_155 : BitVec 32 := 1#32
  let v347 : BitVec 32 := Scalar.andi v346 c1_i32_155
  let v348 : BitVec 32 := Scalar.addi v329 v347
  let v353 : BitVec 32 := Scalar.muli c8_i32_158 v348
  let c2_i32_156 : BitVec 32 := 2#32
  let c0_i32_130 : BitVec 32 := 0#32
  let v291 : BitVec 1 := Scalar.cmpi .sgt v271 c0_i32_130
  let v292 : BitVec 32 := Scalar.extui v291
  let c0_i32_131 : BitVec 32 := 0#32
  let v293 : BitVec 1 := Scalar.cmpi .slt v271 c0_i32_131
  let v294 : BitVec 32 := Scalar.extui v293
  let v295 : BitVec 32 := Scalar.subi v292 v294
  let c2_i32_129 : BitVec 32 := 2#32
  let c0_i32_132 : BitVec 32 := 0#32
  let v296 : BitVec 1 := Scalar.cmpi .sgt c2_i32_129 c0_i32_132
  let v297 : BitVec 32 := Scalar.extui v296
  let c0_i32_133 : BitVec 32 := 0#32
  let v298 : BitVec 1 := Scalar.cmpi .slt c2_i32_129 c0_i32_133
  let v299 : BitVec 32 := Scalar.extui v298
  let v300 : BitVec 32 := Scalar.subi v297 v299
  let v301 : BitVec 1 := Scalar.cmpi .ne v295 v300
  let v302 : BitVec 32 := Scalar.remsi v271 c2_i32_129
  let c0_i32_134 : BitVec 32 := 0#32
  let v303 : BitVec 1 := Scalar.cmpi .ne v302 c0_i32_134
  let v304 : BitVec 1 := Scalar.andi v301 v303
  let v290 : BitVec 32 := Scalar.divsi v271 c2_i32_129
  let c1_i32_135 : BitVec 32 := 1#32
  let v305 : BitVec 32 := Scalar.subi v290 c1_i32_135
  let v306 : BitVec 32 := Scalar.select v304 v305 v290
  let c1_i32_136 : BitVec 32 := 1#32
  let v307 : BitVec 32 := Scalar.andi v306 c1_i32_136
  let c2_i32_137 : BitVec 32 := 2#32
  let v308 : BitVec 32 := Scalar.muli v307 c2_i32_137
  let c0_i32_139 : BitVec 32 := 0#32
  let v310 : BitVec 1 := Scalar.cmpi .sgt v271 c0_i32_139
  let v311 : BitVec 32 := Scalar.extui v310
  let c0_i32_140 : BitVec 32 := 0#32
  let v312 : BitVec 1 := Scalar.cmpi .slt v271 c0_i32_140
  let v313 : BitVec 32 := Scalar.extui v312
  let v314 : BitVec 32 := Scalar.subi v311 v313
  let c8_i32_138 : BitVec 32 := 8#32
  let c0_i32_141 : BitVec 32 := 0#32
  let v315 : BitVec 1 := Scalar.cmpi .sgt c8_i32_138 c0_i32_141
  let v316 : BitVec 32 := Scalar.extui v315
  let c0_i32_142 : BitVec 32 := 0#32
  let v317 : BitVec 1 := Scalar.cmpi .slt c8_i32_138 c0_i32_142
  let v318 : BitVec 32 := Scalar.extui v317
  let v319 : BitVec 32 := Scalar.subi v316 v318
  let v320 : BitVec 1 := Scalar.cmpi .ne v314 v319
  let v321 : BitVec 32 := Scalar.remsi v271 c8_i32_138
  let c0_i32_143 : BitVec 32 := 0#32
  let v322 : BitVec 1 := Scalar.cmpi .ne v321 c0_i32_143
  let v323 : BitVec 1 := Scalar.andi v320 v322
  let v309 : BitVec 32 := Scalar.divsi v271 c8_i32_138
  let c1_i32_144 : BitVec 32 := 1#32
  let v324 : BitVec 32 := Scalar.subi v309 c1_i32_144
  let v325 : BitVec 32 := Scalar.select v323 v324 v309
  let c1_i32_145 : BitVec 32 := 1#32
  let v326 : BitVec 32 := Scalar.andi v325 c1_i32_145
  let v327 : BitVec 32 := Scalar.addi v308 v326
  let v349 : BitVec 32 := Scalar.muli c2_i32_156 v327
  let c0_i32_122 : BitVec 32 := 0#32
  let v273 : BitVec 1 := Scalar.cmpi .sgt v271 c0_i32_122
  let v274 : BitVec 32 := Scalar.extui v273
  let c0_i32_123 : BitVec 32 := 0#32
  let v275 : BitVec 1 := Scalar.cmpi .slt v271 c0_i32_123
  let v276 : BitVec 32 := Scalar.extui v275
  let v277 : BitVec 32 := Scalar.subi v274 v276
  let c16_i32_121 : BitVec 32 := 16#32
  let c0_i32_124 : BitVec 32 := 0#32
  let v278 : BitVec 1 := Scalar.cmpi .sgt c16_i32_121 c0_i32_124
  let v279 : BitVec 32 := Scalar.extui v278
  let c0_i32_125 : BitVec 32 := 0#32
  let v280 : BitVec 1 := Scalar.cmpi .slt c16_i32_121 c0_i32_125
  let v281 : BitVec 32 := Scalar.extui v280
  let v282 : BitVec 32 := Scalar.subi v279 v281
  let v283 : BitVec 1 := Scalar.cmpi .ne v277 v282
  let v284 : BitVec 32 := Scalar.remsi v271 c16_i32_121
  let c0_i32_126 : BitVec 32 := 0#32
  let v285 : BitVec 1 := Scalar.cmpi .ne v284 c0_i32_126
  let v286 : BitVec 1 := Scalar.andi v283 v285
  let v272 : BitVec 32 := Scalar.divsi v271 c16_i32_121
  let c1_i32_127 : BitVec 32 := 1#32
  let v287 : BitVec 32 := Scalar.subi v272 c1_i32_127
  let v288 : BitVec 32 := Scalar.select v286 v287 v272
  let c1_i32_128 : BitVec 32 := 1#32
  let v289 : BitVec 32 := Scalar.andi v288 c1_i32_128
  let c1_i32_157 : BitVec 32 := 1#32
  let v350 : BitVec 32 := Scalar.andi v327 c1_i32_157
  let v351 : BitVec 32 := Scalar.xori v289 v350
  let v352 : BitVec 32 := Scalar.addi v349 v351
  let v354 : BitVec 32 := Scalar.addi v353 v352
  let c1_i32_483 : BitVec 32 := 1#32
  let v1202 : BitVec 32 := Scalar.muli v354 c1_i32_483
  let v1203 : BitVec 32 := Scalar.addi c0_i32_484 v1202
  v1203.toNat
def k0_dev9 (d0 : Dev nD) : Nat :=
  let c0_i32_596 : BitVec 32 := 0#32
  let c8_i32_197 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c8_i32_159 : BitVec 32 := 8#32
  let v355 : BitVec 32 := Scalar.xori v102 c8_i32_159
  let c1_i32_185 : BitVec 32 := 1#32
  let v412 : BitVec 32 := Scalar.andi v355 c1_i32_185
  let c2_i32_186 : BitVec 32 := 2#32
  let v413 : BitVec 32 := Scalar.muli v412 c2_i32_186
  let c0_i32_188 : BitVec 32 := 0#32
  let v415 : BitVec 1 := Scalar.cmpi .sgt v355 c0_i32_188
  let v416 : BitVec 32 := Scalar.extui v415
  let c0_i32_189 : BitVec 32 := 0#32
  let v417 : BitVec 1 := Scalar.cmpi .slt v355 c0_i32_189
  let v418 : BitVec 32 := Scalar.extui v417
  let v419 : BitVec 32 := Scalar.subi v416 v418
  let c4_i32_187 : BitVec 32 := 4#32
  let c0_i32_190 : BitVec 32 := 0#32
  let v420 : BitVec 1 := Scalar.cmpi .sgt c4_i32_187 c0_i32_190
  let v421 : BitVec 32 := Scalar.extui v420
  let c0_i32_191 : BitVec 32 := 0#32
  let v422 : BitVec 1 := Scalar.cmpi .slt c4_i32_187 c0_i32_191
  let v423 : BitVec 32 := Scalar.extui v422
  let v424 : BitVec 32 := Scalar.subi v421 v423
  let v425 : BitVec 1 := Scalar.cmpi .ne v419 v424
  let v426 : BitVec 32 := Scalar.remsi v355 c4_i32_187
  let c0_i32_192 : BitVec 32 := 0#32
  let v427 : BitVec 1 := Scalar.cmpi .ne v426 c0_i32_192
  let v428 : BitVec 1 := Scalar.andi v425 v427
  let v414 : BitVec 32 := Scalar.divsi v355 c4_i32_187
  let c1_i32_193 : BitVec 32 := 1#32
  let v429 : BitVec 32 := Scalar.subi v414 c1_i32_193
  let v430 : BitVec 32 := Scalar.select v428 v429 v414
  let c1_i32_194 : BitVec 32 := 1#32
  let v431 : BitVec 32 := Scalar.andi v430 c1_i32_194
  let v432 : BitVec 32 := Scalar.addi v413 v431
  let v437 : BitVec 32 := Scalar.muli c8_i32_197 v432
  let c2_i32_195 : BitVec 32 := 2#32
  let c0_i32_169 : BitVec 32 := 0#32
  let v375 : BitVec 1 := Scalar.cmpi .sgt v355 c0_i32_169
  let v376 : BitVec 32 := Scalar.extui v375
  let c0_i32_170 : BitVec 32 := 0#32
  let v377 : BitVec 1 := Scalar.cmpi .slt v355 c0_i32_170
  let v378 : BitVec 32 := Scalar.extui v377
  let v379 : BitVec 32 := Scalar.subi v376 v378
  let c2_i32_168 : BitVec 32 := 2#32
  let c0_i32_171 : BitVec 32 := 0#32
  let v380 : BitVec 1 := Scalar.cmpi .sgt c2_i32_168 c0_i32_171
  let v381 : BitVec 32 := Scalar.extui v380
  let c0_i32_172 : BitVec 32 := 0#32
  let v382 : BitVec 1 := Scalar.cmpi .slt c2_i32_168 c0_i32_172
  let v383 : BitVec 32 := Scalar.extui v382
  let v384 : BitVec 32 := Scalar.subi v381 v383
  let v385 : BitVec 1 := Scalar.cmpi .ne v379 v384
  let v386 : BitVec 32 := Scalar.remsi v355 c2_i32_168
  let c0_i32_173 : BitVec 32 := 0#32
  let v387 : BitVec 1 := Scalar.cmpi .ne v386 c0_i32_173
  let v388 : BitVec 1 := Scalar.andi v385 v387
  let v374 : BitVec 32 := Scalar.divsi v355 c2_i32_168
  let c1_i32_174 : BitVec 32 := 1#32
  let v389 : BitVec 32 := Scalar.subi v374 c1_i32_174
  let v390 : BitVec 32 := Scalar.select v388 v389 v374
  let c1_i32_175 : BitVec 32 := 1#32
  let v391 : BitVec 32 := Scalar.andi v390 c1_i32_175
  let c2_i32_176 : BitVec 32 := 2#32
  let v392 : BitVec 32 := Scalar.muli v391 c2_i32_176
  let c0_i32_178 : BitVec 32 := 0#32
  let v394 : BitVec 1 := Scalar.cmpi .sgt v355 c0_i32_178
  let v395 : BitVec 32 := Scalar.extui v394
  let c0_i32_179 : BitVec 32 := 0#32
  let v396 : BitVec 1 := Scalar.cmpi .slt v355 c0_i32_179
  let v397 : BitVec 32 := Scalar.extui v396
  let v398 : BitVec 32 := Scalar.subi v395 v397
  let c8_i32_177 : BitVec 32 := 8#32
  let c0_i32_180 : BitVec 32 := 0#32
  let v399 : BitVec 1 := Scalar.cmpi .sgt c8_i32_177 c0_i32_180
  let v400 : BitVec 32 := Scalar.extui v399
  let c0_i32_181 : BitVec 32 := 0#32
  let v401 : BitVec 1 := Scalar.cmpi .slt c8_i32_177 c0_i32_181
  let v402 : BitVec 32 := Scalar.extui v401
  let v403 : BitVec 32 := Scalar.subi v400 v402
  let v404 : BitVec 1 := Scalar.cmpi .ne v398 v403
  let v405 : BitVec 32 := Scalar.remsi v355 c8_i32_177
  let c0_i32_182 : BitVec 32 := 0#32
  let v406 : BitVec 1 := Scalar.cmpi .ne v405 c0_i32_182
  let v407 : BitVec 1 := Scalar.andi v404 v406
  let v393 : BitVec 32 := Scalar.divsi v355 c8_i32_177
  let c1_i32_183 : BitVec 32 := 1#32
  let v408 : BitVec 32 := Scalar.subi v393 c1_i32_183
  let v409 : BitVec 32 := Scalar.select v407 v408 v393
  let c1_i32_184 : BitVec 32 := 1#32
  let v410 : BitVec 32 := Scalar.andi v409 c1_i32_184
  let v411 : BitVec 32 := Scalar.addi v392 v410
  let v433 : BitVec 32 := Scalar.muli c2_i32_195 v411
  let c0_i32_161 : BitVec 32 := 0#32
  let v357 : BitVec 1 := Scalar.cmpi .sgt v355 c0_i32_161
  let v358 : BitVec 32 := Scalar.extui v357
  let c0_i32_162 : BitVec 32 := 0#32
  let v359 : BitVec 1 := Scalar.cmpi .slt v355 c0_i32_162
  let v360 : BitVec 32 := Scalar.extui v359
  let v361 : BitVec 32 := Scalar.subi v358 v360
  let c16_i32_160 : BitVec 32 := 16#32
  let c0_i32_163 : BitVec 32 := 0#32
  let v362 : BitVec 1 := Scalar.cmpi .sgt c16_i32_160 c0_i32_163
  let v363 : BitVec 32 := Scalar.extui v362
  let c0_i32_164 : BitVec 32 := 0#32
  let v364 : BitVec 1 := Scalar.cmpi .slt c16_i32_160 c0_i32_164
  let v365 : BitVec 32 := Scalar.extui v364
  let v366 : BitVec 32 := Scalar.subi v363 v365
  let v367 : BitVec 1 := Scalar.cmpi .ne v361 v366
  let v368 : BitVec 32 := Scalar.remsi v355 c16_i32_160
  let c0_i32_165 : BitVec 32 := 0#32
  let v369 : BitVec 1 := Scalar.cmpi .ne v368 c0_i32_165
  let v370 : BitVec 1 := Scalar.andi v367 v369
  let v356 : BitVec 32 := Scalar.divsi v355 c16_i32_160
  let c1_i32_166 : BitVec 32 := 1#32
  let v371 : BitVec 32 := Scalar.subi v356 c1_i32_166
  let v372 : BitVec 32 := Scalar.select v370 v371 v356
  let c1_i32_167 : BitVec 32 := 1#32
  let v373 : BitVec 32 := Scalar.andi v372 c1_i32_167
  let c1_i32_196 : BitVec 32 := 1#32
  let v434 : BitVec 32 := Scalar.andi v411 c1_i32_196
  let v435 : BitVec 32 := Scalar.xori v373 v434
  let v436 : BitVec 32 := Scalar.addi v433 v435
  let v438 : BitVec 32 := Scalar.addi v437 v436
  let c1_i32_595 : BitVec 32 := 1#32
  let v1553 : BitVec 32 := Scalar.muli v438 c1_i32_595
  let v1554 : BitVec 32 := Scalar.addi c0_i32_596 v1553
  v1554.toNat
def k0_dev10 (d0 : Dev nD) : Nat :=
  let c0_i32_709 : BitVec 32 := 0#32
  let c8_i32_236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c16_i32_198 : BitVec 32 := 16#32
  let v439 : BitVec 32 := Scalar.xori v102 c16_i32_198
  let c1_i32_224 : BitVec 32 := 1#32
  let v496 : BitVec 32 := Scalar.andi v439 c1_i32_224
  let c2_i32_225 : BitVec 32 := 2#32
  let v497 : BitVec 32 := Scalar.muli v496 c2_i32_225
  let c0_i32_227 : BitVec 32 := 0#32
  let v499 : BitVec 1 := Scalar.cmpi .sgt v439 c0_i32_227
  let v500 : BitVec 32 := Scalar.extui v499
  let c0_i32_228 : BitVec 32 := 0#32
  let v501 : BitVec 1 := Scalar.cmpi .slt v439 c0_i32_228
  let v502 : BitVec 32 := Scalar.extui v501
  let v503 : BitVec 32 := Scalar.subi v500 v502
  let c4_i32_226 : BitVec 32 := 4#32
  let c0_i32_229 : BitVec 32 := 0#32
  let v504 : BitVec 1 := Scalar.cmpi .sgt c4_i32_226 c0_i32_229
  let v505 : BitVec 32 := Scalar.extui v504
  let c0_i32_230 : BitVec 32 := 0#32
  let v506 : BitVec 1 := Scalar.cmpi .slt c4_i32_226 c0_i32_230
  let v507 : BitVec 32 := Scalar.extui v506
  let v508 : BitVec 32 := Scalar.subi v505 v507
  let v509 : BitVec 1 := Scalar.cmpi .ne v503 v508
  let v510 : BitVec 32 := Scalar.remsi v439 c4_i32_226
  let c0_i32_231 : BitVec 32 := 0#32
  let v511 : BitVec 1 := Scalar.cmpi .ne v510 c0_i32_231
  let v512 : BitVec 1 := Scalar.andi v509 v511
  let v498 : BitVec 32 := Scalar.divsi v439 c4_i32_226
  let c1_i32_232 : BitVec 32 := 1#32
  let v513 : BitVec 32 := Scalar.subi v498 c1_i32_232
  let v514 : BitVec 32 := Scalar.select v512 v513 v498
  let c1_i32_233 : BitVec 32 := 1#32
  let v515 : BitVec 32 := Scalar.andi v514 c1_i32_233
  let v516 : BitVec 32 := Scalar.addi v497 v515
  let v521 : BitVec 32 := Scalar.muli c8_i32_236 v516
  let c2_i32_234 : BitVec 32 := 2#32
  let c0_i32_208 : BitVec 32 := 0#32
  let v459 : BitVec 1 := Scalar.cmpi .sgt v439 c0_i32_208
  let v460 : BitVec 32 := Scalar.extui v459
  let c0_i32_209 : BitVec 32 := 0#32
  let v461 : BitVec 1 := Scalar.cmpi .slt v439 c0_i32_209
  let v462 : BitVec 32 := Scalar.extui v461
  let v463 : BitVec 32 := Scalar.subi v460 v462
  let c2_i32_207 : BitVec 32 := 2#32
  let c0_i32_210 : BitVec 32 := 0#32
  let v464 : BitVec 1 := Scalar.cmpi .sgt c2_i32_207 c0_i32_210
  let v465 : BitVec 32 := Scalar.extui v464
  let c0_i32_211 : BitVec 32 := 0#32
  let v466 : BitVec 1 := Scalar.cmpi .slt c2_i32_207 c0_i32_211
  let v467 : BitVec 32 := Scalar.extui v466
  let v468 : BitVec 32 := Scalar.subi v465 v467
  let v469 : BitVec 1 := Scalar.cmpi .ne v463 v468
  let v470 : BitVec 32 := Scalar.remsi v439 c2_i32_207
  let c0_i32_212 : BitVec 32 := 0#32
  let v471 : BitVec 1 := Scalar.cmpi .ne v470 c0_i32_212
  let v472 : BitVec 1 := Scalar.andi v469 v471
  let v458 : BitVec 32 := Scalar.divsi v439 c2_i32_207
  let c1_i32_213 : BitVec 32 := 1#32
  let v473 : BitVec 32 := Scalar.subi v458 c1_i32_213
  let v474 : BitVec 32 := Scalar.select v472 v473 v458
  let c1_i32_214 : BitVec 32 := 1#32
  let v475 : BitVec 32 := Scalar.andi v474 c1_i32_214
  let c2_i32_215 : BitVec 32 := 2#32
  let v476 : BitVec 32 := Scalar.muli v475 c2_i32_215
  let c0_i32_217 : BitVec 32 := 0#32
  let v478 : BitVec 1 := Scalar.cmpi .sgt v439 c0_i32_217
  let v479 : BitVec 32 := Scalar.extui v478
  let c0_i32_218 : BitVec 32 := 0#32
  let v480 : BitVec 1 := Scalar.cmpi .slt v439 c0_i32_218
  let v481 : BitVec 32 := Scalar.extui v480
  let v482 : BitVec 32 := Scalar.subi v479 v481
  let c8_i32_216 : BitVec 32 := 8#32
  let c0_i32_219 : BitVec 32 := 0#32
  let v483 : BitVec 1 := Scalar.cmpi .sgt c8_i32_216 c0_i32_219
  let v484 : BitVec 32 := Scalar.extui v483
  let c0_i32_220 : BitVec 32 := 0#32
  let v485 : BitVec 1 := Scalar.cmpi .slt c8_i32_216 c0_i32_220
  let v486 : BitVec 32 := Scalar.extui v485
  let v487 : BitVec 32 := Scalar.subi v484 v486
  let v488 : BitVec 1 := Scalar.cmpi .ne v482 v487
  let v489 : BitVec 32 := Scalar.remsi v439 c8_i32_216
  let c0_i32_221 : BitVec 32 := 0#32
  let v490 : BitVec 1 := Scalar.cmpi .ne v489 c0_i32_221
  let v491 : BitVec 1 := Scalar.andi v488 v490
  let v477 : BitVec 32 := Scalar.divsi v439 c8_i32_216
  let c1_i32_222 : BitVec 32 := 1#32
  let v492 : BitVec 32 := Scalar.subi v477 c1_i32_222
  let v493 : BitVec 32 := Scalar.select v491 v492 v477
  let c1_i32_223 : BitVec 32 := 1#32
  let v494 : BitVec 32 := Scalar.andi v493 c1_i32_223
  let v495 : BitVec 32 := Scalar.addi v476 v494
  let v517 : BitVec 32 := Scalar.muli c2_i32_234 v495
  let c0_i32_200 : BitVec 32 := 0#32
  let v441 : BitVec 1 := Scalar.cmpi .sgt v439 c0_i32_200
  let v442 : BitVec 32 := Scalar.extui v441
  let c0_i32_201 : BitVec 32 := 0#32
  let v443 : BitVec 1 := Scalar.cmpi .slt v439 c0_i32_201
  let v444 : BitVec 32 := Scalar.extui v443
  let v445 : BitVec 32 := Scalar.subi v442 v444
  let c16_i32_199 : BitVec 32 := 16#32
  let c0_i32_202 : BitVec 32 := 0#32
  let v446 : BitVec 1 := Scalar.cmpi .sgt c16_i32_199 c0_i32_202
  let v447 : BitVec 32 := Scalar.extui v446
  let c0_i32_203 : BitVec 32 := 0#32
  let v448 : BitVec 1 := Scalar.cmpi .slt c16_i32_199 c0_i32_203
  let v449 : BitVec 32 := Scalar.extui v448
  let v450 : BitVec 32 := Scalar.subi v447 v449
  let v451 : BitVec 1 := Scalar.cmpi .ne v445 v450
  let v452 : BitVec 32 := Scalar.remsi v439 c16_i32_199
  let c0_i32_204 : BitVec 32 := 0#32
  let v453 : BitVec 1 := Scalar.cmpi .ne v452 c0_i32_204
  let v454 : BitVec 1 := Scalar.andi v451 v453
  let v440 : BitVec 32 := Scalar.divsi v439 c16_i32_199
  let c1_i32_205 : BitVec 32 := 1#32
  let v455 : BitVec 32 := Scalar.subi v440 c1_i32_205
  let v456 : BitVec 32 := Scalar.select v454 v455 v440
  let c1_i32_206 : BitVec 32 := 1#32
  let v457 : BitVec 32 := Scalar.andi v456 c1_i32_206
  let c1_i32_235 : BitVec 32 := 1#32
  let v518 : BitVec 32 := Scalar.andi v495 c1_i32_235
  let v519 : BitVec 32 := Scalar.xori v457 v518
  let v520 : BitVec 32 := Scalar.addi v517 v519
  let v522 : BitVec 32 := Scalar.addi v521 v520
  let c1_i32_708 : BitVec 32 := 1#32
  let v1917 : BitVec 32 := Scalar.muli v522 c1_i32_708
  let v1918 : BitVec 32 := Scalar.addi c0_i32_709 v1917
  v1918.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2266 : Index := Scalar.indexCast v2
  let c0_826 : Index := 0#32
  let c0_827 : Index := 0#32
  ![v2266.toNat, 0, 0]
def k0_dev11 (d0 : Dev nD) : Nat :=
  let c0_i32_832_r0 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c1_i32_42 : BitVec 32 := 1#32
  let v103 : BitVec 32 := Scalar.xori v102 c1_i32_42
  let c1_i32_68 : BitVec 32 := 1#32
  let v160 : BitVec 32 := Scalar.andi v103 c1_i32_68
  let c2_i32_69 : BitVec 32 := 2#32
  let v161 : BitVec 32 := Scalar.muli v160 c2_i32_69
  let c0_i32_71 : BitVec 32 := 0#32
  let v163 : BitVec 1 := Scalar.cmpi .sgt v103 c0_i32_71
  let v164 : BitVec 32 := Scalar.extui v163
  let c0_i32_72 : BitVec 32 := 0#32
  let v165 : BitVec 1 := Scalar.cmpi .slt v103 c0_i32_72
  let v166 : BitVec 32 := Scalar.extui v165
  let v167 : BitVec 32 := Scalar.subi v164 v166
  let c4_i32_70 : BitVec 32 := 4#32
  let c0_i32_73 : BitVec 32 := 0#32
  let v168 : BitVec 1 := Scalar.cmpi .sgt c4_i32_70 c0_i32_73
  let v169 : BitVec 32 := Scalar.extui v168
  let c0_i32_74 : BitVec 32 := 0#32
  let v170 : BitVec 1 := Scalar.cmpi .slt c4_i32_70 c0_i32_74
  let v171 : BitVec 32 := Scalar.extui v170
  let v172 : BitVec 32 := Scalar.subi v169 v171
  let v173 : BitVec 1 := Scalar.cmpi .ne v167 v172
  let v174 : BitVec 32 := Scalar.remsi v103 c4_i32_70
  let c0_i32_75 : BitVec 32 := 0#32
  let v175 : BitVec 1 := Scalar.cmpi .ne v174 c0_i32_75
  let v176 : BitVec 1 := Scalar.andi v173 v175
  let v162 : BitVec 32 := Scalar.divsi v103 c4_i32_70
  let c1_i32_76 : BitVec 32 := 1#32
  let v177 : BitVec 32 := Scalar.subi v162 c1_i32_76
  let v178 : BitVec 32 := Scalar.select v176 v177 v162
  let c1_i32_77 : BitVec 32 := 1#32
  let v179 : BitVec 32 := Scalar.andi v178 c1_i32_77
  let v180 : BitVec 32 := Scalar.addi v161 v179
  let v185 : BitVec 32 := Scalar.muli c8_i32_80 v180
  let c2_i32_78 : BitVec 32 := 2#32
  let c0_i32_52 : BitVec 32 := 0#32
  let v123 : BitVec 1 := Scalar.cmpi .sgt v103 c0_i32_52
  let v124 : BitVec 32 := Scalar.extui v123
  let c0_i32_53 : BitVec 32 := 0#32
  let v125 : BitVec 1 := Scalar.cmpi .slt v103 c0_i32_53
  let v126 : BitVec 32 := Scalar.extui v125
  let v127 : BitVec 32 := Scalar.subi v124 v126
  let c2_i32_51 : BitVec 32 := 2#32
  let c0_i32_54 : BitVec 32 := 0#32
  let v128 : BitVec 1 := Scalar.cmpi .sgt c2_i32_51 c0_i32_54
  let v129 : BitVec 32 := Scalar.extui v128
  let c0_i32_55 : BitVec 32 := 0#32
  let v130 : BitVec 1 := Scalar.cmpi .slt c2_i32_51 c0_i32_55
  let v131 : BitVec 32 := Scalar.extui v130
  let v132 : BitVec 32 := Scalar.subi v129 v131
  let v133 : BitVec 1 := Scalar.cmpi .ne v127 v132
  let v134 : BitVec 32 := Scalar.remsi v103 c2_i32_51
  let c0_i32_56 : BitVec 32 := 0#32
  let v135 : BitVec 1 := Scalar.cmpi .ne v134 c0_i32_56
  let v136 : BitVec 1 := Scalar.andi v133 v135
  let v122 : BitVec 32 := Scalar.divsi v103 c2_i32_51
  let c1_i32_57 : BitVec 32 := 1#32
  let v137 : BitVec 32 := Scalar.subi v122 c1_i32_57
  let v138 : BitVec 32 := Scalar.select v136 v137 v122
  let c1_i32_58 : BitVec 32 := 1#32
  let v139 : BitVec 32 := Scalar.andi v138 c1_i32_58
  let c2_i32_59 : BitVec 32 := 2#32
  let v140 : BitVec 32 := Scalar.muli v139 c2_i32_59
  let c0_i32_61 : BitVec 32 := 0#32
  let v142 : BitVec 1 := Scalar.cmpi .sgt v103 c0_i32_61
  let v143 : BitVec 32 := Scalar.extui v142
  let c0_i32_62 : BitVec 32 := 0#32
  let v144 : BitVec 1 := Scalar.cmpi .slt v103 c0_i32_62
  let v145 : BitVec 32 := Scalar.extui v144
  let v146 : BitVec 32 := Scalar.subi v143 v145
  let c8_i32_60 : BitVec 32 := 8#32
  let c0_i32_63 : BitVec 32 := 0#32
  let v147 : BitVec 1 := Scalar.cmpi .sgt c8_i32_60 c0_i32_63
  let v148 : BitVec 32 := Scalar.extui v147
  let c0_i32_64 : BitVec 32 := 0#32
  let v149 : BitVec 1 := Scalar.cmpi .slt c8_i32_60 c0_i32_64
  let v150 : BitVec 32 := Scalar.extui v149
  let v151 : BitVec 32 := Scalar.subi v148 v150
  let v152 : BitVec 1 := Scalar.cmpi .ne v146 v151
  let v153 : BitVec 32 := Scalar.remsi v103 c8_i32_60
  let c0_i32_65 : BitVec 32 := 0#32
  let v154 : BitVec 1 := Scalar.cmpi .ne v153 c0_i32_65
  let v155 : BitVec 1 := Scalar.andi v152 v154
  let v141 : BitVec 32 := Scalar.divsi v103 c8_i32_60
  let c1_i32_66 : BitVec 32 := 1#32
  let v156 : BitVec 32 := Scalar.subi v141 c1_i32_66
  let v157 : BitVec 32 := Scalar.select v155 v156 v141
  let c1_i32_67 : BitVec 32 := 1#32
  let v158 : BitVec 32 := Scalar.andi v157 c1_i32_67
  let v159 : BitVec 32 := Scalar.addi v140 v158
  let v181 : BitVec 32 := Scalar.muli c2_i32_78 v159
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c16_i32_43 : BitVec 32 := 16#32
  let c0_i32_46 : BitVec 32 := 0#32
  let v110 : BitVec 1 := Scalar.cmpi .sgt c16_i32_43 c0_i32_46
  let v111 : BitVec 32 := Scalar.extui v110
  let c0_i32_47 : BitVec 32 := 0#32
  let v112 : BitVec 1 := Scalar.cmpi .slt c16_i32_43 c0_i32_47
  let v113 : BitVec 32 := Scalar.extui v112
  let v114 : BitVec 32 := Scalar.subi v111 v113
  let v115 : BitVec 1 := Scalar.cmpi .ne v109 v114
  let v116 : BitVec 32 := Scalar.remsi v103 c16_i32_43
  let c0_i32_48 : BitVec 32 := 0#32
  let v117 : BitVec 1 := Scalar.cmpi .ne v116 c0_i32_48
  let v118 : BitVec 1 := Scalar.andi v115 v117
  let v104 : BitVec 32 := Scalar.divsi v103 c16_i32_43
  let c1_i32_49 : BitVec 32 := 1#32
  let v119 : BitVec 32 := Scalar.subi v104 c1_i32_49
  let v120 : BitVec 32 := Scalar.select v118 v119 v104
  let c1_i32_50 : BitVec 32 := 1#32
  let v121 : BitVec 32 := Scalar.andi v120 c1_i32_50
  let c1_i32_79 : BitVec 32 := 1#32
  let v182 : BitVec 32 := Scalar.andi v159 c1_i32_79
  let v183 : BitVec 32 := Scalar.xori v121 v182
  let v184 : BitVec 32 := Scalar.addi v181 v183
  let v186 : BitVec 32 := Scalar.addi v185 v184
  let c1_i32_831_r0 : BitVec 32 := 1#32
  let v2271_r0 : BitVec 32 := Scalar.muli v186 c1_i32_831_r0
  let v2272_r0 : BitVec 32 := Scalar.addi c0_i32_832_r0 v2271_r0
  v2272_r0.toNat
def k0_dev12 (d0 : Dev nD) : Nat :=
  let c0_i32_835_r0 : BitVec 32 := 0#32
  let c8_i32_119 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c2_i32_81 : BitVec 32 := 2#32
  let v187 : BitVec 32 := Scalar.xori v102 c2_i32_81
  let c1_i32_107 : BitVec 32 := 1#32
  let v244 : BitVec 32 := Scalar.andi v187 c1_i32_107
  let c2_i32_108 : BitVec 32 := 2#32
  let v245 : BitVec 32 := Scalar.muli v244 c2_i32_108
  let c0_i32_110 : BitVec 32 := 0#32
  let v247 : BitVec 1 := Scalar.cmpi .sgt v187 c0_i32_110
  let v248 : BitVec 32 := Scalar.extui v247
  let c0_i32_111 : BitVec 32 := 0#32
  let v249 : BitVec 1 := Scalar.cmpi .slt v187 c0_i32_111
  let v250 : BitVec 32 := Scalar.extui v249
  let v251 : BitVec 32 := Scalar.subi v248 v250
  let c4_i32_109 : BitVec 32 := 4#32
  let c0_i32_112 : BitVec 32 := 0#32
  let v252 : BitVec 1 := Scalar.cmpi .sgt c4_i32_109 c0_i32_112
  let v253 : BitVec 32 := Scalar.extui v252
  let c0_i32_113 : BitVec 32 := 0#32
  let v254 : BitVec 1 := Scalar.cmpi .slt c4_i32_109 c0_i32_113
  let v255 : BitVec 32 := Scalar.extui v254
  let v256 : BitVec 32 := Scalar.subi v253 v255
  let v257 : BitVec 1 := Scalar.cmpi .ne v251 v256
  let v258 : BitVec 32 := Scalar.remsi v187 c4_i32_109
  let c0_i32_114 : BitVec 32 := 0#32
  let v259 : BitVec 1 := Scalar.cmpi .ne v258 c0_i32_114
  let v260 : BitVec 1 := Scalar.andi v257 v259
  let v246 : BitVec 32 := Scalar.divsi v187 c4_i32_109
  let c1_i32_115 : BitVec 32 := 1#32
  let v261 : BitVec 32 := Scalar.subi v246 c1_i32_115
  let v262 : BitVec 32 := Scalar.select v260 v261 v246
  let c1_i32_116 : BitVec 32 := 1#32
  let v263 : BitVec 32 := Scalar.andi v262 c1_i32_116
  let v264 : BitVec 32 := Scalar.addi v245 v263
  let v269 : BitVec 32 := Scalar.muli c8_i32_119 v264
  let c2_i32_117 : BitVec 32 := 2#32
  let c0_i32_91 : BitVec 32 := 0#32
  let v207 : BitVec 1 := Scalar.cmpi .sgt v187 c0_i32_91
  let v208 : BitVec 32 := Scalar.extui v207
  let c0_i32_92 : BitVec 32 := 0#32
  let v209 : BitVec 1 := Scalar.cmpi .slt v187 c0_i32_92
  let v210 : BitVec 32 := Scalar.extui v209
  let v211 : BitVec 32 := Scalar.subi v208 v210
  let c2_i32_90 : BitVec 32 := 2#32
  let c0_i32_93 : BitVec 32 := 0#32
  let v212 : BitVec 1 := Scalar.cmpi .sgt c2_i32_90 c0_i32_93
  let v213 : BitVec 32 := Scalar.extui v212
  let c0_i32_94 : BitVec 32 := 0#32
  let v214 : BitVec 1 := Scalar.cmpi .slt c2_i32_90 c0_i32_94
  let v215 : BitVec 32 := Scalar.extui v214
  let v216 : BitVec 32 := Scalar.subi v213 v215
  let v217 : BitVec 1 := Scalar.cmpi .ne v211 v216
  let v218 : BitVec 32 := Scalar.remsi v187 c2_i32_90
  let c0_i32_95 : BitVec 32 := 0#32
  let v219 : BitVec 1 := Scalar.cmpi .ne v218 c0_i32_95
  let v220 : BitVec 1 := Scalar.andi v217 v219
  let v206 : BitVec 32 := Scalar.divsi v187 c2_i32_90
  let c1_i32_96 : BitVec 32 := 1#32
  let v221 : BitVec 32 := Scalar.subi v206 c1_i32_96
  let v222 : BitVec 32 := Scalar.select v220 v221 v206
  let c1_i32_97 : BitVec 32 := 1#32
  let v223 : BitVec 32 := Scalar.andi v222 c1_i32_97
  let c2_i32_98 : BitVec 32 := 2#32
  let v224 : BitVec 32 := Scalar.muli v223 c2_i32_98
  let c0_i32_100 : BitVec 32 := 0#32
  let v226 : BitVec 1 := Scalar.cmpi .sgt v187 c0_i32_100
  let v227 : BitVec 32 := Scalar.extui v226
  let c0_i32_101 : BitVec 32 := 0#32
  let v228 : BitVec 1 := Scalar.cmpi .slt v187 c0_i32_101
  let v229 : BitVec 32 := Scalar.extui v228
  let v230 : BitVec 32 := Scalar.subi v227 v229
  let c8_i32_99 : BitVec 32 := 8#32
  let c0_i32_102 : BitVec 32 := 0#32
  let v231 : BitVec 1 := Scalar.cmpi .sgt c8_i32_99 c0_i32_102
  let v232 : BitVec 32 := Scalar.extui v231
  let c0_i32_103 : BitVec 32 := 0#32
  let v233 : BitVec 1 := Scalar.cmpi .slt c8_i32_99 c0_i32_103
  let v234 : BitVec 32 := Scalar.extui v233
  let v235 : BitVec 32 := Scalar.subi v232 v234
  let v236 : BitVec 1 := Scalar.cmpi .ne v230 v235
  let v237 : BitVec 32 := Scalar.remsi v187 c8_i32_99
  let c0_i32_104 : BitVec 32 := 0#32
  let v238 : BitVec 1 := Scalar.cmpi .ne v237 c0_i32_104
  let v239 : BitVec 1 := Scalar.andi v236 v238
  let v225 : BitVec 32 := Scalar.divsi v187 c8_i32_99
  let c1_i32_105 : BitVec 32 := 1#32
  let v240 : BitVec 32 := Scalar.subi v225 c1_i32_105
  let v241 : BitVec 32 := Scalar.select v239 v240 v225
  let c1_i32_106 : BitVec 32 := 1#32
  let v242 : BitVec 32 := Scalar.andi v241 c1_i32_106
  let v243 : BitVec 32 := Scalar.addi v224 v242
  let v265 : BitVec 32 := Scalar.muli c2_i32_117 v243
  let c0_i32_83 : BitVec 32 := 0#32
  let v189 : BitVec 1 := Scalar.cmpi .sgt v187 c0_i32_83
  let v190 : BitVec 32 := Scalar.extui v189
  let c0_i32_84 : BitVec 32 := 0#32
  let v191 : BitVec 1 := Scalar.cmpi .slt v187 c0_i32_84
  let v192 : BitVec 32 := Scalar.extui v191
  let v193 : BitVec 32 := Scalar.subi v190 v192
  let c16_i32_82 : BitVec 32 := 16#32
  let c0_i32_85 : BitVec 32 := 0#32
  let v194 : BitVec 1 := Scalar.cmpi .sgt c16_i32_82 c0_i32_85
  let v195 : BitVec 32 := Scalar.extui v194
  let c0_i32_86 : BitVec 32 := 0#32
  let v196 : BitVec 1 := Scalar.cmpi .slt c16_i32_82 c0_i32_86
  let v197 : BitVec 32 := Scalar.extui v196
  let v198 : BitVec 32 := Scalar.subi v195 v197
  let v199 : BitVec 1 := Scalar.cmpi .ne v193 v198
  let v200 : BitVec 32 := Scalar.remsi v187 c16_i32_82
  let c0_i32_87 : BitVec 32 := 0#32
  let v201 : BitVec 1 := Scalar.cmpi .ne v200 c0_i32_87
  let v202 : BitVec 1 := Scalar.andi v199 v201
  let v188 : BitVec 32 := Scalar.divsi v187 c16_i32_82
  let c1_i32_88 : BitVec 32 := 1#32
  let v203 : BitVec 32 := Scalar.subi v188 c1_i32_88
  let v204 : BitVec 32 := Scalar.select v202 v203 v188
  let c1_i32_89 : BitVec 32 := 1#32
  let v205 : BitVec 32 := Scalar.andi v204 c1_i32_89
  let c1_i32_118 : BitVec 32 := 1#32
  let v266 : BitVec 32 := Scalar.andi v243 c1_i32_118
  let v267 : BitVec 32 := Scalar.xori v205 v266
  let v268 : BitVec 32 := Scalar.addi v265 v267
  let v270 : BitVec 32 := Scalar.addi v269 v268
  let c1_i32_834_r0 : BitVec 32 := 1#32
  let v2273_r0 : BitVec 32 := Scalar.muli v270 c1_i32_834_r0
  let v2274_r0 : BitVec 32 := Scalar.addi c0_i32_835_r0 v2273_r0
  v2274_r0.toNat
def k0_dev13 (d0 : Dev nD) : Nat :=
  let c0_i32_838_r0 : BitVec 32 := 0#32
  let c8_i32_158 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c4_i32_120 : BitVec 32 := 4#32
  let v271 : BitVec 32 := Scalar.xori v102 c4_i32_120
  let c1_i32_146 : BitVec 32 := 1#32
  let v328 : BitVec 32 := Scalar.andi v271 c1_i32_146
  let c2_i32_147 : BitVec 32 := 2#32
  let v329 : BitVec 32 := Scalar.muli v328 c2_i32_147
  let c0_i32_149 : BitVec 32 := 0#32
  let v331 : BitVec 1 := Scalar.cmpi .sgt v271 c0_i32_149
  let v332 : BitVec 32 := Scalar.extui v331
  let c0_i32_150 : BitVec 32 := 0#32
  let v333 : BitVec 1 := Scalar.cmpi .slt v271 c0_i32_150
  let v334 : BitVec 32 := Scalar.extui v333
  let v335 : BitVec 32 := Scalar.subi v332 v334
  let c4_i32_148 : BitVec 32 := 4#32
  let c0_i32_151 : BitVec 32 := 0#32
  let v336 : BitVec 1 := Scalar.cmpi .sgt c4_i32_148 c0_i32_151
  let v337 : BitVec 32 := Scalar.extui v336
  let c0_i32_152 : BitVec 32 := 0#32
  let v338 : BitVec 1 := Scalar.cmpi .slt c4_i32_148 c0_i32_152
  let v339 : BitVec 32 := Scalar.extui v338
  let v340 : BitVec 32 := Scalar.subi v337 v339
  let v341 : BitVec 1 := Scalar.cmpi .ne v335 v340
  let v342 : BitVec 32 := Scalar.remsi v271 c4_i32_148
  let c0_i32_153 : BitVec 32 := 0#32
  let v343 : BitVec 1 := Scalar.cmpi .ne v342 c0_i32_153
  let v344 : BitVec 1 := Scalar.andi v341 v343
  let v330 : BitVec 32 := Scalar.divsi v271 c4_i32_148
  let c1_i32_154 : BitVec 32 := 1#32
  let v345 : BitVec 32 := Scalar.subi v330 c1_i32_154
  let v346 : BitVec 32 := Scalar.select v344 v345 v330
  let c1_i32_155 : BitVec 32 := 1#32
  let v347 : BitVec 32 := Scalar.andi v346 c1_i32_155
  let v348 : BitVec 32 := Scalar.addi v329 v347
  let v353 : BitVec 32 := Scalar.muli c8_i32_158 v348
  let c2_i32_156 : BitVec 32 := 2#32
  let c0_i32_130 : BitVec 32 := 0#32
  let v291 : BitVec 1 := Scalar.cmpi .sgt v271 c0_i32_130
  let v292 : BitVec 32 := Scalar.extui v291
  let c0_i32_131 : BitVec 32 := 0#32
  let v293 : BitVec 1 := Scalar.cmpi .slt v271 c0_i32_131
  let v294 : BitVec 32 := Scalar.extui v293
  let v295 : BitVec 32 := Scalar.subi v292 v294
  let c2_i32_129 : BitVec 32 := 2#32
  let c0_i32_132 : BitVec 32 := 0#32
  let v296 : BitVec 1 := Scalar.cmpi .sgt c2_i32_129 c0_i32_132
  let v297 : BitVec 32 := Scalar.extui v296
  let c0_i32_133 : BitVec 32 := 0#32
  let v298 : BitVec 1 := Scalar.cmpi .slt c2_i32_129 c0_i32_133
  let v299 : BitVec 32 := Scalar.extui v298
  let v300 : BitVec 32 := Scalar.subi v297 v299
  let v301 : BitVec 1 := Scalar.cmpi .ne v295 v300
  let v302 : BitVec 32 := Scalar.remsi v271 c2_i32_129
  let c0_i32_134 : BitVec 32 := 0#32
  let v303 : BitVec 1 := Scalar.cmpi .ne v302 c0_i32_134
  let v304 : BitVec 1 := Scalar.andi v301 v303
  let v290 : BitVec 32 := Scalar.divsi v271 c2_i32_129
  let c1_i32_135 : BitVec 32 := 1#32
  let v305 : BitVec 32 := Scalar.subi v290 c1_i32_135
  let v306 : BitVec 32 := Scalar.select v304 v305 v290
  let c1_i32_136 : BitVec 32 := 1#32
  let v307 : BitVec 32 := Scalar.andi v306 c1_i32_136
  let c2_i32_137 : BitVec 32 := 2#32
  let v308 : BitVec 32 := Scalar.muli v307 c2_i32_137
  let c0_i32_139 : BitVec 32 := 0#32
  let v310 : BitVec 1 := Scalar.cmpi .sgt v271 c0_i32_139
  let v311 : BitVec 32 := Scalar.extui v310
  let c0_i32_140 : BitVec 32 := 0#32
  let v312 : BitVec 1 := Scalar.cmpi .slt v271 c0_i32_140
  let v313 : BitVec 32 := Scalar.extui v312
  let v314 : BitVec 32 := Scalar.subi v311 v313
  let c8_i32_138 : BitVec 32 := 8#32
  let c0_i32_141 : BitVec 32 := 0#32
  let v315 : BitVec 1 := Scalar.cmpi .sgt c8_i32_138 c0_i32_141
  let v316 : BitVec 32 := Scalar.extui v315
  let c0_i32_142 : BitVec 32 := 0#32
  let v317 : BitVec 1 := Scalar.cmpi .slt c8_i32_138 c0_i32_142
  let v318 : BitVec 32 := Scalar.extui v317
  let v319 : BitVec 32 := Scalar.subi v316 v318
  let v320 : BitVec 1 := Scalar.cmpi .ne v314 v319
  let v321 : BitVec 32 := Scalar.remsi v271 c8_i32_138
  let c0_i32_143 : BitVec 32 := 0#32
  let v322 : BitVec 1 := Scalar.cmpi .ne v321 c0_i32_143
  let v323 : BitVec 1 := Scalar.andi v320 v322
  let v309 : BitVec 32 := Scalar.divsi v271 c8_i32_138
  let c1_i32_144 : BitVec 32 := 1#32
  let v324 : BitVec 32 := Scalar.subi v309 c1_i32_144
  let v325 : BitVec 32 := Scalar.select v323 v324 v309
  let c1_i32_145 : BitVec 32 := 1#32
  let v326 : BitVec 32 := Scalar.andi v325 c1_i32_145
  let v327 : BitVec 32 := Scalar.addi v308 v326
  let v349 : BitVec 32 := Scalar.muli c2_i32_156 v327
  let c0_i32_122 : BitVec 32 := 0#32
  let v273 : BitVec 1 := Scalar.cmpi .sgt v271 c0_i32_122
  let v274 : BitVec 32 := Scalar.extui v273
  let c0_i32_123 : BitVec 32 := 0#32
  let v275 : BitVec 1 := Scalar.cmpi .slt v271 c0_i32_123
  let v276 : BitVec 32 := Scalar.extui v275
  let v277 : BitVec 32 := Scalar.subi v274 v276
  let c16_i32_121 : BitVec 32 := 16#32
  let c0_i32_124 : BitVec 32 := 0#32
  let v278 : BitVec 1 := Scalar.cmpi .sgt c16_i32_121 c0_i32_124
  let v279 : BitVec 32 := Scalar.extui v278
  let c0_i32_125 : BitVec 32 := 0#32
  let v280 : BitVec 1 := Scalar.cmpi .slt c16_i32_121 c0_i32_125
  let v281 : BitVec 32 := Scalar.extui v280
  let v282 : BitVec 32 := Scalar.subi v279 v281
  let v283 : BitVec 1 := Scalar.cmpi .ne v277 v282
  let v284 : BitVec 32 := Scalar.remsi v271 c16_i32_121
  let c0_i32_126 : BitVec 32 := 0#32
  let v285 : BitVec 1 := Scalar.cmpi .ne v284 c0_i32_126
  let v286 : BitVec 1 := Scalar.andi v283 v285
  let v272 : BitVec 32 := Scalar.divsi v271 c16_i32_121
  let c1_i32_127 : BitVec 32 := 1#32
  let v287 : BitVec 32 := Scalar.subi v272 c1_i32_127
  let v288 : BitVec 32 := Scalar.select v286 v287 v272
  let c1_i32_128 : BitVec 32 := 1#32
  let v289 : BitVec 32 := Scalar.andi v288 c1_i32_128
  let c1_i32_157 : BitVec 32 := 1#32
  let v350 : BitVec 32 := Scalar.andi v327 c1_i32_157
  let v351 : BitVec 32 := Scalar.xori v289 v350
  let v352 : BitVec 32 := Scalar.addi v349 v351
  let v354 : BitVec 32 := Scalar.addi v353 v352
  let c1_i32_837_r0 : BitVec 32 := 1#32
  let v2275_r0 : BitVec 32 := Scalar.muli v354 c1_i32_837_r0
  let v2276_r0 : BitVec 32 := Scalar.addi c0_i32_838_r0 v2275_r0
  v2276_r0.toNat
def k0_dev14 (d0 : Dev nD) : Nat :=
  let c0_i32_841_r0 : BitVec 32 := 0#32
  let c8_i32_197 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c8_i32_159 : BitVec 32 := 8#32
  let v355 : BitVec 32 := Scalar.xori v102 c8_i32_159
  let c1_i32_185 : BitVec 32 := 1#32
  let v412 : BitVec 32 := Scalar.andi v355 c1_i32_185
  let c2_i32_186 : BitVec 32 := 2#32
  let v413 : BitVec 32 := Scalar.muli v412 c2_i32_186
  let c0_i32_188 : BitVec 32 := 0#32
  let v415 : BitVec 1 := Scalar.cmpi .sgt v355 c0_i32_188
  let v416 : BitVec 32 := Scalar.extui v415
  let c0_i32_189 : BitVec 32 := 0#32
  let v417 : BitVec 1 := Scalar.cmpi .slt v355 c0_i32_189
  let v418 : BitVec 32 := Scalar.extui v417
  let v419 : BitVec 32 := Scalar.subi v416 v418
  let c4_i32_187 : BitVec 32 := 4#32
  let c0_i32_190 : BitVec 32 := 0#32
  let v420 : BitVec 1 := Scalar.cmpi .sgt c4_i32_187 c0_i32_190
  let v421 : BitVec 32 := Scalar.extui v420
  let c0_i32_191 : BitVec 32 := 0#32
  let v422 : BitVec 1 := Scalar.cmpi .slt c4_i32_187 c0_i32_191
  let v423 : BitVec 32 := Scalar.extui v422
  let v424 : BitVec 32 := Scalar.subi v421 v423
  let v425 : BitVec 1 := Scalar.cmpi .ne v419 v424
  let v426 : BitVec 32 := Scalar.remsi v355 c4_i32_187
  let c0_i32_192 : BitVec 32 := 0#32
  let v427 : BitVec 1 := Scalar.cmpi .ne v426 c0_i32_192
  let v428 : BitVec 1 := Scalar.andi v425 v427
  let v414 : BitVec 32 := Scalar.divsi v355 c4_i32_187
  let c1_i32_193 : BitVec 32 := 1#32
  let v429 : BitVec 32 := Scalar.subi v414 c1_i32_193
  let v430 : BitVec 32 := Scalar.select v428 v429 v414
  let c1_i32_194 : BitVec 32 := 1#32
  let v431 : BitVec 32 := Scalar.andi v430 c1_i32_194
  let v432 : BitVec 32 := Scalar.addi v413 v431
  let v437 : BitVec 32 := Scalar.muli c8_i32_197 v432
  let c2_i32_195 : BitVec 32 := 2#32
  let c0_i32_169 : BitVec 32 := 0#32
  let v375 : BitVec 1 := Scalar.cmpi .sgt v355 c0_i32_169
  let v376 : BitVec 32 := Scalar.extui v375
  let c0_i32_170 : BitVec 32 := 0#32
  let v377 : BitVec 1 := Scalar.cmpi .slt v355 c0_i32_170
  let v378 : BitVec 32 := Scalar.extui v377
  let v379 : BitVec 32 := Scalar.subi v376 v378
  let c2_i32_168 : BitVec 32 := 2#32
  let c0_i32_171 : BitVec 32 := 0#32
  let v380 : BitVec 1 := Scalar.cmpi .sgt c2_i32_168 c0_i32_171
  let v381 : BitVec 32 := Scalar.extui v380
  let c0_i32_172 : BitVec 32 := 0#32
  let v382 : BitVec 1 := Scalar.cmpi .slt c2_i32_168 c0_i32_172
  let v383 : BitVec 32 := Scalar.extui v382
  let v384 : BitVec 32 := Scalar.subi v381 v383
  let v385 : BitVec 1 := Scalar.cmpi .ne v379 v384
  let v386 : BitVec 32 := Scalar.remsi v355 c2_i32_168
  let c0_i32_173 : BitVec 32 := 0#32
  let v387 : BitVec 1 := Scalar.cmpi .ne v386 c0_i32_173
  let v388 : BitVec 1 := Scalar.andi v385 v387
  let v374 : BitVec 32 := Scalar.divsi v355 c2_i32_168
  let c1_i32_174 : BitVec 32 := 1#32
  let v389 : BitVec 32 := Scalar.subi v374 c1_i32_174
  let v390 : BitVec 32 := Scalar.select v388 v389 v374
  let c1_i32_175 : BitVec 32 := 1#32
  let v391 : BitVec 32 := Scalar.andi v390 c1_i32_175
  let c2_i32_176 : BitVec 32 := 2#32
  let v392 : BitVec 32 := Scalar.muli v391 c2_i32_176
  let c0_i32_178 : BitVec 32 := 0#32
  let v394 : BitVec 1 := Scalar.cmpi .sgt v355 c0_i32_178
  let v395 : BitVec 32 := Scalar.extui v394
  let c0_i32_179 : BitVec 32 := 0#32
  let v396 : BitVec 1 := Scalar.cmpi .slt v355 c0_i32_179
  let v397 : BitVec 32 := Scalar.extui v396
  let v398 : BitVec 32 := Scalar.subi v395 v397
  let c8_i32_177 : BitVec 32 := 8#32
  let c0_i32_180 : BitVec 32 := 0#32
  let v399 : BitVec 1 := Scalar.cmpi .sgt c8_i32_177 c0_i32_180
  let v400 : BitVec 32 := Scalar.extui v399
  let c0_i32_181 : BitVec 32 := 0#32
  let v401 : BitVec 1 := Scalar.cmpi .slt c8_i32_177 c0_i32_181
  let v402 : BitVec 32 := Scalar.extui v401
  let v403 : BitVec 32 := Scalar.subi v400 v402
  let v404 : BitVec 1 := Scalar.cmpi .ne v398 v403
  let v405 : BitVec 32 := Scalar.remsi v355 c8_i32_177
  let c0_i32_182 : BitVec 32 := 0#32
  let v406 : BitVec 1 := Scalar.cmpi .ne v405 c0_i32_182
  let v407 : BitVec 1 := Scalar.andi v404 v406
  let v393 : BitVec 32 := Scalar.divsi v355 c8_i32_177
  let c1_i32_183 : BitVec 32 := 1#32
  let v408 : BitVec 32 := Scalar.subi v393 c1_i32_183
  let v409 : BitVec 32 := Scalar.select v407 v408 v393
  let c1_i32_184 : BitVec 32 := 1#32
  let v410 : BitVec 32 := Scalar.andi v409 c1_i32_184
  let v411 : BitVec 32 := Scalar.addi v392 v410
  let v433 : BitVec 32 := Scalar.muli c2_i32_195 v411
  let c0_i32_161 : BitVec 32 := 0#32
  let v357 : BitVec 1 := Scalar.cmpi .sgt v355 c0_i32_161
  let v358 : BitVec 32 := Scalar.extui v357
  let c0_i32_162 : BitVec 32 := 0#32
  let v359 : BitVec 1 := Scalar.cmpi .slt v355 c0_i32_162
  let v360 : BitVec 32 := Scalar.extui v359
  let v361 : BitVec 32 := Scalar.subi v358 v360
  let c16_i32_160 : BitVec 32 := 16#32
  let c0_i32_163 : BitVec 32 := 0#32
  let v362 : BitVec 1 := Scalar.cmpi .sgt c16_i32_160 c0_i32_163
  let v363 : BitVec 32 := Scalar.extui v362
  let c0_i32_164 : BitVec 32 := 0#32
  let v364 : BitVec 1 := Scalar.cmpi .slt c16_i32_160 c0_i32_164
  let v365 : BitVec 32 := Scalar.extui v364
  let v366 : BitVec 32 := Scalar.subi v363 v365
  let v367 : BitVec 1 := Scalar.cmpi .ne v361 v366
  let v368 : BitVec 32 := Scalar.remsi v355 c16_i32_160
  let c0_i32_165 : BitVec 32 := 0#32
  let v369 : BitVec 1 := Scalar.cmpi .ne v368 c0_i32_165
  let v370 : BitVec 1 := Scalar.andi v367 v369
  let v356 : BitVec 32 := Scalar.divsi v355 c16_i32_160
  let c1_i32_166 : BitVec 32 := 1#32
  let v371 : BitVec 32 := Scalar.subi v356 c1_i32_166
  let v372 : BitVec 32 := Scalar.select v370 v371 v356
  let c1_i32_167 : BitVec 32 := 1#32
  let v373 : BitVec 32 := Scalar.andi v372 c1_i32_167
  let c1_i32_196 : BitVec 32 := 1#32
  let v434 : BitVec 32 := Scalar.andi v411 c1_i32_196
  let v435 : BitVec 32 := Scalar.xori v373 v434
  let v436 : BitVec 32 := Scalar.addi v433 v435
  let v438 : BitVec 32 := Scalar.addi v437 v436
  let c1_i32_840_r0 : BitVec 32 := 1#32
  let v2277_r0 : BitVec 32 := Scalar.muli v438 c1_i32_840_r0
  let v2278_r0 : BitVec 32 := Scalar.addi c0_i32_841_r0 v2277_r0
  v2278_r0.toNat
def k0_dev15 (d0 : Dev nD) : Nat :=
  let c0_i32_844_r0 : BitVec 32 := 0#32
  let c8_i32_236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c16_i32 : BitVec 32 := 16#32
  let v59 : BitVec 32 := Scalar.muli v58 c16_i32
  let c1_i32_24 : BitVec 32 := 1#32
  let v60 : BitVec 32 := Scalar.andi v46 c1_i32_24
  let c8_i32_25 : BitVec 32 := 8#32
  let v61 : BitVec 32 := Scalar.muli v60 c8_i32_25
  let v62 : BitVec 32 := Scalar.addi v59 v61
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_26 : BitVec 32 := 1#32
  let v63 : BitVec 32 := Scalar.andi v19 c1_i32_26
  let c4_i32 : BitVec 32 := 4#32
  let v64 : BitVec 32 := Scalar.muli v63 c4_i32
  let v65 : BitVec 32 := Scalar.addi v62 v64
  let c0_i32_28 : BitVec 32 := 0#32
  let v67 : BitVec 1 := Scalar.cmpi .sgt v46 c0_i32_28
  let v68 : BitVec 32 := Scalar.extui v67
  let c0_i32_29 : BitVec 32 := 0#32
  let v69 : BitVec 1 := Scalar.cmpi .slt v46 c0_i32_29
  let v70 : BitVec 32 := Scalar.extui v69
  let v71 : BitVec 32 := Scalar.subi v68 v70
  let c2_i32_27 : BitVec 32 := 2#32
  let c0_i32_30 : BitVec 32 := 0#32
  let v72 : BitVec 1 := Scalar.cmpi .sgt c2_i32_27 c0_i32_30
  let v73 : BitVec 32 := Scalar.extui v72
  let c0_i32_31 : BitVec 32 := 0#32
  let v74 : BitVec 1 := Scalar.cmpi .slt c2_i32_27 c0_i32_31
  let v75 : BitVec 32 := Scalar.extui v74
  let v76 : BitVec 32 := Scalar.subi v73 v75
  let v77 : BitVec 1 := Scalar.cmpi .ne v71 v76
  let v78 : BitVec 32 := Scalar.remsi v46 c2_i32_27
  let c0_i32_32 : BitVec 32 := 0#32
  let v79 : BitVec 1 := Scalar.cmpi .ne v78 c0_i32_32
  let v80 : BitVec 1 := Scalar.andi v77 v79
  let v66 : BitVec 32 := Scalar.divsi v46 c2_i32_27
  let c1_i32_33 : BitVec 32 := 1#32
  let v81 : BitVec 32 := Scalar.subi v66 c1_i32_33
  let v82 : BitVec 32 := Scalar.select v80 v81 v66
  let c2_i32_34 : BitVec 32 := 2#32
  let v83 : BitVec 32 := Scalar.muli v82 c2_i32_34
  let v84 : BitVec 32 := Scalar.addi v65 v83
  let c0_i32_36 : BitVec 32 := 0#32
  let v86 : BitVec 1 := Scalar.cmpi .sgt v19 c0_i32_36
  let v87 : BitVec 32 := Scalar.extui v86
  let c0_i32_37 : BitVec 32 := 0#32
  let v88 : BitVec 1 := Scalar.cmpi .slt v19 c0_i32_37
  let v89 : BitVec 32 := Scalar.extui v88
  let v90 : BitVec 32 := Scalar.subi v87 v89
  let c2_i32_35 : BitVec 32 := 2#32
  let c0_i32_38 : BitVec 32 := 0#32
  let v91 : BitVec 1 := Scalar.cmpi .sgt c2_i32_35 c0_i32_38
  let v92 : BitVec 32 := Scalar.extui v91
  let c0_i32_39 : BitVec 32 := 0#32
  let v93 : BitVec 1 := Scalar.cmpi .slt c2_i32_35 c0_i32_39
  let v94 : BitVec 32 := Scalar.extui v93
  let v95 : BitVec 32 := Scalar.subi v92 v94
  let v96 : BitVec 1 := Scalar.cmpi .ne v90 v95
  let v97 : BitVec 32 := Scalar.remsi v19 c2_i32_35
  let c0_i32_40 : BitVec 32 := 0#32
  let v98 : BitVec 1 := Scalar.cmpi .ne v97 c0_i32_40
  let v99 : BitVec 1 := Scalar.andi v96 v98
  let v85 : BitVec 32 := Scalar.divsi v19 c2_i32_35
  let c1_i32_41 : BitVec 32 := 1#32
  let v100 : BitVec 32 := Scalar.subi v85 c1_i32_41
  let v101 : BitVec 32 := Scalar.select v99 v100 v85
  let v102 : BitVec 32 := Scalar.addi v84 v101
  let c16_i32_198 : BitVec 32 := 16#32
  let v439 : BitVec 32 := Scalar.xori v102 c16_i32_198
  let c1_i32_224 : BitVec 32 := 1#32
  let v496 : BitVec 32 := Scalar.andi v439 c1_i32_224
  let c2_i32_225 : BitVec 32 := 2#32
  let v497 : BitVec 32 := Scalar.muli v496 c2_i32_225
  let c0_i32_227 : BitVec 32 := 0#32
  let v499 : BitVec 1 := Scalar.cmpi .sgt v439 c0_i32_227
  let v500 : BitVec 32 := Scalar.extui v499
  let c0_i32_228 : BitVec 32 := 0#32
  let v501 : BitVec 1 := Scalar.cmpi .slt v439 c0_i32_228
  let v502 : BitVec 32 := Scalar.extui v501
  let v503 : BitVec 32 := Scalar.subi v500 v502
  let c4_i32_226 : BitVec 32 := 4#32
  let c0_i32_229 : BitVec 32 := 0#32
  let v504 : BitVec 1 := Scalar.cmpi .sgt c4_i32_226 c0_i32_229
  let v505 : BitVec 32 := Scalar.extui v504
  let c0_i32_230 : BitVec 32 := 0#32
  let v506 : BitVec 1 := Scalar.cmpi .slt c4_i32_226 c0_i32_230
  let v507 : BitVec 32 := Scalar.extui v506
  let v508 : BitVec 32 := Scalar.subi v505 v507
  let v509 : BitVec 1 := Scalar.cmpi .ne v503 v508
  let v510 : BitVec 32 := Scalar.remsi v439 c4_i32_226
  let c0_i32_231 : BitVec 32 := 0#32
  let v511 : BitVec 1 := Scalar.cmpi .ne v510 c0_i32_231
  let v512 : BitVec 1 := Scalar.andi v509 v511
  let v498 : BitVec 32 := Scalar.divsi v439 c4_i32_226
  let c1_i32_232 : BitVec 32 := 1#32
  let v513 : BitVec 32 := Scalar.subi v498 c1_i32_232
  let v514 : BitVec 32 := Scalar.select v512 v513 v498
  let c1_i32_233 : BitVec 32 := 1#32
  let v515 : BitVec 32 := Scalar.andi v514 c1_i32_233
  let v516 : BitVec 32 := Scalar.addi v497 v515
  let v521 : BitVec 32 := Scalar.muli c8_i32_236 v516
  let c2_i32_234 : BitVec 32 := 2#32
  let c0_i32_208 : BitVec 32 := 0#32
  let v459 : BitVec 1 := Scalar.cmpi .sgt v439 c0_i32_208
  let v460 : BitVec 32 := Scalar.extui v459
  let c0_i32_209 : BitVec 32 := 0#32
  let v461 : BitVec 1 := Scalar.cmpi .slt v439 c0_i32_209
  let v462 : BitVec 32 := Scalar.extui v461
  let v463 : BitVec 32 := Scalar.subi v460 v462
  let c2_i32_207 : BitVec 32 := 2#32
  let c0_i32_210 : BitVec 32 := 0#32
  let v464 : BitVec 1 := Scalar.cmpi .sgt c2_i32_207 c0_i32_210
  let v465 : BitVec 32 := Scalar.extui v464
  let c0_i32_211 : BitVec 32 := 0#32
  let v466 : BitVec 1 := Scalar.cmpi .slt c2_i32_207 c0_i32_211
  let v467 : BitVec 32 := Scalar.extui v466
  let v468 : BitVec 32 := Scalar.subi v465 v467
  let v469 : BitVec 1 := Scalar.cmpi .ne v463 v468
  let v470 : BitVec 32 := Scalar.remsi v439 c2_i32_207
  let c0_i32_212 : BitVec 32 := 0#32
  let v471 : BitVec 1 := Scalar.cmpi .ne v470 c0_i32_212
  let v472 : BitVec 1 := Scalar.andi v469 v471
  let v458 : BitVec 32 := Scalar.divsi v439 c2_i32_207
  let c1_i32_213 : BitVec 32 := 1#32
  let v473 : BitVec 32 := Scalar.subi v458 c1_i32_213
  let v474 : BitVec 32 := Scalar.select v472 v473 v458
  let c1_i32_214 : BitVec 32 := 1#32
  let v475 : BitVec 32 := Scalar.andi v474 c1_i32_214
  let c2_i32_215 : BitVec 32 := 2#32
  let v476 : BitVec 32 := Scalar.muli v475 c2_i32_215
  let c0_i32_217 : BitVec 32 := 0#32
  let v478 : BitVec 1 := Scalar.cmpi .sgt v439 c0_i32_217
  let v479 : BitVec 32 := Scalar.extui v478
  let c0_i32_218 : BitVec 32 := 0#32
  let v480 : BitVec 1 := Scalar.cmpi .slt v439 c0_i32_218
  let v481 : BitVec 32 := Scalar.extui v480
  let v482 : BitVec 32 := Scalar.subi v479 v481
  let c8_i32_216 : BitVec 32 := 8#32
  let c0_i32_219 : BitVec 32 := 0#32
  let v483 : BitVec 1 := Scalar.cmpi .sgt c8_i32_216 c0_i32_219
  let v484 : BitVec 32 := Scalar.extui v483
  let c0_i32_220 : BitVec 32 := 0#32
  let v485 : BitVec 1 := Scalar.cmpi .slt c8_i32_216 c0_i32_220
  let v486 : BitVec 32 := Scalar.extui v485
  let v487 : BitVec 32 := Scalar.subi v484 v486
  let v488 : BitVec 1 := Scalar.cmpi .ne v482 v487
  let v489 : BitVec 32 := Scalar.remsi v439 c8_i32_216
  let c0_i32_221 : BitVec 32 := 0#32
  let v490 : BitVec 1 := Scalar.cmpi .ne v489 c0_i32_221
  let v491 : BitVec 1 := Scalar.andi v488 v490
  let v477 : BitVec 32 := Scalar.divsi v439 c8_i32_216
  let c1_i32_222 : BitVec 32 := 1#32
  let v492 : BitVec 32 := Scalar.subi v477 c1_i32_222
  let v493 : BitVec 32 := Scalar.select v491 v492 v477
  let c1_i32_223 : BitVec 32 := 1#32
  let v494 : BitVec 32 := Scalar.andi v493 c1_i32_223
  let v495 : BitVec 32 := Scalar.addi v476 v494
  let v517 : BitVec 32 := Scalar.muli c2_i32_234 v495
  let c0_i32_200 : BitVec 32 := 0#32
  let v441 : BitVec 1 := Scalar.cmpi .sgt v439 c0_i32_200
  let v442 : BitVec 32 := Scalar.extui v441
  let c0_i32_201 : BitVec 32 := 0#32
  let v443 : BitVec 1 := Scalar.cmpi .slt v439 c0_i32_201
  let v444 : BitVec 32 := Scalar.extui v443
  let v445 : BitVec 32 := Scalar.subi v442 v444
  let c16_i32_199 : BitVec 32 := 16#32
  let c0_i32_202 : BitVec 32 := 0#32
  let v446 : BitVec 1 := Scalar.cmpi .sgt c16_i32_199 c0_i32_202
  let v447 : BitVec 32 := Scalar.extui v446
  let c0_i32_203 : BitVec 32 := 0#32
  let v448 : BitVec 1 := Scalar.cmpi .slt c16_i32_199 c0_i32_203
  let v449 : BitVec 32 := Scalar.extui v448
  let v450 : BitVec 32 := Scalar.subi v447 v449
  let v451 : BitVec 1 := Scalar.cmpi .ne v445 v450
  let v452 : BitVec 32 := Scalar.remsi v439 c16_i32_199
  let c0_i32_204 : BitVec 32 := 0#32
  let v453 : BitVec 1 := Scalar.cmpi .ne v452 c0_i32_204
  let v454 : BitVec 1 := Scalar.andi v451 v453
  let v440 : BitVec 32 := Scalar.divsi v439 c16_i32_199
  let c1_i32_205 : BitVec 32 := 1#32
  let v455 : BitVec 32 := Scalar.subi v440 c1_i32_205
  let v456 : BitVec 32 := Scalar.select v454 v455 v440
  let c1_i32_206 : BitVec 32 := 1#32
  let v457 : BitVec 32 := Scalar.andi v456 c1_i32_206
  let c1_i32_235 : BitVec 32 := 1#32
  let v518 : BitVec 32 := Scalar.andi v495 c1_i32_235
  let v519 : BitVec 32 := Scalar.xori v457 v518
  let v520 : BitVec 32 := Scalar.addi v517 v519
  let v522 : BitVec 32 := Scalar.addi v521 v520
  let c1_i32_843_r0 : BitVec 32 := 1#32
  let v2279_r0 : BitVec 32 := Scalar.muli v522 c1_i32_843_r0
  let v2280_r0 : BitVec 32 := Scalar.addi c0_i32_844_r0 v2279_r0
  v2280_r0.toNat
abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x64 : Shape := ⟨2, ![4096, 64]⟩

abbrev nBuf : Space → Nat
  | .hbm => 2
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Levels.lean ====
/- One level of a bitonic merge as the kernel computes it, for any number of rows: a level at a
large distance is a reshape to (blocks, 2, distance, columns) and a minimum and a maximum of the
two halves of each block; a level at a small distance pairs each row with the row above or below
it through two rotations. The scalar halves (quotients and remainders rounded downwards) are
here too. -/
module

public import Idealize.ShloMosaic.Lib.Pipeline.Regions

@[expose] public section

namespace Cert.Sort

open Idealize.ShloMosaic

noncomputable section

/-- A block of `m` rows of 64 columns. -/
abbrev M2 (m : ℕ) : Shape := ⟨2, ![m, 64]⟩
/-- `n` blocks of 128 rows of 64 columns. -/
abbrev M3 (n : ℕ) : Shape := ⟨3, ![n, 128, 64]⟩
/-- `a` blocks of `j` rows of 64 columns. -/
abbrev J3 (a j : ℕ) : Shape := ⟨3, ![a, j, 64]⟩
/-- `a` blocks of `b` sub-blocks of `j` rows of 64 columns. -/
abbrev J4 (a b j : ℕ) : Shape := ⟨4, ![a, b, j, 64]⟩

variable {F : FTy → Type} [FloatOps F]

section Words

/-- The sign of a word, as a word. -/
def sgn (a : BitVec 32) : BitVec 32 :=
  Scalar.subi (Scalar.extui (Scalar.cmpi .sgt a 0#32))
    (Scalar.extui (Scalar.cmpi .slt a 0#32))

/-- The quotient rounded downwards. -/
def fdiv (a b : BitVec 32) : BitVec 32 :=
  Scalar.select
    (Scalar.andi (Scalar.cmpi .ne (sgn a) (sgn b)) (Scalar.cmpi .ne (Scalar.remsi a b) 0#32))
    (Scalar.subi (Scalar.divsi a b) 1#32) (Scalar.divsi a b)

/-- The divisor of a remainder, one in place of zero. -/
def nz (b : BitVec 32) : BitVec 32 := Scalar.select (Scalar.cmpi .eq b 0#32) 1#32 b

/-- The remainder with the divisor's sign. -/
def fmod (a b : BitVec 32) : BitVec 32 :=
  Scalar.select
    (Scalar.andi (Scalar.xori (Scalar.cmpi .slt (Scalar.remsi a (nz b)) 0#32) (Scalar.cmpi .slt (nz b) 0#32))
      (Scalar.cmpi .ne (Scalar.remsi a (nz b)) 0#32))
    (Scalar.addi (Scalar.remsi a (nz b)) (nz b)) (Scalar.remsi a (nz b))

/-- Whether bit `k` (as `a / k` mod 2) of the word is zero. -/
def bitZero (a k : BitVec 32) : BitVec 1 := Scalar.cmpi .eq (fmod (fdiv a k) 2#32) 0#32

end Words

section Vectors

variable {s : Shape}

/-- The sign of each entry. -/
def vsgn (a : IVec s 32) : IVec s 32 :=
  subi (extui 32 (cmpi .sgt a (broadcast s 0#32)) (by decide))
    (extui 32 (cmpi .slt a (broadcast s 0#32)) (by decide))

/-- Each entry's quotient by `b`, rounded downwards. -/
def vfdiv (a : IVec s 32) (b : BitVec 32) : IVec s 32 :=
  select
    (andi (cmpi .ne (vsgn a) (broadcast s (sgn b))) (cmpi .ne (remsi a (broadcast s b)) (broadcast s 0#32)))
    (subi (divsi a (broadcast s b)) (broadcast s 1#32)) (divsi a (broadcast s b))

/-- Each entry's remainder by `b`, with the sign of `b`. -/
def vfmod (hb : s.Broadcasts s) (a : IVec s 32) (b : BitVec 32) : IVec s 32 :=
  select
    (andi (xori (cmpi .slt (remsi a (broadcast s (nz b))) (broadcast s 0#32))
        (broadcastTo s (broadcast s (Scalar.cmpi .slt (nz b) 0#32)) hb))
      (cmpi .ne (remsi a (broadcast s (nz b))) (broadcast s 0#32)))
    (addi (remsi a (broadcast s (nz b))) (broadcast s (nz b))) (remsi a (broadcast s (nz b)))

end Vectors

section Facts

variable {m nb j p n : ℕ}

/-- A block broadcasts to itself. -/
theorem M2_broadcasts : (M2 m).Broadcasts (M2 m) :=
  ⟨le_refl _, fun a => Or.inr fun _ => rfl⟩

/-- Row numbers of a block can be made. -/
theorem M2_iotas : (M2 m).Iotas .tc 32 [0] :=
  ⟨List.nodup_singleton _, fun _ => ⟨Or.inr rfl, le_refl _⟩, fun h => absurd rfl h⟩

/-- A block is read as pairs of halves. -/
theorem casts_M2_J4 (h : m = nb * (2 * j)) : (M2 m).ShapeCasts (J4 nb 2 j) := by
  subst h; show Shape.numel _ = Shape.numel _; simp [Shape.numel, Fin.prod_univ_succ, mul_assoc]

/-- Pairs of halves are read as a block. -/
theorem casts_J4_M2 (h : m = nb * (2 * j)) : (J4 nb 2 j).ShapeCasts (M2 m) := (casts_M2_J4 h).symm

/-- One half of each pair drops its axis of length one. -/
theorem casts_J4_J3 : (J4 nb 1 j).ShapeCasts (J3 nb j) := by
  show Shape.numel _ = Shape.numel _; simp [Shape.numel, Fin.prod_univ_succ]

/-- One half of each pair gains an axis of length one. -/
theorem casts_J3_J4 : (J3 nb j).ShapeCasts (J4 nb 1 j) := casts_J4_J3.symm

/-- The lower halves are a slice. -/
theorem slices_lo : (J4 nb 2 j).Slices ![0, 0, 0, 0] (J4 nb 1 j) :=
  ⟨rfl, by intro a; fin_cases a <;> simp⟩

/-- The upper halves are a slice. -/
theorem slices_hi : (J4 nb 2 j).Slices ![0, 1, 0, 0] (J4 nb 1 j) :=
  ⟨rfl, by intro a; fin_cases a <;> simp⟩

/-- The two halves go together again. -/
theorem concats_J4 : Shape.Concatenates [J4 nb 1 j, J4 nb 1 j] (J4 nb 2 j) 1 :=
  ⟨le_refl _, by
    intro s hs
    simp only [List.mem_cons, List.not_mem_nil, or_false, or_self] at hs
    subst hs
    exact ⟨rfl, fun b hb => by fin_cases b <;> first | rfl | exact absurd rfl hb⟩, by simp⟩

/-- The rows from `p` on are a slice. -/
theorem slices_off (h : p + n = m) : (M2 m).Slices ![p, 0] (M2 n) :=
  ⟨rfl, by intro a; fin_cases a <;> simp; omega⟩

/-- The first rows are a slice. -/
theorem slices_top (h : n ≤ m) : (M2 m).Slices ![0, 0] (M2 n) :=
  ⟨rfl, by intro a; fin_cases a <;> simp; omega⟩

/-- Two blocks of rows go together. -/
theorem concats_M2 (h : p + n = m) : Shape.Concatenates [M2 p, M2 n] (M2 m) 0 :=
  ⟨le_refl _, by
    intro s hs
    simp only [List.mem_cons, List.not_mem_nil, or_false] at hs
    rcases hs with rfl | rfl <;>
      exact ⟨rfl, fun b hb => by fin_cases b <;> first | rfl | exact absurd rfl hb⟩, by simp [h]⟩

/-- Blocks of 128 rows are read as one block. -/
theorem casts_M3_M2 (h : m = n * 128) : (M3 n).ShapeCasts (M2 m) := by
  subst h; show Shape.numel _ = Shape.numel _; simp [Shape.numel, Fin.prod_univ_succ, mul_assoc]

/-- One block is read as blocks of 128 rows. -/
theorem casts_M2_M3 (h : m = n * 128) : (M2 m).ShapeCasts (M3 n) := (casts_M3_M2 h).symm

end Facts

/-- The level of the merge at distance `j`, rows in blocks of `2 * j`: the lower half of each block
    takes the minima (the maxima when `asc` is false), the upper half the others. -/
def lvlBig (nb j : ℕ) {m : ℕ} (asc : BitVec 1) (h : m = nb * (2 * j)) (x : FVec F (M2 m) .f32) : FVec F (M2 m) .f32 :=
  have v : FVec F (J4 nb 2 j) .f32 := shapeCast (J4 nb 2 j) x (casts_M2_J4 h)
  have lo : FVec F (J3 nb j) .f32 :=
    shapeCast (J3 nb j) (extractStridedSlice (J4 nb 1 j) ![0, 0, 0, 0] v slices_lo) casts_J4_J3
  have hi : FVec F (J3 nb j) .f32 :=
    shapeCast (J3 nb j) (extractStridedSlice (J4 nb 1 j) ![0, 1, 0, 0] v slices_hi) casts_J4_J3
  have mn : FVec F (J3 nb j) .f32 := minimumf lo hi
  have mx : FVec F (J3 nb j) .f32 := maximumf lo hi
  have a : FVec F (J4 nb 1 j) .f32 := shapeCast (J4 nb 1 j) (Scalar.select asc mn mx) casts_J3_J4
  have b : FVec F (J4 nb 1 j) .f32 := shapeCast (J4 nb 1 j) (Scalar.select asc mx mn) casts_J3_J4
  shapeCast (M2 m) (concatenate (J4 nb 2 j) 1 [⟨J4 nb 1 j, a⟩, ⟨J4 nb 1 j, b⟩] concats_J4) (casts_J4_M2 h)

/-- The rows moved up by `j`, around. -/
def rotUp (j mj : ℕ) {m : ℕ} (h : j + mj = m) (x : FVec F (M2 m) .f32) : FVec F (M2 m) .f32 :=
  concatenate (M2 m) 0
    [⟨M2 mj, extractStridedSlice (M2 mj) ![j, 0] x (slices_off h)⟩,
     ⟨M2 j, extractStridedSlice (M2 j) ![0, 0] x (slices_top (by omega))⟩]
    (concats_M2 (by omega))

/-- The rows moved down by `j`, around. -/
def rotDn (j mj : ℕ) {m : ℕ} (h : j + mj = m) (x : FVec F (M2 m) .f32) : FVec F (M2 m) .f32 :=
  concatenate (M2 m) 0
    [⟨M2 j, extractStridedSlice (M2 j) ![mj, 0] x (slices_off (by omega))⟩,
     ⟨M2 mj, extractStridedSlice (M2 mj) ![0, 0] x (slices_top (by omega))⟩]
    (concats_M2 h)

/-- Each row's index within its column. -/
def rowOf (m : ℕ) : IVec (M2 m) 32 := iota .tc (M2 m) 32 [0] M2_iotas

/-- Each row's bit at distance `j`. -/
def rowBit (m : ℕ) (j : BitVec 32) : IVec (M2 m) 32 := vfmod M2_broadcasts (vfdiv (rowOf m) j) 2#32

/-- Whether each row takes the minimum: its bit is zero exactly when `asc` holds. -/
def takeMin (m : ℕ) (asc : BitVec 1) (j : BitVec 32) : IVec (M2 m) 1 :=
  xori (xori (cmpi .eq (rowBit m j) (broadcast (M2 m) 0#32))
      (broadcastTo (M2 m) (broadcast (M2 m) asc) M2_broadcasts)) (constantI (M2 m) 1 1#1)

/-- The level of the merge at distance `j` through rotations: each row meets the row `j` above or
    below it, by its bit. -/
def lvlSmall (j mj : ℕ) {m : ℕ} (asc : BitVec 1) (h : j + mj = m) (jw : BitVec 32) (x : FVec F (M2 m) .f32) :
    FVec F (M2 m) .f32 :=
  have p : FVec F (M2 m) .f32 :=
    select (cmpi .eq (rowBit m jw) (broadcast (M2 m) 0#32)) (rotUp j mj h x) (rotDn j mj h x)
  select (takeMin m asc jw) (minimumf x p) (maximumf x p)

/-- The levels at distances `8 * 2 ^ k`, …, 16, 8. -/
def bigs {m : ℕ} (asc : BitVec 1) : (k nb : ℕ) → m = nb * (2 * (8 * 2 ^ k)) → FVec F (M2 m) .f32 → FVec F (M2 m) .f32
  | 0, nb, h, x => lvlBig nb (8 * 2 ^ 0) asc h x
  | k + 1, nb, h, x =>
    bigs asc k (nb * 2) (by rw [h, pow_succ]; simp only [Nat.mul_assoc, Nat.mul_comm, Nat.mul_left_comm]) (lvlBig nb (8 * 2 ^ (k + 1)) asc h x)

/-- The levels at distances 4, 2 and 1. -/
def smalls {m : ℕ} (h4 : 4 + (m - 4) = m) (asc : BitVec 1) (x : FVec F (M2 m) .f32) : FVec F (M2 m) .f32 :=
  lvlSmall 1 (m - 1) asc (by omega) 1#32
    (lvlSmall 2 (m - 2) asc (by omega) 2#32 (lvlSmall 4 (m - 4) asc h4 4#32 x))

/-- The two runs side by side, the run of the lower partner first, and all levels of the merge. -/
def mergeRows (k m : ℕ) (hm : m = 8 * 2 ^ k) (low asc : BitVec 1) (mine theirs : FVec F (M2 m) .f32) :
    FVec F (M2 (m + m)) .f32 :=
  smalls (by have := Nat.one_le_two_pow (n := k); omega) asc
    (bigs asc k 1 (by omega)
      (Scalar.select low
        (concatenate (M2 (m + m)) 0 [⟨M2 m, mine⟩, ⟨M2 m, theirs⟩] (concats_M2 rfl))
        (concatenate (M2 (m + m)) 0 [⟨M2 m, theirs⟩, ⟨M2 m, mine⟩] (concats_M2 rfl))))

/-- What step `t` stores: its own `2 ^ t` blocks and the partner's merged. -/
def stepVal (t : ℕ) (low asc : BitVec 1) (mine theirs : FVec F (M3 (2 ^ t)) .f32) : FVec F (M3 (2 ^ t + 2 ^ t)) .f32 :=
  shapeCast _ (shapeCast (M3 (2 ^ t + 2 ^ t))
    (mergeRows (t + 4) (2 ^ t * 128) (by rw [pow_add]; omega) low asc
      (shapeCast (M2 (2 ^ t * 128)) mine (casts_M3_M2 rfl)) (shapeCast (M2 (2 ^ t * 128)) theirs (casts_M3_M2 rfl)))
    (casts_M2_M3 (by omega))) rfl

end

end Cert.Sort
-- ==== Proof.Plain.lean ====
/- The kernel's body written plainly: the barrier, one exchange step written once for every step
number, and the closing barrier; and that this is the printed body. -/
module

public import proofs.«01_k».proof.Proof.Levels
public import proofs.«01_k».proof.Proof.Gen.KernelIdeal.Points

@[expose] public section

set_option maxRecDepth 65536

namespace Cert.Sort

open Idealize.ShloMosaic Idealize.SL.Sem
open Cert.KernelIdeal Cert.KernelIdeal.Facts₀ Cert.KernelIdeal.Facts

noncomputable section

variable {F : FTy → Type} [FloatOps F] [Facts₀] [Facts]

/-- A device's place in the mesh, as the kernel computes it. -/
def posW (d : Dev nD) : BitVec 32 := Scalar.remsi (Scalar.divsi (Dev.word d) 1#32) 32#32

/-- A device's slot in the hypercube, as the kernel computes it. -/
def slotW (d : Dev nD) : BitVec 32 :=
  let z := fdiv (posW d) 8#32
  let p := fmod (posW d) 8#32
  let y := fdiv p 2#32
  let x := Scalar.xori (fmod p 2#32) (Scalar.andi y 1#32)
  Scalar.addi
    (Scalar.addi
      (Scalar.addi (Scalar.addi (Scalar.muli x 16#32) (Scalar.muli (Scalar.andi y 1#32) 8#32))
        (Scalar.muli (Scalar.andi z 1#32) 4#32))
      (Scalar.muli (fdiv y 2#32) 2#32))
    (fdiv z 2#32)

/-- The effects of the kernel's body. -/
abbrev Body (F : FTy → Type) (α : Type) := Prog (TpuEff nD τ sig (Elt F) Λ₀ .tc) α

/-- A range of blocks lies in the exchange buffer. -/
theorem inb_rows {o n : ℕ} (h : o + n ≤ 32) (a : Fin 3) :
    (![o, 0, 0] : Fin 3 → Nat) a + (M3 n).size a ≤ S32x128x64.size a := by
  fin_cases a
  · exact h
  · exact le_refl 128
  · exact le_refl 64

/-- A positive number of blocks has elements. -/
theorem M3_pos {n : ℕ} (h : 0 < n) : 0 < (M3 n).numel := by
  simp [Shape.numel, Fin.prod_univ_succ, h]

/-- A step's semaphore lies in its array. -/
theorem inb_sem {t : ℕ} (h : t < 5) (a : Fin 1) : (![t] : Fin 1 → Nat) a + S1.size a ≤ S5.size a := by
  fin_cases a; exact h

/-- The blocks `o`, …, `o + n - 1` of the buffer. -/
def rows (arg2 : Memref sig .tc .vmem S32x128x64 .f32) (o n : ℕ) (h : o + n ≤ 32) :
    Memref sig .tc .vmem (M3 n) .f32 :=
  arg2.slice (Rect.unit (s := S32x128x64) ![o, 0, 0] (M3 n).size (inb_rows h)) (fun _ => rfl)

/-- Semaphore `t` of an array of five. -/
def semAt (a : DmaSems sig S5) (t : ℕ) (h : t < 5) : DmaSem sig :=
  ((a.slice (Rect.unit (s := S5) ![t] S1.size (inb_sem h))).squeeze S_ squeezes_S1_S_).sem

/-- The blocks held after a step fit the buffer. -/
theorem pow_add_le {t : ℕ} (h : t < 5) : 2 ^ t + 2 ^ t ≤ 32 := by
  have := Nat.pow_le_pow_right (n := 2) (by omega) (show t ≤ 4 by omega); omega

/-- A step sends at least one block. -/
theorem pow_pos' (t : ℕ) : 0 < 2 ^ t := Nat.two_pow_pos t

/-- And holds at least one afterwards. -/
theorem pow_add_pos (t : ℕ) : 0 < 2 ^ t + 2 ^ t := Nat.add_pos_left (Nat.two_pow_pos t) _

/-- The blocks sent lie in the buffer. -/
theorem zero_add_pow_le {t : ℕ} (h : t < 5) : 0 + 2 ^ t ≤ 32 := by have := pow_add_le h; omega

/-- The blocks held after the step lie in the buffer. -/
theorem zero_add_two_pow_le {t : ℕ} (h : t < 5) : 0 + (2 ^ t + 2 ^ t) ≤ 32 := by have := pow_add_le h; omega

/-- One exchange: the first `2 ^ t` blocks go to the partner's next `2 ^ t` blocks, both copies are
    waited for, and the merge of the two halves is stored over the first `2 ^ (t + 1)` blocks. -/
def exchangeS (arg2 : Memref sig .tc .vmem S32x128x64 .f32) (sS sR : DmaSem sig) (dv : Dev nD) (t : ℕ)
    (h : t < 5) (f : FVec F (M3 (2 ^ t)) .f32 → FVec F (M3 (2 ^ t)) .f32 → FVec F (M3 (2 ^ t + 2 ^ t)) .f32) :
    Body F PUnit := do
  Prog.lift (.enqueueDma (rows arg2 0 (2 ^ t) (zero_add_pow_le h))
    (.remote (Dev.tc dv) (rows arg2 (2 ^ t) (2 ^ t) (pow_add_le h)) (.dma sS)) (.dma sR)
    (View.wordExact_bits rfl) (View.wordExact_bits rfl) ⟨⟨rfl, Or.inl rfl⟩, trivial⟩)
  Prog.lift (.waitDma2 sS (rows arg2 (2 ^ t) (2 ^ t) (pow_add_le h))
    (rows arg2 0 (2 ^ t) (zero_add_pow_le h)) (View.wordExact_bits rfl) (View.wordExact_bits rfl))
  Prog.lift (.waitDma2 sR (rows arg2 0 (2 ^ t) (zero_add_pow_le h))
    (rows arg2 (2 ^ t) (2 ^ t) (pow_add_le h)) (View.wordExact_bits rfl) (View.wordExact_bits rfl))
  let mine : Vec F (M3 (2 ^ t)) .f32 ← Prog.lift (.load arg2
    (Rect.unit (s := S32x128x64) ![0, 0, 0] (M3 (2 ^ t)).size (inb_rows (zero_add_pow_le h))).toLoadRect
    (View.loadsAt_vmem (M3_pos (pow_pos' t))))
  let theirs : Vec F (M3 (2 ^ t)) .f32 ← Prog.lift (.load arg2
    (Rect.unit (s := S32x128x64) ![2 ^ t, 0, 0] (M3 (2 ^ t)).size (inb_rows (pow_add_le h))).toLoadRect
    (View.loadsAt_vmem (M3_pos (pow_pos' t))))
  let _dead : Vec F (M3 (2 ^ t + 2 ^ t)) .f32 ← Prog.lift (.load arg2
    (Rect.unit (s := S32x128x64) ![0, 0, 0] (M3 (2 ^ t + 2 ^ t)).size (inb_rows (zero_add_two_pow_le h))).toLoadRect
    (View.loadsAt_vmem (M3_pos (pow_add_pos t))))
  Prog.lift (.store arg2
    (Rect.unit (s := S32x128x64) ![0, 0, 0] (M3 (2 ^ t + 2 ^ t)).size (inb_rows (zero_add_two_pow_le h)))
    (f mine theirs) Finset.univ (View.stores_vmem_bits_univ (M3_pos (pow_add_pos t)) rfl) (.inl rfl))

/-- The same on step `t`'s two semaphores. -/
def exchange (arg2 : Memref sig .tc .vmem S32x128x64 .f32) (arg3 arg4 : DmaSems sig S5) (dv : Dev nD) (t : ℕ)
    (h : t < 5) (f : FVec F (M3 (2 ^ t)) .f32 → FVec F (M3 (2 ^ t)) .f32 → FVec F (M3 (2 ^ t + 2 ^ t)) .f32) :
    Body F PUnit := exchangeS arg2 (semAt arg3 t h) (semAt arg4 t h) dv t h f

/-- One unit to the semaphore `s` of each of five devices, then a wait for five units of one's own. -/
def meet (s : Sem sig) (d1 d2 d3 d4 d5 : Dev nD) : Body F PUnit := do
  semSignalWord d1 s 1#32
  semSignalWord d2 s 1#32
  semSignalWord d3 s 1#32
  semSignalWord d4 s 1#32
  semSignalWord d5 s 1#32
  semWaitWord s 5#32

/-- The block of the device's own rows goes into the buffer's first block. -/
def fill (arg0 : Memref sig .tc .vmem S128x64 .f32) (arg2 : Memref sig .tc .vmem S32x128x64 .f32) : Body F PUnit := do
  let v : Vec F S128x64 .f32 ← Prog.lift (.load arg0
    (Rect.unit (s := S128x64) ![0, 0] S128x64.size inb_S128x64_S128x64_0_0).toLoadRect (View.loadsAt_vmem h_S128x64))
  let _dead : Vec F S1x128x64 .f32 ← Prog.lift (.load arg2
    (Rect.unit (s := S32x128x64) ![0, 0, 0] S1x128x64.size inb_S32x128x64_S1x128x64_0_0_0).toLoadRect
    (View.loadsAt_vmem h_S1x128x64))
  Prog.lift (.store arg2 (Rect.unit (s := S32x128x64) ![0, 0, 0] S1x128x64.size inb_S32x128x64_S1x128x64_0_0_0)
    (shapeCast S1x128x64 (shapeCast S128x64 v shapeCasts_S128x64_S128x64) shapeCasts_S128x64_S1x128x64)
    Finset.univ (View.stores_vmem_bits_univ h_S1x128x64 rfl) (.inl rfl))

/-- The device's own block of the sorted column goes to the output. -/
def emit (d0 : Dev nD) (arg1 : Memref sig .tc .vmem S128x64 .f32) (arg2 : Memref sig .tc .vmem S32x128x64 .f32) :
    Body F PUnit := do
  let v : Vec F S1x128x64 .f32 ← Prog.lift (.load arg2
    (Rect.unit (s := S32x128x64) (k0_off1 d0) S1x128x64.size (k0_off1_inb d0)).toLoadRect
    (View.loadsAt_vmem h_S1x128x64))
  let _dead : Vec F S128x64 .f32 ← Prog.lift (.load arg1
    (Rect.unit (s := S128x64) ![0, 0] S128x64.size inb_S128x64_S128x64_0_0).toLoadRect (View.loadsAt_vmem h_S128x64))
  Prog.lift (.store arg1 (Rect.unit (s := S128x64) ![0, 0] S128x64.size inb_S128x64_S128x64_0_0)
    (shapeCast S128x64 v shapeCasts_S1x128x64_S128x64) Finset.univ (View.stores_vmem_bits_univ h_S128x64 rfl) (.inl rfl))

/-- Whether the device is the lower partner of step `t`. -/
def lowT (t : ℕ) (d : Dev nD) : BitVec 1 := bitZero (slotW d) (BitVec.ofNat 32 (2 ^ t))

/-- Whether step `t` merges upwards: the last one does on every device. -/
def ascT (t : ℕ) (d : Dev nD) : BitVec 1 := if t = 4 then 1#1 else bitZero (slotW d) (BitVec.ofNat 32 (2 ^ (t + 1)))

/-- What step `t` stores on a device. -/
def stepOn (t : ℕ) (d : Dev nD) (mine theirs : FVec F (M3 (2 ^ t)) .f32) : FVec F (M3 (2 ^ t + 2 ^ t)) .f32 :=
  stepVal t (lowT t d) (ascT t d) mine theirs

/-- The whole body, after the device is known. -/
def rest (d0 : Dev nD) (arg0 arg1 : Memref sig .tc .vmem S128x64 .f32) (arg2 : Memref sig .tc .vmem S32x128x64 .f32)
    (arg3 arg4 : DmaSems sig S5) (s2 : Sem sig) : Body F PUnit := do
  meet (SemArray.scalar (sig.barrier 7 rfl) : Sems sig S_).sem ⟨k0_dev1 d0, k0_dev1_lt d0⟩ ⟨k0_dev2 d0, k0_dev2_lt d0⟩
    ⟨k0_dev3 d0, k0_dev3_lt d0⟩ ⟨k0_dev4 d0, k0_dev4_lt d0⟩ ⟨k0_dev5 d0, k0_dev5_lt d0⟩
  fill arg0 arg2
  exchange arg2 arg3 arg4 ⟨k0_dev6 d0, k0_dev6_lt d0⟩ 0 (by decide) (stepOn 0 d0)
  exchange arg2 arg3 arg4 ⟨k0_dev7 d0, k0_dev7_lt d0⟩ 1 (by decide) (stepOn 1 d0)
  exchange arg2 arg3 arg4 ⟨k0_dev8 d0, k0_dev8_lt d0⟩ 2 (by decide) (stepOn 2 d0)
  exchange arg2 arg3 arg4 ⟨k0_dev9 d0, k0_dev9_lt d0⟩ 3 (by decide) (stepOn 3 d0)
  exchange arg2 arg3 arg4 ⟨k0_dev10 d0, k0_dev10_lt d0⟩ 4 (by decide) (stepOn 4 d0)
  emit d0 arg1 arg2
  meet s2 ⟨k0_dev11 d0, k0_dev11_lt d0⟩ ⟨k0_dev12 d0, k0_dev12_lt d0⟩
    ⟨k0_dev13 d0, k0_dev13_lt d0⟩ ⟨k0_dev14 d0, k0_dev14_lt d0⟩ ⟨k0_dev15 d0, k0_dev15_lt d0⟩

/-- The printed body is the plain one. -/
theorem cc0_body_eq (arg0 : Memref sig .tc .vmem S128x64 .f32) (harg0 : arg0.IsWhole)
    (arg1 : Memref sig .tc .vmem S128x64 .f32) (harg1 : arg1.IsWhole)
    (arg2 : Memref sig .tc .vmem S32x128x64 .f32) (harg2 : arg2.IsWhole) (arg3 arg4 : DmaSems sig S5)
    (r0 : Sems sig S_) :
    cc0_body (F := F) arg0 harg0 arg1 harg1 arg2 harg2 arg3 arg4 r0 =
      Prog.bind (Prog.lift .deviceId) (fun d0 => rest d0 arg0 arg1 arg2 arg3 arg4 r0.sem) := by
  chain_rfl

end

end Cert.Sort
-- ==== Proof.Topo.lean ====
/- The hypercube: each device's slot, its partner in each step, and that the kernel's device
numbers and words are these. -/
module

public import proofs.«01_k».proof.Proof.Plain

@[expose] public section

set_option maxRecDepth 16384

namespace Cert.Sort

open Idealize.ShloMosaic Idealize.SL.Sem
open Cert.KernelIdeal Cert.KernelIdeal.Facts₀ Cert.KernelIdeal.Facts

/-- A mesh place's slot. -/
def slotNat (c : ℕ) : ℕ :=
  let z := c / 8
  let y := c % 8 / 2
  let x := (c % 2 + y) % 2
  x * 16 + (y % 2) * 8 + (z % 2) * 4 + (y / 2) * 2 + z / 2

/-- A slot's mesh place. -/
def meshNat (s : ℕ) : ℕ :=
  let x := s / 16 % 2
  let y := (s / 2 % 2) * 2 + s / 8 % 2
  let z := (s % 2) * 2 + s / 4 % 2
  8 * z + 2 * y + (x + y) % 2

/-- A device's slot. -/
def slot (c : Dev nD) : Fin 32 := ⟨slotNat c.val % 32, Nat.mod_lt _ (by decide)⟩

/-- The device of a slot. -/
def devOf (s : Fin 32) : Dev nD := ⟨meshNat s.val % 32, Nat.mod_lt _ (by decide)⟩

/-- A slot with bit `t` turned over. -/
def flip (t : ℕ) (s : Fin 32) : Fin 32 := ⟨(s.val ^^^ 2 ^ t) % 32, Nat.mod_lt _ (by decide)⟩

/-- A device's partner in step `t`. -/
def prt (t : ℕ) (c : Dev nD) : Dev nD := devOf (flip t (slot c))

/-- A device is the device of its slot. -/
theorem devOf_slot : ∀ c : Dev nD, devOf (slot c) = c := by decide +kernel
/-- A slot is the slot of its device. -/
theorem slot_devOf : ∀ s : Fin 32, slot (devOf s) = s := by decide +kernel
/-- To flip a bit twice changes nothing. -/
theorem flip_flip : ∀ (t : Fin 5) (s : Fin 32), flip t (flip t s) = s := by decide +kernel
/-- A partner's slot differs in one bit. -/
theorem slot_prt (t : ℕ) (c : Dev nD) : slot (prt t c) = flip t (slot c) := slot_devOf _
/-- A partner's partner is the device. -/
theorem prt_prt (t : Fin 5) (c : Dev nD) : prt t (prt t c) = c := by
  unfold prt; rw [slot_devOf, flip_flip, devOf_slot]
/-- No device is its own partner. -/
theorem prt_ne : ∀ (t : Fin 5) (c : Dev nD), prt t c ≠ c := by decide +kernel
/-- A device's partners in different steps are different. -/
theorem prt_inj : ∀ (c : Dev nD) (t t' : Fin 5), prt t c = prt t' c → t = t' := by decide +kernel

/-- The partners of step `t`, as a permutation of the devices. -/
def prtEquiv (t : Fin 5) : Dev nD ≃ Dev nD := ⟨prt t, prt t, prt_prt t, prt_prt t⟩

/-- The slots, as a numbering of the devices. -/
def slotEquiv : Dev nD ≃ Fin 32 := ⟨slot, devOf, devOf_slot, slot_devOf⟩

/-- The slot's word, as the kernel computes it, is the slot. -/
theorem slotW_eq : ∀ c : Dev nD, slotW c = BitVec.ofNat 32 (slot c).val := by decide +kernel

/-- Whether the device is on the lower side of step `t`, by its slot's bit `t`. -/
theorem lowT_eq : ∀ (t : Fin 5) (c : Dev nD), lowT t c = if (slot c).val / 2 ^ t.val % 2 = 0 then 1#1 else 0#1 := by
  decide +kernel

/-- Whether its merge goes upwards, by the next bit. -/
theorem ascT_eq : ∀ (t : Fin 5) (c : Dev nD), ascT t c = if (slot c).val / 2 ^ (t.val + 1) % 2 = 0 then 1#1 else 0#1 := by
  decide +kernel

/-- The opening signal 1 goes to the partner of step 0. -/
theorem dev1_eq : ∀ c : Dev nD, k0_dev1 c = (prt 0 c).val := by decide +kernel
/-- The opening signal 2 goes to the partner of step 1. -/
theorem dev2_eq : ∀ c : Dev nD, k0_dev2 c = (prt 1 c).val := by decide +kernel
/-- The opening signal 3 goes to the partner of step 2. -/
theorem dev3_eq : ∀ c : Dev nD, k0_dev3 c = (prt 2 c).val := by decide +kernel
/-- The opening signal 4 goes to the partner of step 3. -/
theorem dev4_eq : ∀ c : Dev nD, k0_dev4 c = (prt 3 c).val := by decide +kernel
/-- The opening signal 5 goes to the partner of step 4. -/
theorem dev5_eq : ∀ c : Dev nD, k0_dev5 c = (prt 4 c).val := by decide +kernel
/-- The copy of step 0 goes to that step's partner. -/
theorem dev6_eq : ∀ c : Dev nD, k0_dev6 c = (prt 0 c).val := by decide +kernel
/-- The copy of step 1 goes to that step's partner. -/
theorem dev7_eq : ∀ c : Dev nD, k0_dev7 c = (prt 1 c).val := by decide +kernel
/-- The copy of step 2 goes to that step's partner. -/
theorem dev8_eq : ∀ c : Dev nD, k0_dev8 c = (prt 2 c).val := by decide +kernel
/-- The copy of step 3 goes to that step's partner. -/
theorem dev9_eq : ∀ c : Dev nD, k0_dev9 c = (prt 3 c).val := by decide +kernel
/-- The copy of step 4 goes to that step's partner. -/
theorem dev10_eq : ∀ c : Dev nD, k0_dev10 c = (prt 4 c).val := by decide +kernel
/-- The closing signal 1 goes to the partner of step 0. -/
theorem dev11_eq : ∀ c : Dev nD, k0_dev11 c = (prt 0 c).val := by decide +kernel
/-- The closing signal 2 goes to the partner of step 1. -/
theorem dev12_eq : ∀ c : Dev nD, k0_dev12 c = (prt 1 c).val := by decide +kernel
/-- The closing signal 3 goes to the partner of step 2. -/
theorem dev13_eq : ∀ c : Dev nD, k0_dev13 c = (prt 2 c).val := by decide +kernel
/-- The closing signal 4 goes to the partner of step 3. -/
theorem dev14_eq : ∀ c : Dev nD, k0_dev14 c = (prt 3 c).val := by decide +kernel
/-- The closing signal 5 goes to the partner of step 4. -/
theorem dev15_eq : ∀ c : Dev nD, k0_dev15 c = (prt 4 c).val := by decide +kernel

noncomputable section

variable {F : FTy → Type} [FloatOps F] [Facts₀] [Facts]

/-- One unit to each partner, then a wait for five units. -/
def meetP (s : Sem sig) (c : Dev nD) : Body F PUnit := meet s (prt 0 c) (prt 1 c) (prt 2 c) (prt 3 c) (prt 4 c)

/-- Step `t` on device `c`. -/
def exchangeP (arg2 : Memref sig .tc .vmem S32x128x64 .f32) (arg3 arg4 : DmaSems sig S5) (t : ℕ) (h : t < 5)
    (c : Dev nD) : Body F PUnit := exchange arg2 arg3 arg4 (prt t c) t h (stepOn t c)

/-- The body over the hypercube's partners. -/
def restP (c : Dev nD) (arg0 arg1 : Memref sig .tc .vmem S128x64 .f32) (arg2 : Memref sig .tc .vmem S32x128x64 .f32)
    (arg3 arg4 : DmaSems sig S5) (s2 : Sem sig) : Body F PUnit := do
  meetP (SemArray.scalar (sig.barrier 7 rfl) : Sems sig S_).sem c
  fill arg0 arg2
  exchangeP arg2 arg3 arg4 0 (by decide) c
  exchangeP arg2 arg3 arg4 1 (by decide) c
  exchangeP arg2 arg3 arg4 2 (by decide) c
  exchangeP arg2 arg3 arg4 3 (by decide) c
  exchangeP arg2 arg3 arg4 4 (by decide) c
  emit c arg1 arg2
  meetP s2 c

/-- A device is given by its number. -/
theorem mk_eq {n : ℕ} {h : n < nD} {d : Dev nD} (e : n = d.val) : (⟨n, h⟩ : Dev nD) = d := Fin.ext e

/-- The plain body addresses the hypercube's partners. -/
theorem rest_eq (c : Dev nD) (arg0 arg1 : Memref sig .tc .vmem S128x64 .f32)
    (arg2 : Memref sig .tc .vmem S32x128x64 .f32) (arg3 arg4 : DmaSems sig S5) (s2 : Sem sig) :
    rest (F := F) c arg0 arg1 arg2 arg3 arg4 s2 = restP c arg0 arg1 arg2 arg3 arg4 s2 := by
  unfold rest restP meetP exchangeP
  rw [mk_eq (dev1_eq c), mk_eq (dev2_eq c), mk_eq (dev3_eq c), mk_eq (dev4_eq c), mk_eq (dev5_eq c),
    mk_eq (dev6_eq c), mk_eq (dev7_eq c), mk_eq (dev8_eq c), mk_eq (dev9_eq c), mk_eq (dev10_eq c),
    mk_eq (dev11_eq c), mk_eq (dev12_eq c), mk_eq (dev13_eq c), mk_eq (dev14_eq c), mk_eq (dev15_eq c)]

end

end Cert.Sort
-- ==== Proof.Mem.lean ====
/- The exchange buffer in pieces: block ranges of it, owned at named contents, split and joined. -/
module

public import proofs.«01_k».proof.Proof.Topo
public import Idealize.ShloMosaic.Lib.Pipeline.RegionTalk

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The staging protocol's algebra. -/
abbrev US : Type := URounds (GSem nD τ sig) Unit
/-- The exchange protocol's algebra: a duty is one of five. -/
abbrev UX : Type := URounds (GSem nD τ sig) (Fin 5)
/-- Both, side by side. -/
abbrev UU : Type := US × UX

local notation "𝕄" => MT nD τ sig Unit (Elt F) ℕ UU ℕ

/-- The pipeline's part of the ghost state. -/
abbrev EP : Emb US (MT nD τ sig Unit (Elt F) ℕ UU ℕ) := embL
/-- The exchange protocol's part of the ghost state. -/
abbrev ER : Emb UX (MT nD τ sig Unit (Elt F) ℕ UU ℕ) := embR

/-- The exchange buffer. -/
abbrev xM : Memref sig .tc .vmem S32x128x64 .f32 := Memref.whole cc0_scratch0

/-- Blocks `o`, …, `o + n - 1` of the exchange buffer. -/
abbrev box (o n : ℕ) (h : o + n ≤ 32) : Memref sig .tc .vmem (M3 n) .f32 := rows xM o n h

/-- The elements of a range of blocks, by the first coordinate. -/
theorem mem_box {o n : ℕ} {h : o + n ≤ 32} (i : S32x128x64.Idx) :
    i ∈ (box o n h).view.set ↔ o ≤ (i 0).val ∧ (i 0).val < o + n := by
  rw [show (box o n h).view.set = (Rect.unit (s := S32x128x64) ![o, 0, 0] (M3 n).size (inb_rows h)).set from
    View.set_slice_whole _ _]
  refine Rect.mem_set_unit.trans ⟨fun H => H 0, fun H a => ?_⟩
  fin_cases a
  · exact H
  · exact ⟨Nat.zero_le _, by have := (i 1).isLt; simpa using this⟩
  · exact ⟨Nat.zero_le _, by have := (i 2).isLt; simpa using this⟩

/-- Ranges that do not overlap are disjoint. -/
theorem box_disjoint {o n o' n' : ℕ} {h : o + n ≤ 32} {h' : o' + n' ≤ 32} (hd : o + n ≤ o') :
    Disjoint (box o n h).view.set (box o' n' h').view.set :=
  Finset.disjoint_left.mpr fun i hi hi' => by
    have a := (mem_box (h := h) i).mp hi
    have b := (mem_box (h := h') i).mp hi'
    omega

/-- A range from the start and the next one make one range. -/
theorem box_union {n k : ℕ} (h : 0 + n ≤ 32) (h' : n + k ≤ 32) (h'' : 0 + (n + k) ≤ 32) :
    (box 0 n h).view.set ∪ (box n k h').view.set = (box 0 (n + k) h'').view.set := by
  ext i
  refine Finset.mem_union.trans (Iff.trans (or_congr (mem_box i) (mem_box i)) (Iff.trans ?_ (mem_box i).symm))
  omega

/-- The first coordinate is below 32. -/
theorem first_lt (i : S32x128x64.Idx) : (i 0).val < 0 + 32 := (i 0).isLt

/-- All 32 blocks are the whole buffer. -/
theorem box_univ (h : 0 + 32 ≤ 32) : (box 0 32 h).view.set = Finset.univ := by
  ext i
  exact (mem_box (h := h) i).trans ⟨fun _ => Finset.mem_univ _, fun _ =>
    ⟨Nat.zero_le _, first_lt i⟩⟩

/-- A range within a range. -/
theorem box_subset {o n o' n' : ℕ} {h : o + n ≤ 32} {h' : o' + n' ≤ 32} (h1 : o' ≤ o) (h2 : o + n ≤ o' + n') :
    (box o n h).view.set ⊆ (box o' n' h').view.set := fun i hi => by
  have a := (mem_box (h := h) i).mp hi
  exact (mem_box (h := h') i).mpr (by omega)

/-- Device `c` owns blocks `o`, …, `o + n - 1` of its exchange buffer, which hold `f` there. -/
abbrev boxPts (c : Dev nD) (o n : ℕ) (h : o + n ≤ 32) (f : Buf (Elt F) ((box o n h).view.loc (c : Thread nD τ))) :
    sProp 𝕄 := (box o n h).view.loc (c : Thread nD τ) ↦[(box o n h).view.set]{fullShare} f

/-- Device `c` owns blocks `o`, …, `o + n - 1` of its exchange buffer, and they hold `X`. -/
def holds (c : Dev nD) (o n : ℕ) (h : o + n ≤ 32) (X : FVec F (M3 n) .f32) : sProp 𝕄 :=
  iprop(∃ f, ⌜(box o n h).view.read (Elt F) f = X⌝ ∗ boxPts c o n h f)

/-- Device `c` owns blocks `o`, …, `o + n - 1` of its exchange buffer, at any contents. -/
def holdsAny (c : Dev nD) (o n : ℕ) (h : o + n ≤ 32) : sProp 𝕄 := iprop(∃ f, boxPts c o n h f)

/-- A range with known contents may be a payload. -/
instance holds_storable (c : Dev nD) (o n : ℕ) (h : o + n ≤ 32) (X : FVec F (M3 n) .f32) :
    BI.Storable (upEmb : UEmb _ 𝕄) (holds c o n h X) := by unfold holds; infer_instance
/-- A range with any contents may be a payload. -/
instance holdsAny_storable (c : Dev nD) (o n : ℕ) (h : o + n ≤ 32) :
    BI.Storable (upEmb : UEmb _ 𝕄) (holdsAny (F := F) c o n h) := by unfold holdsAny; infer_instance

/-- Known contents may be forgotten. -/
theorem holds_any (c : Dev nD) (o n : ℕ) (h : o + n ≤ 32) (X : FVec F (M3 n) .f32) :
    (holds c o n h X : sProp 𝕄) ⊢ holdsAny c o n h := by
  unfold holds holdsAny
  iintro ⟨%f, -, H⟩
  iexists f; iexact H

/-- A range with known contents, as a points-to over a buffer that reads so. -/
theorem holds_elim (c : Dev nD) (o n : ℕ) (h : o + n ≤ 32) (X : FVec F (M3 n) .f32) :
    (holds c o n h X : sProp 𝕄) ⊢ iprop(∃ f, ⌜(box o n h).view.read (Elt F) f = X⌝ ∗ boxPts c o n h f) := by
  unfold holds
  exact BI.Entails.refl _

/-- Contents carried along an equation of block numbers. -/
def castRows {α : Type} {a b : ℕ} (h : a = b) (x : (M3 a).Idx → α) : (M3 b).Idx → α := h ▸ x

/-- The number of blocks may be written in another way. -/
theorem holds_cast (c : Dev nD) {o a b : ℕ} (e : a = b) (h : o + a ≤ 32) (h' : o + b ≤ 32) (X : FVec F (M3 a) .f32) :
    (holds c o a h X : sProp 𝕄) = holds c o b h' (castRows e X) := by subst e; rfl

/-- Two neighbouring ranges join, each part keeping what it holds. -/
theorem holds_join (c : Dev nD) {n k : ℕ} (h : 0 + n ≤ 32) (h' : n + k ≤ 32) (h'' : 0 + (n + k) ≤ 32)
    (X : FVec F (M3 n) .f32) (Y : FVec F (M3 k) .f32) :
    iprop(holds c 0 n h X ∗ holds c n k h' Y) ⊢ (iprop(∃ f, ⌜(box 0 n h).view.read (Elt F) f = X
        ∧ (box n k h').view.read (Elt F) f = Y⌝ ∗ boxPts c 0 (n + k) h'' f) : sProp 𝕄) := by
  unfold holds
  iintro ⟨⟨%f, %hf, H1⟩, ⟨%g, %hg, H2⟩⟩
  have hd : Disjoint (box 0 n h).view.set (box n k h').view.set := box_disjoint (by omega)
  have hu := box_union h h' h''
  iexists ((box n k h').view.set.piecewise g f)
  isplitr
  · ipureintro
    refine ⟨?_, ?_⟩
    · rw [← hf]; exact View.read_congr fun i hi => Finset.piecewise_eq_of_notMem _ _ _ (Finset.disjoint_left.mp hd hi)
    · rw [← hg]; exact View.read_congr fun i hi => Finset.piecewise_eq_of_mem _ _ _ hi
  · unfold boxPts
    rw [← hu]
    iapply (pointsTo_join hd)
    isplitl [H1]; · iexact H1
    iexact H2

/-- Two adjoining ranges make one. -/
theorem holdsAny_join (c : Dev nD) {n k : ℕ} (h : 0 + n ≤ 32) (h' : n + k ≤ 32) (h'' : 0 + (n + k) ≤ 32) :
    iprop(holdsAny c 0 n h ∗ holdsAny c n k h') ⊢ (holdsAny (F := F) c 0 (n + k) h'' : sProp 𝕄) := by
  unfold holdsAny
  iintro ⟨⟨%f, H1⟩, ⟨%g, H2⟩⟩
  have hd : Disjoint (box 0 n h).view.set (box n k h').view.set := box_disjoint (by omega)
  have hu := box_union h h' h''
  iexists ((box n k h').view.set.piecewise g f)
  unfold boxPts
  rw [← hu]
  iapply (pointsTo_join hd)
  isplitl [H1]; · iexact H1
  iexact H2

/-- A range splits in two. -/
theorem holdsAny_split (c : Dev nD) {n k : ℕ} (h : 0 + n ≤ 32) (h' : n + k ≤ 32) (h'' : 0 + (n + k) ≤ 32) :
    (holdsAny (F := F) c 0 (n + k) h'' : sProp 𝕄) ⊢ iprop(holdsAny c 0 n h ∗ holdsAny c n k h') := by
  unfold holdsAny
  iintro ⟨%f, H⟩
  have hs : (boxPts c 0 (n + k) h'' f : sProp 𝕄) ⊢ iprop(boxPts c 0 n h f ∗ boxPts c n k h' f) := by
    have hd : Disjoint (box 0 n h).view.set (box n k h').view.set := box_disjoint (by omega)
    refine (Entails.of_eq ?_).trans (pointsTo_union (Ix := Unit) (Val := Elt F) (Name := ℕ) (U := UU) (Lvl := ℕ)
      (q := fullShare) (f := f) hd).1
    exact congrArg (fun S => ((box 0 n h).view.loc (c : Thread nD τ) ↦[S]{fullShare} f : sProp 𝕄)) (box_union h h' h'').symm
  ihave Hs := hs $$ H
  icases Hs with ⟨H1, H2⟩
  isplitl [H1]
  · iexists f; iexact H1
  · iexists f; iexact H2

/-- The whole buffer at any contents is all blocks at any contents. -/
theorem holdsAny_whole (c : Dev nD) (h : 0 + 32 ≤ 32) :
    (holdsAny (F := F) c 0 32 h : sProp 𝕄)
      = iprop(∃ f, ((c : Thread nD τ).loc cc0_scratch0) ↦{fullShare} f) := by
  unfold holdsAny boxPts
  rw [box_univ]
  rfl

end Cert.Sort
-- ==== Proof.Proto.lean ====
/- The exchange protocol: what each block range holds after each step, which semaphore pays for
what, what each device owes at launch, and at which level each semaphore is waited for. -/
module

public import proofs.«01_k».proof.Proof.Mem

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What each device starts the exchange with. -/
abbrev Blocks (F : FTy → Type) : Type := Dev nD → FVec F S128x64 .f32

/-- What the first `2 ^ t` blocks of device `c`'s exchange buffer hold before step `t`. -/
def cont (A : Blocks F) : (t : ℕ) → Dev nD → FVec F (M3 (2 ^ t)) .f32
  | 0, c => shapeCast S1x128x64 (shapeCast S128x64 (A c) shapeCasts_S128x64_S128x64) shapeCasts_S128x64_S1x128x64
  | t + 1, c => castRows (by rw [pow_succ]; omega) (stepOn t c (cont A t c) (cont A t (prt t c)))

/-! ## The semaphores -/

/-- The first barrier's semaphore. -/
abbrev barS : Sem sig := ⟨0, by decide⟩
/-- The closing barrier's semaphore. -/
abbrev bar2S : Sem sig := ⟨1, by decide⟩
/-- Step `t`'s send semaphore. -/
abbrev sendS (t : Fin 5) : DmaSem sig := ⟨2 + t.val, by have := t.isLt; show 2 + t.val < 12; omega⟩
/-- Step `t`'s receive semaphore. -/
abbrev recvS (t : Fin 5) : DmaSem sig := ⟨7 + t.val, by have := t.isLt; show 7 + t.val < 12; omega⟩

/-- The first barrier's cell on a device. -/
abbrev barC (c : Dev nD) : GSem nD τ sig := ((c : Thread nD τ), .reg barS)
/-- The closing barrier's cell on a device. -/
abbrev bar2C (c : Dev nD) : GSem nD τ sig := ((c : Thread nD τ), .reg bar2S)
/-- Step `t`'s send cell on a device. -/
abbrev sendC (t : Fin 5) (c : Dev nD) : GSem nD τ sig := ((c : Thread nD τ), .dma (sendS t))
/-- Step `t`'s receive cell on a device. -/
abbrev recvC (t : Fin 5) (c : Dev nD) : GSem nD τ sig := ((c : Thread nD τ), .dma (recvS t))

/-- The step of an exchange semaphore. -/
def stepOf (s : DmaSem sig) : Fin 5 := ⟨(s.val - 2) % 5, Nat.mod_lt _ (by decide)⟩

/-- A send semaphore's step. -/
theorem stepOf_send : ∀ t : Fin 5, stepOf (sendS t) = t := by decide
/-- A receive semaphore's step. -/
theorem stepOf_recv : ∀ t : Fin 5, stepOf (recvS t) = t := by decide
/-- The send semaphores come before the receive semaphores. -/
theorem send_lt (t : Fin 5) : (sendS t).val < 7 := by have := t.isLt; show 2 + t.val < 7; omega
/-- The receive semaphores come after them. -/
theorem recv_ge (t : Fin 5) : ¬ (recvS t).val < 7 := by show ¬ 7 + t.val < 7; omega

/-- The block range one copy of step `t` moves, in credit units. -/
def amt (t : Fin 5) : ℕ := (box 0 (2 ^ t.val) (zero_add_pow_le t.isLt)).view.dmaCredit

/-- A copy moves something. -/
theorem amt_pos (t : Fin 5) : 0 < amt t := View.dmaCredit_pos _ (M3_pos (pow_pos' _))

/-! ## The schedule -/

section Schedule

variable (A : Blocks F)

/-- Paid to `c`'s barrier by its partner of step `t`: the range of the partner's buffer that `c`'s
    copy of step `t` lands in, and that the partner's receive semaphore and
    closing barrier are ready. -/
def barPay (c : Dev nD) (t : Fin 5) : sProp 𝕄 :=
  iprop(holdsAny (prt t c) (2 ^ t.val) (2 ^ t.val) (pow_add_le t.isLt) ∗ reached ER (recvC t (prt t c)) 0
    ∗ reached ER (bar2C (prt t c)) 0)

/-- Paid to `c`'s receive semaphore: the landing range, holding the partner's run. -/
def recvPay (t : Fin 5) (c : Dev nD) : sProp 𝕄 :=
  holds c (2 ^ t.val) (2 ^ t.val) (pow_add_le t.isLt) (cont A t (prt t c))

/-- Paid to `c`'s send semaphore: its own run back. -/
def sendPay (t : Fin 5) (c : Dev nD) : sProp 𝕄 :=
  holds c 0 (2 ^ t.val) (zero_add_pow_le t.isLt) (cont A t c)

/-- One round on every semaphore of the exchange: five duties of one unit on each barrier, one
    duty of a copy's credit on each send and receive semaphore. -/
def rd : Rounds.Schedule (GSem nD τ sig) (Fin 5) 𝕄 where
  duties g r := if r = 0 ∧ g.1.2 = .tc then
      (match g.2 with | .reg _ => Finset.univ | .dma s => if 2 ≤ s.val then {0} else ∅)
    else ∅
  unitless _ := False
  amount g _ _ := match g.2 with | .reg _ => 1 | .dma s => amt (stepOf s)
  payload g _ d := match g.2 with
    | .reg s => if s = barS then barPay g.1.1 d else iprop(emp)
    | .dma s => if s.val < 7 then sendPay A (stepOf s) g.1.1 else recvPay A (stepOf s) g.1.1
  amount_pos g _ _ _ := by
    rcases g with ⟨c, s | s⟩
    · exact Nat.one_pos
    · exact amt_pos _

/-- Every payload may be stored. -/
instance rd_storable (g : GSem nD τ sig) (r : ℕ) (d : Fin 5) :
    BI.Storable (upEmb : UEmb _ 𝕄) ((rd A).payload g r d) := by
  rcases g with ⟨c, s | s⟩
  · show BI.Storable upEmb (if s = barS then barPay c.1 d else iprop(emp))
    unfold barPay
    split <;> infer_instance
  · show BI.Storable upEmb (if s.val < 7 then sendPay A (stepOf s) c.1 else recvPay A (stepOf s) c.1)
    unfold sendPay recvPay
    split <;> infer_instance

variable (c : Dev nD) (t : Fin 5)

/-- Each barrier cell has five duties, one for each partner. -/
theorem duties_reg (s : Sem sig) : (rd A).duties ((c : Thread nD τ), .reg s) 0 = Finset.univ := by
  dsimp only [rd]; exact if_pos ⟨rfl, rfl⟩
/-- A send cell has one duty. -/
theorem duties_send : (rd A).duties (sendC t c) 0 = {0} := by
  dsimp only [rd]; rw [if_pos ⟨rfl, rfl⟩]; exact if_pos (Nat.le_add_right _ _)
/-- A receive cell has one duty. -/
theorem duties_recv : (rd A).duties (recvC t c) 0 = {0} := by
  dsimp only [rd]; rw [if_pos ⟨rfl, rfl⟩]; exact if_pos (show 2 ≤ 7 + t.val by omega)
/-- There is nothing after the first round. -/
theorem duties_later (g : GSem nD τ sig) : ∀ r, 1 ≤ r → (rd A).duties g r = ∅ :=
  fun r hr => by dsimp only [rd]; exact if_neg fun h => by omega

/-- A barrier signal is one unit. -/
theorem amount_reg (s : Sem sig) (d : Fin 5) : (rd A).amount ((c : Thread nD τ), .reg s) 0 d = 1 := rfl
/-- A send cell gets the copy's units. -/
theorem amount_send (d : Fin 5) : (rd A).amount (sendC t c) 0 d = amt t := congrArg amt (stepOf_send t)
/-- So does a receive cell. -/
theorem amount_recv (d : Fin 5) : (rd A).amount (recvC t c) 0 d = amt t := congrArg amt (stepOf_recv t)

/-- A barrier cell expects five units. -/
theorem expect_reg (s : Sem sig) : (rd A).expect ((c : Thread nD τ), .reg s) 0 = 5 := by
  rw [Rounds.Schedule.expect, duties_reg]; rfl
/-- A send cell expects one copy. -/
theorem expect_send : (rd A).expect (sendC t c) 0 = amt t := by
  rw [Rounds.Schedule.expect, duties_send, Rounds.Schedule.amountOf, Finset.sum_singleton, amount_send]
/-- A receive cell expects one copy. -/
theorem expect_recv : (rd A).expect (recvC t c) 0 = amt t := by
  rw [Rounds.Schedule.expect, duties_recv, Rounds.Schedule.amountOf, Finset.sum_singleton, amount_recv]

/-- A signal of the first barrier hands over the blocks that the waiter may write. -/
theorem payload_bar (d : Fin 5) : (rd A).payload (barC c) 0 d = barPay c d := by dsimp only [rd]; exact if_pos rfl
/-- A signal of the closing barrier hands over nothing. -/
theorem payload_bar2 (d : Fin 5) : (rd A).payload (bar2C c) 0 d = iprop(emp) := by
  dsimp only [rd]; exact if_neg (by decide)
/-- A send's end gives the sent blocks back. -/
theorem payload_send (d : Fin 5) : (rd A).payload (sendC t c) 0 d = sendPay A t c := by
  dsimp only [rd]; rw [stepOf_send]; exact if_pos (send_lt t)
/-- A landing hands over the partner's blocks. -/
theorem payload_recv (d : Fin 5) : (rd A).payload (recvC t c) 0 d = recvPay A t c := by
  dsimp only [rd]; rw [stepOf_recv]; exact if_neg (recv_ge t)

/-- All that a send cell's round hands over. -/
theorem rest_send : bigSep ((rd A).duties (sendC t c) 0 \ ∅) (fun u => (rd A).payload (sendC t c) 0 u) = sendPay A t c := by
  rw [Finset.sdiff_empty, duties_send, bigSep_singleton, payload_send]
/-- All that a receive cell's round hands over. -/
theorem rest_recv : bigSep ((rd A).duties (recvC t c) 0 \ ∅) (fun u => (rd A).payload (recvC t c) 0 u) = recvPay A t c := by
  rw [Finset.sdiff_empty, duties_recv, bigSep_singleton, payload_recv]

end Schedule

/-! ## What each device owes, and the levels -/

/-- What is owed along a list, the head paid first. -/
def owed : List (GSem nD τ sig × ℕ) → CellTallies nD τ sig Unit
  | [] => 0
  | p :: l => owed l + tallyAt p.1 () p.2

/-- The units of a barrier, one to each partner. -/
def unitsTo (X : Dev nD → GSem nD τ sig) (c : Dev nD) (l : List (GSem nD τ sig × ℕ)) : List (GSem nD τ sig × ℕ) :=
  (X (prt 0 c), 1) :: (X (prt 1 c), 1) :: (X (prt 2 c), 1) :: (X (prt 3 c), 1) :: (X (prt 4 c), 1) :: l

/-- The copies from step `t` on. -/
def copies (c : Dev nD) (l : List (GSem nD τ sig × ℕ)) : List (GSem nD τ sig × ℕ) :=
  (recvC 0 (prt 0 c), amt 0) :: (recvC 1 (prt 1 c), amt 1) :: (recvC 2 (prt 2 c), amt 2) ::
    (recvC 3 (prt 3 c), amt 3) :: (recvC 4 (prt 4 c), amt 4) :: l

/-- Everything device `c` pays, in the order it pays it. -/
def dues (c : Dev nD) : List (GSem nD τ sig × ℕ) := unitsTo barC c (copies c (unitsTo bar2C c []))

/-- What device `c` owes at launch. -/
def O₀ (c : Dev nD) : CellTallies nD τ sig Unit := owed (dues c)

/-- The cells that have levels: those of the devices' own threads. -/
def L (g : GSem nD τ sig) : Finset Unit := if g.1.2 = .tc then {()} else ∅

/-- The first barrier before the steps, the steps in order, the closing barrier last. -/
def lvl (s : SemLoc sig) : ℕ := match s with
  | .reg s => if s = barS then 1 else 7
  | .dma s => if s.val < 2 then 0 else 2 + (stepOf s).val

/-- A cell's level is its semaphore's. -/
def lv (g : GSem nD τ sig) (_ : Unit) : ℕ := lvl g.2

/-- A device's own cell has levels. -/
theorem L_tc (c : Dev nD) (sm : SemLoc sig) : L ((c : Thread nD τ), sm) = {()} := if_pos rfl
/-- No other cell has. -/
theorem L_of_ne (g : GSem nD τ sig) (h : g.1.2 ≠ .tc) : L g = ∅ := if_neg h

/-- A send semaphore's level grows with its step. -/
theorem lvl_send (t : Fin 5) : lvl (.dma (sendS t)) = 2 + t.val := by
  refine (if_neg (by show ¬ 2 + t.val < 2; omega)).trans (by rw [stepOf_send])
/-- So does a receive semaphore's. -/
theorem lvl_recv (t : Fin 5) : lvl (.dma (recvS t)) = 2 + t.val := by
  refine (if_neg (by show ¬ 7 + t.val < 2; omega)).trans (by rw [stepOf_recv])

/-- All entries of the list lie on the devices' own threads, above level `n`. -/
def Above (n : ℕ) (l : List (GSem nD τ sig × ℕ)) : Prop := ∀ p ∈ l, p.1.1.2 = .tc ∧ n < lvl p.1.2

/-- What is owed is owed by an entry of the list. -/
theorem owed_pos {l : List (GSem nD τ sig × ℕ)} {g : GSem nD τ sig} {u : Unit} (h : 0 < owed l g u) :
    ∃ p ∈ l, p.1 = g := by
  induction l with
  | nil => exact absurd h (Nat.lt_irrefl 0)
  | cons p l ih =>
    by_cases hp : p.1 = g
    · exact ⟨p, List.mem_cons_self .., hp⟩
    · have h1 : tallyAt (nD := nD) (τ := τ) (sig := sig) p.1 () p.2 g u = 0 := by
        rw [tallyAt_apply, if_neg fun e => hp e.1.symm]
      have h2 : owed (p :: l) g u = owed l g u + tallyAt (nD := nD) (τ := τ) (sig := sig) p.1 () p.2 g u := rfl
      rw [h2, h1, Nat.add_zero] at h
      obtain ⟨q, hq, e⟩ := ih h
      exact ⟨q, List.mem_cons_of_mem _ hq, e⟩

/-- A device may wait at a level below all it owes. -/
theorem mayWait (c : Dev nD) (s : SemLoc sig) {l : List (GSem nD τ sig × ℕ)} (h : Above (lvl s) l) :
    (levAts L lv : sProp 𝕄) ⊢ MayWait (c : Thread nD τ) s () (owed l) :=
  MayOwe.of_cut (L := L) (lev := lv) (lvl s)
    (fun p hp => by rw [Finset.mem_singleton.mp hp, L_tc]; exact Finset.mem_singleton_self _)
    (fun g u hg => by
      obtain ⟨p, hp, e⟩ := owed_pos hg
      subst e
      rw [L, if_pos (h p hp).1]; exact Finset.mem_singleton_self _)
    (fun p hp => by rw [Finset.mem_singleton.mp hp]; exact le_refl _)
    (fun g u hg => by
      obtain ⟨p, hp, e⟩ := owed_pos hg
      subst e
      exact (h p hp).2)

/-- The empty list is above every level. -/
theorem above_nil (n : ℕ) : Above n [] := fun p hp => absurd hp (List.not_mem_nil)

/-- A list with a further entry above the level. -/
theorem above_cons {n : ℕ} {p : GSem nD τ sig × ℕ} {l : List (GSem nD τ sig × ℕ)} (h1 : p.1.1.2 = .tc)
    (h2 : n < lvl p.1.2) (h : Above n l) : Above n (p :: l) := fun q hq => by
  rcases List.mem_cons.mp hq with rfl | hq
  · exact ⟨h1, h2⟩
  · exact h q hq

/-! ## The cells of the protocol -/

/-- The semaphores of the exchange which a kernel call scopes: the closing barrier, the five send
    and the five receive semaphores. -/
def osem (k : Fin 11) : SemLoc sig :=
  if k = 0 then .reg bar2S else .dma ⟨k.val + 1, by have := k.isLt; show k.val + 1 < 12; omega⟩

/-- The number of step `t`'s send semaphore among them, -/
def kSend (t : Fin 5) : Fin 11 := ⟨1 + t.val, by have := t.isLt; omega⟩
/-- and of its receive semaphore. -/
def kRecv (t : Fin 5) : Fin 11 := ⟨6 + t.val, by have := t.isLt; omega⟩

/-- The first of the call's semaphores is the closing barrier's. -/
theorem osem_zero : osem 0 = .reg bar2S := rfl
/-- Then come the sends', -/
theorem osem_send : ∀ t : Fin 5, osem (kSend t) = .dma (sendS t) := by decide
/-- and the receives'. -/
theorem osem_recv : ∀ t : Fin 5, osem (kRecv t) = .dma (recvS t) := by decide
/-- The eleven are different. -/
theorem osem_inj : Function.Injective osem := by decide
/-- None of them is the first barrier's. -/
theorem osem_ne_bar : ∀ k : Fin 11, osem k ≠ .reg barS := by decide

/-- The first barrier's cells, by device. -/
def barEmb : Dev nD ↪ GSem nD τ sig := ⟨barC, fun _ _ h => congrArg (fun g : GSem nD τ sig => g.1.1) h⟩
/-- The call's cells, by device and semaphore. -/
def scEmb : Dev nD × Fin 11 ↪ GSem nD τ sig :=
  ⟨fun p => ((p.1 : Thread nD τ), osem p.2), fun p q h =>
    Prod.ext (congrArg (fun g : GSem nD τ sig => g.1.1) h) (osem_inj (congrArg (fun g : GSem nD τ sig => g.2) h))⟩

/-- The first barriers, open from launch. -/
abbrev barCells : Finset (GSem nD τ sig) := Finset.univ.map barEmb
/-- The scoped semaphores, opened when the kernel call starts. -/
abbrev scCells : Finset (GSem nD τ sig) := Finset.univ.map scEmb

/-- The two families of cells are disjoint. -/
theorem disjoint_cells : Disjoint (barCells : Finset (GSem nD τ sig)) scCells := by
  refine Finset.disjoint_left.mpr fun g hb hs => ?_
  obtain ⟨c, -, rfl⟩ := Finset.mem_map.mp hb
  obtain ⟨q, -, hq⟩ := Finset.mem_map.mp hs
  exact osem_ne_bar q.2 (congrArg (fun g : GSem nD τ sig => g.2) hq)

/-- The first barrier's cell is in the protocol. -/
theorem bar_mem (c : Dev nD) : barC c ∈ (barCells ∪ scCells : Finset (GSem nD τ sig)) :=
  Finset.mem_union_left _ (Finset.mem_map.mpr ⟨c, Finset.mem_univ _, rfl⟩)
/-- So is each of the call's cells, -/
theorem sc_mem (c : Dev nD) (k : Fin 11) : ((c : Thread nD τ), osem k) ∈ (barCells ∪ scCells : Finset (GSem nD τ sig)) :=
  Finset.mem_union_right _ (Finset.mem_map.mpr ⟨(c, k), Finset.mem_univ _, rfl⟩)
/-- the closing barrier's, -/
theorem bar2_mem (c : Dev nD) : bar2C c ∈ (barCells ∪ scCells : Finset (GSem nD τ sig)) := sc_mem c 0
/-- the sends', -/
theorem send_mem (t : Fin 5) (c : Dev nD) : sendC t c ∈ (barCells ∪ scCells : Finset (GSem nD τ sig)) := by
  have := sc_mem c (kSend t); rwa [osem_send] at this
/-- and the receives'. -/
theorem recv_mem (t : Fin 5) (c : Dev nD) : recvC t c ∈ (barCells ∪ scCells : Finset (GSem nD τ sig)) := by
  have := sc_mem c (kRecv t); rwa [osem_recv] at this

/-- Every cell's invariant, at the names `K`, and that every first barrier is ready. -/
def records (A : Blocks F) (K : GSem nD τ sig → ℕ) : sProp 𝕄 :=
  iprop((bigSep (barCells ∪ scCells) fun g => cellInv ER (rd A) (K g) g) ∗ bigSep barCells fun g => reached ER g 0)

/-- The record of the cells' invariants can be used again and again. -/
instance records_persistent (A : Blocks F) (K : GSem nD τ sig → ℕ) : BI.Persistent (records A K) := by
  unfold records; infer_instance

/-- Each cell of the protocol has its invariant. -/
theorem inv_at (A : Blocks F) (K : GSem nD τ sig → ℕ) {g : GSem nD τ sig}
    (hg : g ∈ (barCells ∪ scCells : Finset (GSem nD τ sig))) : (records A K : sProp 𝕄) ⊢ cellInv ER (rd A) (K g) g := by
  unfold records
  exact BI.Entails.trans (BI.Entails.trans BI.sep_and and_elimL) (bigSep_elim hg)

/-- The first barrier's cells are at their first round from the start. -/
theorem bar_ready (A : Blocks F) (K : GSem nD τ sig → ℕ) (c : Dev nD) : (records A K : sProp 𝕄) ⊢ reached ER (barC c) 0 := by
  unfold records
  exact BI.Entails.trans (BI.Entails.trans BI.sep_and and_elimR) (bigSep_elim (Finset.mem_map_of_mem barEmb (Finset.mem_univ c)))

end Cert.Sort
-- ==== Proof.Run.lean ====
/- One step of the exchange on a symbolic device: the run goes to the partner, the partner's run
arrives, and the merge of both stands over the doubled range. -/
module

public import proofs.«01_k».proof.Proof.Proto

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No function of the program recurses. -/
abbrev 𝒱₀ : Variants := Variants.none

/-- The semaphore that step `t` sends with. -/
theorem sem_send : ∀ t : Fin 5, semAt cc0_scratch1 t.val t.isLt = sendS t := by decide
/-- The semaphore that step `t` receives with. -/
theorem sem_recv : ∀ t : Fin 5, semAt cc0_scratch2 t.val t.isLt = recvS t := by decide

variable (A : Blocks F) (K : GSem nD τ sig → ℕ)

/-- What device `c` brings to step `t` besides its run and its partner's landing range. -/
def stepPre (t : Fin 5) (c : Dev nD) : sProp 𝕄 :=
  iprop(dutyTok ER (sendC t c) 0 0 ∗ dutyTok ER (recvC t (prt t c)) 0 0
    ∗ atPos ER (sendC t c) 0 ∅ 0 ∗ atPos ER (recvC t c) 0 ∅ 0
    ∗ reached ER (sendC t c) 0 ∗ cred (tallyAt (recvC t c) () (amt t)))

/-- Its two semaphores of step `t` are through their round. -/
def stepPost (t : Fin 5) (c : Dev nD) : sProp 𝕄 :=
  iprop(atPos ER (sendC t c) 1 ∅ 0 ∗ atPos ER (recvC t c) 1 ∅ 0)

/-- Owing `l`, whatever has been waited for. -/
def owing (c : Dev nD) (l : List (GSem nD τ sig × ℕ)) : sProp 𝕄 := iprop(∃ W, owes (c : Thread nD τ) (owed l) W)

/-- The landing range after a copy holds what was sent. -/
theorem landed_holds (t : Fin 5) (c : Dev nD) (f : Buf (Elt F) ((box 0 (2 ^ t.val) (zero_add_pow_le t.isLt)).view.loc (c : Thread nD τ)))
    (g : Buf (Elt F) ((box (2 ^ t.val) (2 ^ t.val) (pow_add_le t.isLt)).view.loc (prt t c : Thread nD τ)))
    (hf : (box 0 (2 ^ t.val) (zero_add_pow_le t.isLt)).view.read (Elt F) f = cont A t c) :
    (boxPts (prt t c) (2 ^ t.val) (2 ^ t.val) (pow_add_le t.isLt)
        ((box (2 ^ t.val) (2 ^ t.val) (pow_add_le t.isLt)).view.write (Elt F) g
          ((box 0 (2 ^ t.val) (zero_add_pow_le t.isLt)).view.read (Elt F) f) Finset.univ) : sProp 𝕄)
      ⊢ (rd A).payload (recvC t (prt t c)) 0 0 := by
  rw [payload_recv]; unfold recvPay holds
  rw [prt_prt]
  iintro H
  iexists ((box (2 ^ t.val) (2 ^ t.val) (pow_add_le t.isLt)).view.write (Elt F) g
    ((box 0 (2 ^ t.val) (zero_add_pow_le t.isLt)).view.read (Elt F) f) Finset.univ)
  isplitr
  · ipureintro
    exact (View.read_write_univ _ _).trans hf
  · iexact H

/-- Loading a block range inside an owned one. -/
theorem load_box (c : Dev nD) {o n o' n' : ℕ} (h : o + n ≤ 32) (h' : o' + n' ≤ 32) (h1 : o' ≤ o) (h2 : o + n ≤ o' + n')
    (w : Buf (Elt F) ((box o' n' h').view.loc (c : Thread nD τ)))
    (hl : xM.view.LoadsAt (Rect.unit (s := S32x128x64) ![o, 0, 0] (M3 n).size (inb_rows h)).toLoadRect)
    (k : Vec F (M3 n) .f32 → Body F PUnit) (Q : PUnit → sProp 𝕄) :
    boxPts c o' n' h' w ⊢ iprop((boxPts c o' n' h' w -∗ wp frame (wpE (defs₀ (F := F)) 𝒱₀ c none) Set.univ
        (k ((box o n h).view.read (Elt F) w)) Q)
      -∗ wp frame (wpE (defs₀ (F := F)) 𝒱₀ c none) Set.univ
        (.op (.load xM (Rect.unit (s := S32x128x64) ![o, 0, 0] (M3 n).size (inb_rows h)).toLoadRect hl) k) Q) :=
  wp_load_rect 𝒱₀ (c : Thread nD τ) none Set.univ (m := xM)
    (r := Rect.unit (s := S32x128x64) ![o, 0, 0] (M3 n).size (inb_rows h)) (q := fullShare) (f := w)
    (box_subset (h := h) h1 h2)

/-- Storing over an owned block range. -/
theorem store_box (c : Dev nD) {o n : ℕ} (h : o + n ≤ 32) (X : FVec F (M3 n) .f32)
    (hx : (xM.access (Rect.unit (s := S32x128x64) ![o, 0, 0] (M3 n).size (inb_rows h))).Stores Finset.univ)
    (hm) (k : PUnit → Body F PUnit) (Q : PUnit → sProp 𝕄) :
    holdsAny c o n h ⊢ iprop((holds c o n h X -∗ wp frame (wpE (defs₀ (F := F)) 𝒱₀ c none) Set.univ (k ⟨⟩) Q)
      -∗ wp frame (wpE (defs₀ (F := F)) 𝒱₀ c none) Set.univ
        (.op (.store xM (Rect.unit (s := S32x128x64) ![o, 0, 0] (M3 n).size (inb_rows h)) X Finset.univ hx hm) k) Q) := by
  have hs : ∀ w : Buf (Elt F) ((box o n h).view.loc (c : Thread nD τ)), boxPts c o n h w
      ⊢ iprop((boxPts c o n h ((box o n h).view.write (Elt F) w X Finset.univ)
          -∗ wp frame (wpE (defs₀ (F := F)) 𝒱₀ c none) Set.univ (k ⟨⟩) Q)
        -∗ wp frame (wpE (defs₀ (F := F)) 𝒱₀ c none) Set.univ
        (.op (.store xM (Rect.unit (s := S32x128x64) ![o, 0, 0] (M3 n).size (inb_rows h)) X Finset.univ hx hm) k) Q) :=
    fun w => wp_store 𝒱₀ (c : Thread nD τ) none Set.univ (m := xM)
      (r := Rect.unit (s := S32x128x64) ![o, 0, 0] (M3 n).size (inb_rows h)) (Mk := Finset.univ) (f := w)
      (Finset.Subset.refl _)
  unfold holdsAny holds
  iintro ⟨%w, H⟩ Hk
  iapply (hs w) $$ H
  iintro H
  iapply Hk
  iexists ((box o n h).view.write (Elt F) w X Finset.univ)
  isplitr
  · ipureintro; exact View.read_write_univ (v := (box o n h).view) w X
  · iexact H

/-- One step of the exchange: the copy, the two waits and the merge. -/
theorem exchange_run (t : Fin 5) (c : Dev nD) (l : List (GSem nD τ sig × ℕ)) (hl : Above (2 + t.val) l)
    (Kt : PUnit → sProp 𝕄) :
    iprop(records A K ∗ levAts L lv ∗ barPay c t ∗ holds c 0 (2 ^ t.val) (zero_add_pow_le t.isLt) (cont A t c)
        ∗ stepPre t c ∗ owing c ((recvC t (prt t c), amt t) :: l)
        ∗ ((holds c 0 (2 ^ (t.val + 1)) (by have := zero_add_two_pow_le t.isLt; rw [pow_succ]; omega) (cont A (t.val + 1) c)
            ∗ stepPost t c ∗ owing c l) -∗ Kt ⟨⟩))
      ⊢ wp frame (wpE (defs₀ (F := F)) 𝒱₀ c none) Set.univ
          (exchangeP xM cc0_scratch1 cc0_scratch2 t.val t.isLt c) Kt := by
  unfold exchangeP exchange stepPre stepPost owing barPay
  rw [sem_send, sem_recv]
  unfold exchangeS
  iintro ⟨#HR, #Hlev, ⟨HsN, #HrN, -⟩, Hx, ⟨HtS, HtR, HaS, HaR, #HrS, HcR⟩, ⟨%W, HO⟩, Hk⟩
  ihave #HIS := (inv_at A K (send_mem t c)) $$ HR
  ihave #HIR := (inv_at A K (recv_mem t c)) $$ HR
  ihave #HIN := (inv_at A K (recv_mem t (prt t c))) $$ HR
  unfold holdsAny
  icases HsN with ⟨%g, HsN⟩
  ihave Hx := (holds_elim c _ _ _ (cont A t c)) $$ Hx
  icases Hx with ⟨%f, %hf, Hx⟩
  iapply (Rounds.wp_send_pointsTo 𝒱₀ ER (rd A) (c : Thread nD τ) none (c' := (prt t c : Thread nD τ))
      (src := box 0 (2 ^ t.val) (zero_add_pow_le t.isLt)) (dst := box (2 ^ t.val) (2 ^ t.val) (pow_add_le t.isLt))
      (sS := .dma (sendS t)) (sem := .dma (recvS t)) (q := fullShare) (fs := f) (fd := g)
      (κ₁ := K (sendC t c)) (κ₂ := K (recvC t (prt t c)))
      (r₁ := 0) (r₂ := 0) (d₁ := 0) (d₂ := 0)
      (by rw [duties_send]; exact Finset.mem_singleton_self _) (by rw [duties_recv]; exact Finset.mem_singleton_self _)
      () () (amt t) rfl (amount_send A c t 0) (amount_recv A (prt t c) t 0) (owed l) rfl (W := W)
      (by rw [payload_send]; unfold sendPay holds; iintro H; iexists f; isplitr; (· ipureintro; exact hf); iexact H)
      (landed_holds A t c f g hf)) $$ [Hx HsN HO HtS HtR]
  · isplitr; · iexact HIS
    isplitr; · iexact HIN
    isplitl [Hx]; · iexact Hx
    isplitl [HsN]; · iexact HsN
    isplitl [HO]; · iexact HO
    isplitl [HtS]; · iexact HtS
    isplitr; · iexact HrS
    isplitl [HtR]; · iexact HtR
    iexact HrN
  iintro ⟨HcS, HO⟩
  iapply (Rounds.wp_wait_rest_token 𝒱₀ ER (rd A) (c : Thread nD τ) none (κ := K (sendC t c))
      (wpE_waitDma2_eq 𝒱₀ (c : Thread nD τ) none Set.univ
        (src := box (2 ^ t.val) (2 ^ t.val) (pow_add_le t.isLt)) (dst := box 0 (2 ^ t.val) (zero_add_pow_le t.isLt))
        (hsrc := View.wordExact_bits rfl) (hdst := View.wordExact_bits rfl)) (Set.mem_univ _) () (O := owed l) (W := W) (R := 0) (m := 0) (T := ∅)
      ((Nat.zero_add _).trans (expect_send A c t).symm)) $$ [HcS HO HaS]
  · isplitr; · iexact HIS
    isplitl [HcS]; · iexact HcS
    isplitl [HO]; · iexact HO
    isplitr; · iapply (mayWait c (.dma (sendS t)) (by rw [lvl_send]; exact hl)); iexact Hlev
    iexact HaS
  iintro ⟨HO, HaS, -, Hpay⟩
  ihave Hx := (Entails.of_eq (rest_send A c t)) $$ Hpay
  iapply (Rounds.wp_wait_rest_token 𝒱₀ ER (rd A) (c : Thread nD τ) none (κ := K (recvC t c))
      (wpE_waitDma2_eq 𝒱₀ (c : Thread nD τ) none Set.univ
        (src := box 0 (2 ^ t.val) (zero_add_pow_le t.isLt)) (dst := box (2 ^ t.val) (2 ^ t.val) (pow_add_le t.isLt))
        (hsrc := View.wordExact_bits rfl) (hdst := View.wordExact_bits rfl)) (Set.mem_univ _) () (O := owed l)
      (W := insert (SemLoc.dma (sendS t), ()) W) (R := 0) (m := 0) (T := ∅)
      ((Nat.zero_add _).trans (expect_recv A c t).symm)) $$ [HcR HO HaR]
  · isplitr; · iexact HIR
    isplitl [HcR]; · iexact HcR
    isplitl [HO]; · iexact HO
    isplitr; · iapply (mayWait c (.dma (recvS t)) (by rw [lvl_recv]; exact hl)); iexact Hlev
    iexact HaR
  iintro ⟨HO, HaR, -, Hpay⟩
  ihave Hy := (Entails.of_eq (rest_recv A c t)) $$ Hpay
  unfold sendPay recvPay
  ihave Hj := (holds_join c (zero_add_pow_le t.isLt) (pow_add_le t.isLt) (zero_add_two_pow_le t.isLt)
    (cont A t c) (cont A t (prt t c))) $$ [Hx Hy]
  · isplitl [Hx]; · iexact Hx
    iexact Hy
  icases Hj with ⟨%w, %hw, Hw⟩
  iapply (load_box c (zero_add_pow_le t.isLt) (zero_add_two_pow_le t.isLt) (le_refl _) (Nat.add_le_add_left (Nat.le_add_right _ _) _) w) $$ Hw
  iintro Hw
  iapply (load_box c (pow_add_le t.isLt) (zero_add_two_pow_le t.isLt) (Nat.zero_le _) (Nat.le_of_eq (Nat.zero_add _).symm) w) $$ Hw
  iintro Hw
  iapply (load_box c (zero_add_two_pow_le t.isLt) (zero_add_two_pow_le t.isLt) (le_refl _) (le_refl _) w) $$ Hw
  iintro Hw
  rw [hw.1, hw.2]
  iapply (store_box c (zero_add_two_pow_le t.isLt)) $$ [Hw]
  · unfold holdsAny; iexists w; iexact Hw
  iintro Hw
  rw [wp_ret]
  imodintro
  iapply Hk
  isplitl [Hw]
  · iapply (Entails.of_eq (holds_cast c (by rw [pow_succ]; omega : 2 ^ t.val + 2 ^ t.val = 2 ^ (t.val + 1))
      (zero_add_two_pow_le t.isLt) (by have := zero_add_two_pow_le t.isLt; rw [pow_succ]; omega)
      (stepOn t c (cont A t c) (cont A t (prt t c))))) $$ Hw
  isplitl [HaS HaR]
  · isplitl [HaS]; · iexact HaS
    iexact HaR
  · iexists _; iexact HO

end Cert.Sort
-- ==== Proof.Body.lean ====
/- The kernel's body on a symbolic device: both barriers, the first block, the five steps and the
device's own block of the result. -/
module

public import proofs.«01_k».proof.Proof.Run

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Blocks F) (K : GSem nD τ sig → ℕ)

/-- A barrier of device `c`. -/
abbrev regC (s : Sem sig) (c : Dev nD) : GSem nD τ sig := ((c : Thread nD τ), .reg s)

/-- What device `c` brings to the signal it gives its partner of step `t`. -/
def sigPre (s : Sem sig) (t : Fin 5) (c : Dev nD) : sProp 𝕄 :=
  iprop(dutyTok ER (regC s (prt t c)) 0 t ∗ (rd A).payload (regC s (prt t c)) 0 t ∗ reached ER (regC s (prt t c)) 0)

/-- A barrier signal to the partner of one step, which discharges one unit of what the device owes. -/
theorem signal_run (s : Sem sig) (hs : ∀ d, regC s d ∈ (barCells ∪ scCells : Finset (GSem nD τ sig))) (t : Fin 5) (c : Dev nD)
    (l : List (GSem nD τ sig × ℕ)) (k : PUnit → Body F PUnit) (Q : PUnit → sProp 𝕄) :
    iprop(records A K ∗ sigPre A s t c ∗ owing c ((regC s (prt t c), 1) :: l))
      ⊢ iprop((owing c l -∗ wp frame (wpE (defs₀ (F := F)) 𝒱₀ c none) Set.univ (k ⟨⟩) Q)
        -∗ wp frame (wpE (defs₀ (F := F)) 𝒱₀ c none) Set.univ
          (.op (.semSignal (prt t c : Thread nD τ) s ((1 : ℕ) : ℤ)) k) Q) := by
  unfold sigPre owing
  iintro ⟨#HR, ⟨Ht, Hp, #Hr⟩, %W, HO⟩ Hk
  ihave #HI := (inv_at A K (hs (prt t c))) $$ HR
  iapply (Rounds.wp_signal 𝒱₀ ER (rd A) (c : Thread nD τ) none (dst := (prt t c : Thread nD τ)) (sem := s) (r := 0) (d := t)
      (κ := K (regC s (prt t c))) (by rw [duties_reg]; exact Finset.mem_univ _) (amount_reg A (prt t c) s t) () (owed l) rfl)
    $$ [HO Ht Hp]
  · isplitr; · iexact HI
    isplitl [HO]; · iexact HO
    isplitl [Ht]; · iexact Ht
    isplitl [Hp]; · iexact Hp
    iexact Hr
  iintro HO
  iapply Hk
  iexists W; iexact HO

/-- A barrier: a unit to each partner, then five units of one's own. -/
theorem meet_run (s : Sem sig) (hs : ∀ d, regC s d ∈ (barCells ∪ scCells : Finset (GSem nD τ sig))) (c : Dev nD)
    (l : List (GSem nD τ sig × ℕ)) (hl : Above (lvl (.reg s)) l) (Kt : PUnit → sProp 𝕄) :
    iprop(records A K ∗ levAts L lv
        ∗ (sigPre A s 0 c ∗ sigPre A s 1 c ∗ sigPre A s 2 c ∗ sigPre A s 3 c ∗ sigPre A s 4 c)
        ∗ cred (tallyAt (regC s c) () 5) ∗ atPos ER (regC s c) 0 ∅ 0 ∗ owing c (unitsTo (regC s) c l)
        ∗ ((bigSep Finset.univ (fun t : Fin 5 => (rd A).payload (regC s c) 0 t) ∗ atPos ER (regC s c) 1 ∅ 0 ∗ owing c l)
          -∗ Kt ⟨⟩))
      ⊢ wp frame (wpE (defs₀ (F := F)) 𝒱₀ c none) Set.univ (meetP s c) Kt := by
  unfold meetP meet unitsTo
  iintro ⟨#HR, #Hlev, ⟨H0, H1, H2, H3, H4⟩, Hc, Ha, HO, Hk⟩
  iapply (signal_run A K s hs 0 c) $$ [H0 HO]
  · isplitr; · iexact HR
    isplitl [H0]; · iexact H0
    iexact HO
  iintro HO
  iapply (signal_run A K s hs 1 c) $$ [H1 HO]
  · isplitr; · iexact HR
    isplitl [H1]; · iexact H1
    iexact HO
  iintro HO
  iapply (signal_run A K s hs 2 c) $$ [H2 HO]
  · isplitr; · iexact HR
    isplitl [H2]; · iexact H2
    iexact HO
  iintro HO
  iapply (signal_run A K s hs 3 c) $$ [H3 HO]
  · isplitr; · iexact HR
    isplitl [H3]; · iexact H3
    iexact HO
  iintro HO
  iapply (signal_run A K s hs 4 c) $$ [H4 HO]
  · isplitr; · iexact HR
    isplitl [H4]; · iexact H4
    iexact HO
  unfold owing
  iintro ⟨%W, HO⟩
  ihave #HI := (inv_at A K (hs c)) $$ HR
  iapply (Rounds.wp_wait_rest_token 𝒱₀ ER (rd A) (c : Thread nD τ) none (κ := K (regC s c))
      (wpE_semWait_eq 𝒱₀ (c : Thread nD τ) none Set.univ) (Set.mem_univ _) () (O := owed l) (W := W) (R := 0) (m := 0) (T := ∅)
      (k' := 5) ((Nat.zero_add _).trans (expect_reg A c s).symm)) $$ [Hc HO Ha]
  · isplitr; · iexact HI
    isplitl [Hc]; · iexact Hc
    isplitl [HO]; · iexact HO
    isplitr; · iapply (mayWait c (.reg s) hl); iexact Hlev
    iexact Ha
  iintro ⟨HO, Ha, -, Hpay⟩
  rw [wp_ret]
  imodintro
  iapply Hk
  isplitl [Hpay]
  · rw [Finset.sdiff_empty, duties_reg]; iexact Hpay
  isplitl [Ha]; · iexact Ha
  iexists _; iexact HO

/-- The staged rows of device `c`, at `x`. -/
abbrev inPts (c : Dev nD) (x : FVec F S128x64 .f32) : sProp 𝕄 := ((c : Thread nD τ).loc cc0_stg0_0) ↦{fullShare} x
/-- The staged block of the result, at `y`. -/
abbrev outPts (c : Dev nD) (y : FVec F S128x64 .f32) : sProp 𝕄 := ((c : Thread nD τ).loc cc0_stg1_0) ↦{fullShare} y

/-- Two zero offsets are the zero function. -/
theorem zeros2 : (![0, 0] : Fin 2 → ℕ) = fun _ => 0 := by decide

/-- A load of the whole input window reads the window's contents. -/
theorem read_in (x : FVec F S128x64 .f32) :
    ((Memref.whole cc0_stg0_0).access (Rect.unit (s := S128x64) ![0, 0] S128x64.size inb_S128x64_S128x64_0_0)).read (Elt F) x = x :=
  Memref.read_access_unit_zero (Elt F) cc0_stg0_0 zeros2 _ x

/-- A store over the whole output window leaves the stored block there. -/
theorem write_out (y z : FVec F S128x64 .f32) :
    ((Memref.whole cc0_stg1_0).access (Rect.unit (s := S128x64) ![0, 0] S128x64.size inb_S128x64_S128x64_0_0)).write (Elt F) y z
      Finset.univ = z :=
  Memref.write_access_unit_zero_univ (Elt F) cc0_stg1_0 zeros2 _ y z

/-- An entry of `n` blocks of rows. -/
abbrev idx3 {n : ℕ} (b i j : ℕ) (hb : b < n) (hi : i < 128) (hj : j < 64) : (M3 n).Idx
  | ⟨0, _⟩ => ⟨b, hb⟩
  | ⟨1, _⟩ => ⟨i, hi⟩
  | ⟨2, _⟩ => ⟨j, hj⟩

/-- The first block lies in the exchange buffer. -/
theorem zero_one_le : 0 + 2 ^ 0 ≤ 32 := by decide
/-- The 32 blocks fit the exchange buffer. -/
theorem zero_all_le : 0 + 2 ^ 5 ≤ 32 := by decide

/-- The copy of the device's input into the first block of the exchange buffer. -/
theorem fill_run (c : Dev nD) (Kt : PUnit → sProp 𝕄) :
    iprop(inPts c (A c) ∗ holdsAny c 0 (2 ^ 0) zero_one_le
        ∗ ((inPts c (A c) ∗ holds c 0 (2 ^ 0) zero_one_le (cont A 0 c)) -∗ Kt ⟨⟩))
      ⊢ wp frame (wpE (defs₀ (F := F)) 𝒱₀ c none) Set.univ (fill (Memref.whole cc0_stg0_0) xM) Kt := by
  unfold fill
  iintro ⟨Hx, Hw, Hk⟩
  iapply (wp_load_rect 𝒱₀ (c : Thread nD τ) none Set.univ (m := Memref.whole cc0_stg0_0)
    (r := Rect.unit (s := S128x64) ![0, 0] S128x64.size inb_S128x64_S128x64_0_0) (q := fullShare) (f := A c)
    (Finset.subset_univ _)) $$ Hx
  iintro Hx
  rw [read_in (A c)]
  unfold holdsAny
  icases Hw with ⟨%w, Hw⟩
  iapply (load_box c zero_one_le zero_one_le (le_refl _) (le_refl _) w) $$ Hw
  iintro Hw
  iapply (store_box c zero_one_le) $$ [Hw]
  · unfold holdsAny; iexists w; iexact Hw
  iintro Hw
  rw [wp_ret]
  imodintro
  iapply Hk
  isplitl [Hx]; · iexact Hx
  iexact Hw

/-- Device `c`'s own block of the whole buffer. -/
def ownBlock (c : Dev nD) (X : FVec F (M3 (2 ^ 5)) .f32) : FVec F S1x128x64 .f32 := fun i =>
  X (idx3 (n := 32) c.val (i 1).val (i 2).val c.isLt (i 1).isLt (i 2).isLt)

/-- What device `c` returns. -/
def result (c : Dev nD) : FVec F S128x64 .f32 := shapeCast S128x64 (ownBlock c (cont A 5 c)) shapeCasts_S1x128x64_S128x64

/-- A load at the device's own number reads its block of the buffer. -/
theorem read_own (c : Dev nD) (w : Buf (Elt F) ((box 0 (2 ^ 5) zero_all_le).view.loc (c : Thread nD τ)))
    (X : FVec F (M3 (2 ^ 5)) .f32) (hw : (box 0 (2 ^ 5) zero_all_le).view.read (Elt F) w = X) :
    (xM.access (Rect.unit (s := S32x128x64) (k0_off1 c) S1x128x64.size (k0_off1_inb c))).read (Elt F) w = ownBlock c X := by
  subst hw
  funext i
  refine congrArg w ?_
  funext a
  apply Fin.ext
  have h0 := congrFun (k0_off1_eq c) a
  have hi : (i 0).val = 0 := by have : (i 0).val < 1 := (i 0).isLt; omega
  fin_cases a
  · show k0_off1 c 0 + 1 * (i 0).val = 0 + 1 * c.val
    have h0 : k0_off1 c 0 = c.val := h0
    omega
  · show k0_off1 c 1 + 1 * (i 1).val = 0 + 1 * (i 1).val
    have h0 : k0_off1 c 1 = 0 := h0
    omega
  · show k0_off1 c 2 + 1 * (i 2).val = 0 + 1 * (i 2).val
    have h0 : k0_off1 c 2 = 0 := h0
    omega

/-- The store of the device's own block of the buffer into the output. -/
theorem emit_run (c : Dev nD) (y : FVec F S128x64 .f32) (Kt : PUnit → sProp 𝕄) :
    iprop(outPts c y ∗ holds c 0 (2 ^ 5) zero_all_le (cont A 5 c)
        ∗ ((outPts c (result A c) ∗ holdsAny c 0 (2 ^ 5) zero_all_le) -∗ Kt ⟨⟩))
      ⊢ wp frame (wpE (defs₀ (F := F)) 𝒱₀ c none) Set.univ (emit c (Memref.whole cc0_stg1_0) xM) Kt := by
  unfold emit
  iintro ⟨Hy, Hx, Hk⟩
  ihave Hx := (holds_elim c _ _ _ (cont A 5 c)) $$ Hx
  icases Hx with ⟨%w, %hw, Hx⟩
  iapply (wp_load_rect 𝒱₀ (c : Thread nD τ) none Set.univ (m := xM)
    (r := Rect.unit (s := S32x128x64) (k0_off1 c) S1x128x64.size (k0_off1_inb c)) (q := fullShare) (f := w)
    (S := (box 0 (2 ^ 5) zero_all_le).view.set)
    (by rw [show (box 0 (2 ^ 5) zero_all_le).view.set = Finset.univ from box_univ _]; exact Finset.subset_univ _)) $$ [Hx]
  · iexact Hx
  iintro Hx
  rw [read_own c w _ hw]
  iapply (wp_load_rect 𝒱₀ (c : Thread nD τ) none Set.univ (m := Memref.whole cc0_stg1_0)
    (r := Rect.unit (s := S128x64) ![0, 0] S128x64.size inb_S128x64_S128x64_0_0) (q := fullShare) (f := y)
    (Finset.subset_univ _)) $$ Hy
  iintro Hy
  iapply (wp_store 𝒱₀ (c : Thread nD τ) none Set.univ (m := Memref.whole cc0_stg1_0)
    (r := Rect.unit (s := S128x64) ![0, 0] S128x64.size inb_S128x64_S128x64_0_0) (Mk := Finset.univ) (f := y)
    (Finset.subset_univ _)) $$ Hy
  iintro Hy
  rw [write_out y]
  rw [wp_ret]
  imodintro
  iapply Hk
  isplitl [Hy]; · iexact Hy
  unfold holdsAny
  iexists w; iexact Hx

/-- A separating product over five steps, written out. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The range of `c`'s buffer that a copy of step `t` lands in. -/
abbrev landing (t : Fin 5) (c : Dev nD) : sProp 𝕄 := holdsAny (F := F) c (2 ^ t.val) (2 ^ t.val) (pow_add_le t.isLt)

/-- The buffer in pieces: the first block and the five landing ranges. -/
theorem scratch_split (c : Dev nD) :
    (holdsAny (F := F) c 0 (2 ^ 5) zero_all_le : sProp 𝕄)
      ⊢ iprop(holdsAny c 0 (2 ^ 0) zero_one_le ∗ landing 0 c ∗ landing 1 c ∗ landing 2 c ∗ landing 3 c ∗ landing 4 c) := by
  have s4 := holdsAny_split (F := F) c (n := 2 ^ 4) (k := 2 ^ 4) (by decide) (by decide) zero_all_le
  have s3 := holdsAny_split (F := F) c (n := 2 ^ 3) (k := 2 ^ 3) (by decide) (by decide) (by decide : 0 + 2 ^ 4 ≤ 32)
  have s2 := holdsAny_split (F := F) c (n := 2 ^ 2) (k := 2 ^ 2) (by decide) (by decide) (by decide : 0 + 2 ^ 3 ≤ 32)
  have s1 := holdsAny_split (F := F) c (n := 2 ^ 1) (k := 2 ^ 1) (by decide) (by decide) (by decide : 0 + 2 ^ 2 ≤ 32)
  have s0 := holdsAny_split (F := F) c (n := 2 ^ 0) (k := 2 ^ 0) (by decide) (by decide) (by decide : 0 + 2 ^ 1 ≤ 32)
  iintro H
  ihave H := s4 $$ H
  icases H with ⟨H, H4⟩
  ihave H := s3 $$ H
  icases H with ⟨H, H3⟩
  ihave H := s2 $$ H
  icases H with ⟨H, H2⟩
  ihave H := s1 $$ H
  icases H with ⟨H, H1⟩
  ihave H := s0 $$ H
  icases H with ⟨H, H0⟩
  isplitl [H]; · iexact H
  isplitl [H0]; · iexact H0
  isplitl [H1]; · iexact H1
  isplitl [H2]; · iexact H2
  isplitl [H3]; · iexact H3
  iexact H4

/-- The device's own part of the protocol, its semaphores opened. -/
def opened (c : Dev nD) : sProp 𝕄 :=
  iprop((bigSep Finset.univ fun t : Fin 5 => dutyTok ER (barC (prt t c)) 0 t)
    ∗ (bigSep Finset.univ fun t : Fin 5 => dutyTok ER (bar2C (prt t c)) 0 t)
    ∗ (bigSep Finset.univ fun t : Fin 5 => stepPre t c)
    ∗ (bigSep Finset.univ fun t : Fin 5 => reached ER (recvC t c) 0)
    ∗ reached ER (bar2C c) 0
    ∗ cred (tallyAt (barC c) () 5) ∗ cred (tallyAt (bar2C c) () 5)
    ∗ atPos ER (barC c) 0 ∅ 0 ∗ atPos ER (bar2C c) 0 ∅ 0)

/-- What device `c` brings to the body besides what every device may consult and the staged blocks. -/
def bodyPre (c : Dev nD) : sProp 𝕄 := iprop(opened c ∗ owing c (dues c) ∗ holdsAny c 0 (2 ^ 5) zero_all_le)

/-- What it has of these afterwards. -/
def bodyPost (c : Dev nD) : sProp 𝕄 :=
  iprop((bigSep Finset.univ fun t : Fin 5 => stepPost t c)
    ∗ atPos ER (barC c) 1 ∅ 0 ∗ atPos ER (bar2C c) 1 ∅ 0
    ∗ owing c [] ∗ holdsAny c 0 (2 ^ 5) zero_all_le)

/-- What one signal of the first barrier hands over. -/
theorem bar_payload (t : Fin 5) (c : Dev nD) :
    iprop(landing t c ∗ reached ER (recvC t c) 0 ∗ reached ER (bar2C c) 0) ⊢ ((rd A).payload (regC barS (prt t c)) 0 t : sProp 𝕄) := by
  rw [payload_bar]; unfold barPay
  rw [prt_prt]

/-- A partner's payment tells that its closing barrier is ready. -/
theorem pay_ready (t : Fin 5) (c : Dev nD) :
    (barPay (F := F) c t : sProp 𝕄) ⊢ iprop(barPay c t ∗ reached ER (bar2C (prt t c)) 0) := by
  unfold barPay
  iintro ⟨H, Hr, #Hb⟩
  isplitl [H Hr]
  · isplitl [H]; · iexact H
    isplitl [Hr]; · iexact Hr
    iexact Hb
  · iexact Hb

/-- The signal of the first barrier. -/
theorem sig_bar (t : Fin 5) (c : Dev nD) :
    iprop(records A K ∗ dutyTok ER (barC (prt t c)) 0 t ∗ landing t c ∗ reached ER (recvC t c) 0 ∗ reached ER (bar2C c) 0)
      ⊢ (sigPre A barS t c : sProp 𝕄) := by
  unfold sigPre
  iintro ⟨#HR, Ht, Hl, Hr, Hb⟩
  ihave #HB := (bar_ready A K (prt t c)) $$ HR
  isplitl [Ht]; · iexact Ht
  isplitl [Hl Hr Hb]
  · iapply (bar_payload A t c)
    isplitl [Hl]; · iexact Hl
    isplitl [Hr]; · iexact Hr
    iexact Hb
  · iexact HB

/-- The signal of the closing barrier. -/
theorem sig_bar2 (t : Fin 5) (c : Dev nD) :
    iprop(dutyTok ER (bar2C (prt t c)) 0 t ∗ reached ER (bar2C (prt t c)) 0) ⊢ (sigPre A bar2S t c : sProp 𝕄) := by
  unfold sigPre
  rw [payload_bar2]
  iintro ⟨Ht, Hr⟩
  isplitl [Ht]; · iexact Ht
  isplitr [Hr]; · iempintro
  iexact Hr

/-- A list above a level is above every lower level. -/
theorem above_mono {m n : ℕ} {l : List (GSem nD τ sig × ℕ)} (h : m ≤ n) (ha : Above n l) : Above m l :=
  fun p hp => ⟨(ha p hp).1, lt_of_le_of_lt h (ha p hp).2⟩

/-- The units owed to the closing barrier lie above all five steps. -/
theorem above_end (c : Dev nD) : Above 6 (unitsTo bar2C c []) :=
  have h : 6 < lvl (.reg bar2S) := by decide
  above_cons rfl h (above_cons rfl h (above_cons rfl h (above_cons rfl h (above_cons rfl h (above_nil 6)))))

/-- What is owed after step `t` lies above the step. -/
theorem above_step (t : Fin 5) (c : Dev nD) {l : List (GSem nD τ sig × ℕ)} (h : Above (2 + t.val) l) :
    Above (1 + t.val) ((recvC t (prt t c), amt t) :: l) :=
  above_cons rfl (by rw [lvl_recv]; omega) (above_mono (by omega) h)

/-- The whole body: from the device's share of the protocol to the closed share, with the result in the output window. -/
theorem body_run (c : Dev nD) (y : FVec F S128x64 .f32) (Kt : PUnit → sProp 𝕄) :
    iprop(records A K ∗ levAts L lv ∗ bodyPre c ∗ inPts c (A c) ∗ outPts c y
        ∗ ((bodyPost c ∗ inPts c (A c) ∗ outPts c (result A c)) -∗ Kt ⟨⟩))
      ⊢ wp frame (wpE (defs₀ (F := F)) 𝒱₀ c none) Set.univ
          (restP c (Memref.whole cc0_stg0_0) (Memref.whole cc0_stg1_0) xM cc0_scratch1 cc0_scratch2 bar2S) Kt := by
  have e4 := above_step 4 c (above_end c)
  have e3 := above_step 3 c e4
  have e2 := above_step 2 c e3
  have e1 := above_step 1 c e2
  have e0 := above_step 0 c e1
  unfold restP bodyPre opened
  simp only [bigSep_five, wp_bind]
  iintro ⟨#HR, #Hlev, ⟨⟨⟨T0, T1, T2, T3, T4⟩, ⟨U0, U1, U2, U3, U4⟩, ⟨P0, P1, P2, P3, P4⟩, ⟨R0, R1, R2, R3, R4⟩, #RB, HC, HC2, Ha, Ha2⟩, HO, Hs⟩,
    Hx, Hy, Hk⟩
  ihave Hs := (scratch_split c) $$ Hs
  icases Hs with ⟨Hs, L0, L1, L2, L3, L4⟩
  iapply (meet_run A K barS bar_mem c (copies c (unitsTo bar2C c [])) e0)
  isplitr; · iexact HR
  isplitr; · iexact Hlev
  isplitl [T0 T1 T2 T3 T4 R0 R1 R2 R3 R4 L0 L1 L2 L3 L4]
  · isplitl [T0 R0 L0]
    · iapply (sig_bar A K 0 c)
      isplitr; · iexact HR
      isplitl [T0]; · iexact T0
      isplitl [L0]; · iexact L0
      isplitl [R0]; · iexact R0
      iexact RB
    isplitl [T1 R1 L1]
    · iapply (sig_bar A K 1 c)
      isplitr; · iexact HR
      isplitl [T1]; · iexact T1
      isplitl [L1]; · iexact L1
      isplitl [R1]; · iexact R1
      iexact RB
    isplitl [T2 R2 L2]
    · iapply (sig_bar A K 2 c)
      isplitr; · iexact HR
      isplitl [T2]; · iexact T2
      isplitl [L2]; · iexact L2
      isplitl [R2]; · iexact R2
      iexact RB
    isplitl [T3 R3 L3]
    · iapply (sig_bar A K 3 c)
      isplitr; · iexact HR
      isplitl [T3]; · iexact T3
      isplitl [L3]; · iexact L3
      isplitl [R3]; · iexact R3
      iexact RB
    · iapply (sig_bar A K 4 c)
      isplitr; · iexact HR
      isplitl [T4]; · iexact T4
      isplitl [L4]; · iexact L4
      isplitl [R4]; · iexact R4
      iexact RB
  isplitl [HC]; · iexact HC
  isplitl [Ha]; · iexact Ha
  isplitl [HO]; · iexact HO
  simp only [bigSep_five, payload_bar]
  iintro ⟨⟨B0, B1, B2, B3, B4⟩, Ha, HO⟩
  ihave ⟨B0, #G0⟩ := (pay_ready 0 c) $$ B0
  ihave ⟨B1, #G1⟩ := (pay_ready 1 c) $$ B1
  ihave ⟨B2, #G2⟩ := (pay_ready 2 c) $$ B2
  ihave ⟨B3, #G3⟩ := (pay_ready 3 c) $$ B3
  ihave ⟨B4, #G4⟩ := (pay_ready 4 c) $$ B4
  iapply (fill_run A c)
  isplitl [Hx]; · iexact Hx
  isplitl [Hs]; · iexact Hs
  iintro ⟨Hx, Hs⟩
  iapply (exchange_run A K 0 c _ e1)
  isplitr; · iexact HR
  isplitr; · iexact Hlev
  isplitl [B0]; · iexact B0
  isplitl [Hs]; · iexact Hs
  isplitl [P0]; · iexact P0
  isplitl [HO]; · iexact HO
  iintro ⟨Hs, P0, HO⟩
  iapply (exchange_run A K 1 c _ e2)
  isplitr; · iexact HR
  isplitr; · iexact Hlev
  isplitl [B1]; · iexact B1
  isplitl [Hs]; · iexact Hs
  isplitl [P1]; · iexact P1
  isplitl [HO]; · iexact HO
  iintro ⟨Hs, P1, HO⟩
  iapply (exchange_run A K 2 c _ e3)
  isplitr; · iexact HR
  isplitr; · iexact Hlev
  isplitl [B2]; · iexact B2
  isplitl [Hs]; · iexact Hs
  isplitl [P2]; · iexact P2
  isplitl [HO]; · iexact HO
  iintro ⟨Hs, P2, HO⟩
  iapply (exchange_run A K 3 c _ e4)
  isplitr; · iexact HR
  isplitr; · iexact Hlev
  isplitl [B3]; · iexact B3
  isplitl [Hs]; · iexact Hs
  isplitl [P3]; · iexact P3
  isplitl [HO]; · iexact HO
  iintro ⟨Hs, P3, HO⟩
  iapply (exchange_run A K 4 c _ (above_end c))
  isplitr; · iexact HR
  isplitr; · iexact Hlev
  isplitl [B4]; · iexact B4
  isplitl [Hs]; · iexact Hs
  isplitl [P4]; · iexact P4
  isplitl [HO]; · iexact HO
  iintro ⟨Hs, P4, HO⟩
  iapply (emit_run A c y)
  isplitl [Hy]; · iexact Hy
  isplitl [Hs]; · iexact Hs
  iintro ⟨Hy, Hs⟩
  iapply (meet_run A K bar2S bar2_mem c [] (above_nil _))
  isplitr; · iexact HR
  isplitr; · iexact Hlev
  isplitl [U0 U1 U2 U3 U4]
  · isplitl [U0]
    · iapply (sig_bar2 A 0 c)
      isplitl [U0]; · iexact U0
      iexact G0
    isplitl [U1]
    · iapply (sig_bar2 A 1 c)
      isplitl [U1]; · iexact U1
      iexact G1
    isplitl [U2]
    · iapply (sig_bar2 A 2 c)
      isplitl [U2]; · iexact U2
      iexact G2
    isplitl [U3]
    · iapply (sig_bar2 A 3 c)
      isplitl [U3]; · iexact U3
      iexact G3
    · iapply (sig_bar2 A 4 c)
      isplitl [U4]; · iexact U4
      iexact G4
  isplitl [HC2]; · iexact HC2
  isplitl [Ha2]; · iexact Ha2
  isplitl [HO]; · iexact HO
  iintro ⟨-, Ha2, HO⟩
  iapply Hk
  isplitl [P0 P1 P2 P3 P4 Ha Ha2 HO Hs]
  · unfold bodyPost
    simp only [bigSep_five]
    isplitl [P0 P1 P2 P3 P4]
    · isplitl [P0]; · iexact P0
      isplitl [P1]; · iexact P1
      isplitl [P2]; · iexact P2
      isplitl [P3]; · iexact P3
      iexact P4
    isplitl [Ha]; · iexact Ha
    isplitl [Ha2]; · iexact Ha2
    isplitl [HO]; · iexact HO
    iexact Hs
  isplitl [Hx]; · iexact Hx
  iexact Hy

end Cert.Sort
-- ==== Proof.Ghost.lean ====
/- The exchange protocol from launch to the end of the kernel call: tokens and credit dealt to the
devices, the scoped semaphores opened before the body, and every semaphore back at zero after it. -/
module

public import proofs.«01_k».proof.Proof.Body

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Tokens -/

/-- A token's semaphore and duty: the two barriers' five duties, and the one of each step's two. -/
def tok (p : Fin 4 × Fin 5) : SemLoc sig × Fin 5 :=
  match p.1 with
  | 0 => (.reg barS, p.2)
  | 1 => (.reg bar2S, p.2)
  | 2 => (.dma (sendS p.2), 0)
  | 3 => (.dma (recvS p.2), 0)

/-- Different duties have different tokens. -/
theorem tok_inj : Function.Injective tok := by decide

/-- The tokens of all duties, by device, kind and step. -/
def tokEmb : Dev nD × (Fin 4 × Fin 5) ↪ GSem nD τ sig × ℕ × Fin 5 :=
  ⟨fun q => (((q.1 : Thread nD τ), (tok q.2).1), 0, (tok q.2).2), fun _ _ h =>
    Prod.ext (congrArg (fun x : GSem nD τ sig × ℕ × Fin 5 => x.1.1.1) h)
      (tok_inj (Prod.ext (congrArg (fun x : GSem nD τ sig × ℕ × Fin 5 => x.1.2) h)
        (congrArg (fun x : GSem nD τ sig × ℕ × Fin 5 => x.2.2) h)))⟩

/-- Every duty's token. -/
def toks : Finset (GSem nD τ sig × ℕ × Fin 5) := Finset.univ.map tokEmb

/-- The tokens of the duties device `c` pays. -/
def payToks (c : Dev nD) : sProp 𝕄 :=
  iprop((bigSep Finset.univ fun t : Fin 5 => dutyTok ER (barC (prt t c)) 0 t)
    ∗ (bigSep Finset.univ fun t : Fin 5 => dutyTok ER (bar2C (prt t c)) 0 t)
    ∗ (bigSep Finset.univ fun t : Fin 5 => dutyTok ER (sendC t c) 0 0)
    ∗ (bigSep Finset.univ fun t : Fin 5 => dutyTok ER (recvC t (prt t c)) 0 0))

/-- A separating product over four kinds, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over all devices and steps, each device's is each partner's. -/
theorem bigSep_partner (Φ : Fin 5 → Dev nD → sProp 𝕄) :
    (bigSep Finset.univ fun c : Dev nD => bigSep Finset.univ fun t : Fin 5 => Φ t c)
      = bigSep Finset.univ fun c : Dev nD => bigSep Finset.univ fun t : Fin 5 => Φ t (prt t c) := by
  rw [BI.bigSep_univ_comm, BI.bigSep_univ_comm (fun c t => Φ t (prt (t : Fin 5).val c))]
  exact bigSep_congr fun t _ => bigSep_univ_equiv (prtEquiv t) (Φ t)

/-- All the tokens, dealt to the devices that pay them. -/
theorem toks_dealt : bigSep toks (fun x => (dutyTok ER x.1 x.2.1 x.2.2 : sProp 𝕄)) = bigSep Finset.univ fun c : Dev nD => payToks c := by
  have h : ∀ c : Dev nD, (bigSep Finset.univ fun p : Fin 4 × Fin 5 =>
      (dutyTok ER ((c : Thread nD τ), (tok p).1) 0 (tok p).2 : sProp 𝕄))
      = iprop((bigSep Finset.univ fun t : Fin 5 => dutyTok ER (barC c) 0 t)
        ∗ (bigSep Finset.univ fun t : Fin 5 => dutyTok ER (bar2C c) 0 t)
        ∗ (bigSep Finset.univ fun t : Fin 5 => dutyTok ER (sendC t c) 0 0)
        ∗ (bigSep Finset.univ fun t : Fin 5 => dutyTok ER (recvC t c) 0 0)) := fun c => by
    rw [bigSep_univ_prod, bigSep_four]; rfl
  unfold toks
  rw [bigSep_map, bigSep_univ_prod]
  refine (bigSep_congr fun c _ => h c).trans ?_
  unfold payToks
  simp only [bigSep_sep']
  rw [bigSep_partner (fun t c => dutyTok ER (barC c) 0 t), bigSep_partner (fun t c => dutyTok ER (bar2C c) 0 t),
    bigSep_partner (fun t c => dutyTok ER (recvC t c) 0 0)]

/-! ## Credit -/

/-- Five amounts added one by one. -/
theorem five_add (l a b c d e : ℕ) : l + e + d + c + b + a = l + (a + b + c + d + e) := by omega

/-- What a list with one unit for each partner owes. -/
theorem owed_unitsTo (X : Dev nD → GSem nD τ sig) (c : Dev nD) (l : List (GSem nD τ sig × ℕ)) (g : GSem nD τ sig) :
    owed (unitsTo X c l) g () = owed l g () + ∑ t : Fin 5, tallyAt (X (prt t c)) () 1 g () := by
  rw [Fin.sum_univ_five]
  exact five_add ..

/-- What a list with the five copies owes. -/
theorem owed_copies (c : Dev nD) (l : List (GSem nD τ sig × ℕ)) (g : GSem nD τ sig) :
    owed (copies c l) g () = owed l g () + ∑ t : Fin 5, tallyAt (recvC t (prt t c)) () (amt t) g () := by
  rw [Fin.sum_univ_five]
  exact five_add ..

/-- A sum over devices does not change when each is replaced by its partner. -/
theorem sum_partner (f : Fin 5 → Dev nD → ℕ) :
    ∑ d : Dev nD, ∑ t : Fin 5, f t (prt t d) = ∑ t : Fin 5, ∑ d : Dev nD, f t d := by
  rw [Finset.sum_comm]
  exact Finset.sum_congr rfl fun t _ => Equiv.sum_comp (prtEquiv t) (f t)

/-- What a semaphore is credited with at launch. -/
theorem credit_at (g : GSem nD τ sig) : launchCredit (Pipeline.owing O₀) 0 g ()
    = (∑ t : Fin 5, ∑ d : Dev nD, tallyAt (bar2C d) () 1 g ()) + (∑ t : Fin 5, ∑ d : Dev nD, tallyAt (recvC t d) () (amt t) g ())
      + ∑ t : Fin 5, ∑ d : Dev nD, tallyAt (barC d) () 1 g () := by
  rw [Pipeline.launchCredit_owing, ← sum_partner (fun t d => tallyAt (bar2C d) () 1 g ()),
    ← sum_partner (fun t d => tallyAt (recvC t d) () (amt t) g ()), ← sum_partner (fun t d => tallyAt (barC d) () 1 g ()),
    ← Finset.sum_add_distrib, ← Finset.sum_add_distrib]
  refine Finset.sum_congr rfl fun d _ => ?_
  unfold O₀ dues
  rw [owed_unitsTo, owed_copies, owed_unitsTo]
  show 0 + _ + _ + _ = _
  rw [Nat.zero_add]

/-- A tally on one semaphore says nothing of another. -/
theorem tally_ne (c d : Dev nD) {s s' : SemLoc sig} (h : s ≠ s') (n : ℕ) :
    (tallyAt ((d : Thread nD τ), s) () n : CellTallies nD τ sig Unit) ((c : Thread nD τ), s') () = 0 := by
  rw [tallyAt_apply, if_neg fun e => h (congrArg (fun g : GSem nD τ sig => g.2) e.1).symm]

/-- Of the tallies on all devices' copies of a semaphore, one counts for a given device. -/
theorem sum_tally (c : Dev nD) (s : SemLoc sig) (n : ℕ) :
    ∑ d : Dev nD, (tallyAt ((d : Thread nD τ), s) () n : CellTallies nD τ sig Unit) ((c : Thread nD τ), s) () = n := by
  rw [Finset.sum_eq_single c]
  · rw [tallyAt_apply, if_pos ⟨rfl, rfl⟩]
  · intro d _ hd
    rw [tallyAt_apply, if_neg fun e => hd (congrArg (fun g : GSem nD τ sig => g.1.1) e.1).symm]
  · exact fun h => absurd (Finset.mem_univ _) h

/-- The two barriers are different semaphores. -/
theorem bar_ne_bar2 : (SemLoc.reg barS : SemLoc sig) ≠ .reg bar2S := by decide
/-- The steps' receive semaphores are different. -/
theorem recv_ne : ∀ t u : Fin 5, t ≠ u → (SemLoc.dma (recvS t) : SemLoc sig) ≠ .dma (recvS u) := by decide

/-- At launch five units are due on a device's first barrier. -/
theorem credit_bar (c : Dev nD) : launchCredit (Pipeline.owing O₀) 0 (barC c) () = 5 := by
  rw [credit_at, Finset.sum_congr rfl fun t _ => Finset.sum_congr rfl fun d _ => tally_ne c d bar_ne_bar2.symm 1,
    Finset.sum_congr rfl fun t _ => Finset.sum_congr rfl fun d _ => tally_ne c d (s := .dma (recvS t)) (s' := .reg barS) (fun h => nomatch h) (amt t),
    Finset.sum_congr rfl fun t _ => sum_tally c (.reg barS) 1]
  simp

/-- At launch five units are due on its closing barrier. -/
theorem credit_bar2 (c : Dev nD) : launchCredit (Pipeline.owing O₀) 0 (bar2C c) () = 5 := by
  rw [credit_at, Finset.sum_congr rfl fun t _ => sum_tally c (.reg bar2S) 1,
    Finset.sum_congr rfl fun t _ => Finset.sum_congr rfl fun d _ => tally_ne c d (s := .dma (recvS t)) (s' := .reg bar2S) (fun h => nomatch h) (amt t),
    Finset.sum_congr (g := fun _ => 0) rfl fun t _ => Finset.sum_eq_zero fun d _ => tally_ne c d bar_ne_bar2 1]
  simp

/-- At launch one copy is due on each receive semaphore. -/
theorem credit_recv (t : Fin 5) (c : Dev nD) : launchCredit (Pipeline.owing O₀) 0 (recvC t c) () = amt t := by
  have h1 : ∀ s : Sem sig, ∑ _u : Fin 5, ∑ d : Dev nD, (tallyAt ((d : Thread nD τ), .reg s) () 1 : CellTallies nD τ sig Unit) (recvC t c) () = 0 :=
    fun s => Finset.sum_eq_zero fun _ _ => Finset.sum_eq_zero fun d _ => tally_ne c d (s := .reg s) (s' := .dma (recvS t)) (fun h => nomatch h) 1
  have h2 : ∑ u : Fin 5, ∑ d : Dev nD, (tallyAt (recvC u d) () (amt u) : CellTallies nD τ sig Unit) (recvC t c) () = amt t := by
    rw [Finset.sum_eq_single t]
    · exact sum_tally c _ _
    · exact fun u _ hu => Finset.sum_eq_zero fun d _ => tally_ne c d (recv_ne u t hu) _
    · exact fun h => absurd (Finset.mem_univ _) h
  rw [credit_at, h1 bar2S, h1 barS, h2, Nat.zero_add, Nat.add_zero]

/-- The credit of one cell as a tally. -/
theorem credit_on (g : GSem nD τ sig) (n : ℕ) (h : launchCredit (Pipeline.owing O₀) 0 g () = n) :
    tallyOn g (launchCredit (Pipeline.owing O₀) 0 g) = (tallyAt g () n : CellTallies nD τ sig Unit) := by
  unfold tallyAt
  refine congrArg _ (Finsupp.ext fun u => ?_)
  cases u
  rw [h, Finsupp.single_eq_same]

/-- The credit device `c` starts with. -/
def creds (c : Dev nD) : sProp 𝕄 :=
  iprop(cred (tallyAt (barC c) () 5) ∗ cred (tallyAt (bar2C c) () 5) ∗ bigSep Finset.univ fun t : Fin 5 => cred (tallyAt (recvC t c) () (amt t)))

/-- The five receive semaphores. -/
def recvEmb : Fin 5 ↪ SemLoc sig := ⟨fun t => .dma (recvS t), fun t u h => by
  by_contra hn; exact recv_ne t u hn h⟩

/-- The launch hands each device the credits that its waits use. -/
theorem creds_intro (c : Dev nD) : (Pipeline.launchCred O₀ c : sProp 𝕄) ⊢ creds c := by
  unfold Pipeline.launchCred creds
  rw [bigSep_univ_at _ (SemLoc.reg barS), credit_on _ _ (credit_bar c)]
  refine sep_mono_right ?_
  rw [BI.bigSep_erase (i := SemLoc.reg bar2S) (Finset.mem_erase.mpr ⟨bar_ne_bar2.symm, Finset.mem_univ _⟩),
    credit_on _ _ (credit_bar2 c)]
  refine sep_mono_right ?_
  have e : (bigSep (Finset.univ.map recvEmb) fun s : SemLoc sig =>
      (cred (tallyOn ((c : Thread nD τ), s) (launchCredit (Pipeline.owing O₀) 0 ((c : Thread nD τ), s))) : sProp 𝕄))
      = bigSep Finset.univ fun t : Fin 5 => cred (tallyAt (recvC t c) () (amt t)) := by
    rw [bigSep_map]
    exact bigSep_congr fun t _ => congrArg cred (credit_on _ _ (credit_recv t c))
  rw [← e]
  refine BI.bigSep_subset fun s hs => ?_
  obtain ⟨t, -, rfl⟩ := Finset.mem_map.mp hs
  have h (r : Sem sig) : recvEmb t ≠ .reg r := fun h => nomatch h
  exact Finset.mem_erase.mpr ⟨h _, Finset.mem_erase.mpr ⟨h _, Finset.mem_univ _⟩⟩

/-! ## Opening and closing the semaphores of the call -/

/-- Different steps have different send semaphores among the eleven. -/
theorem kSend_inj : Function.Injective kSend := by decide
/-- Different steps have different receive semaphores among the eleven. -/
theorem kRecv_inj : Function.Injective kRecv := by decide

/-- The call's eleven semaphores: the closing barrier's, the five sends', the five receives'. -/
theorem bigSep_own (Φ : SemLoc sig → sProp 𝕄) : (bigSep Finset.univ fun k : Fin 11 => Φ (osem k))
    = iprop(Φ (.reg bar2S) ∗ (bigSep Finset.univ fun t : Fin 5 => Φ (.dma (sendS t))) ∗ bigSep Finset.univ fun t : Fin 5 => Φ (.dma (recvS t))) := by
  rw [show (Finset.univ : Finset (Fin 11)) = {0} ∪ (Finset.univ.image kSend ∪ Finset.univ.image kRecv) from by decide,
    BI.bigSep_union (by decide), BI.bigSep_union (by decide), bigSep_singleton,
    bigSep_image_of_injOn (fun a _ b _ h => kSend_inj h), bigSep_image_of_injOn (fun a _ b _ h => kRecv_inj h)]
  simp only [osem_send, osem_recv]
  rfl

/-- What device `c` holds of the protocol from launch on. -/
def linear (c : Dev nD) : sProp 𝕄 :=
  iprop(atPos ER (barC c) 0 ∅ 0 ∗ (bigSep Finset.univ fun k : Fin 11 => openTok ER ((c : Thread nD τ), osem k)) ∗ payToks c)

variable (A : Blocks F) (K : GSem nD τ sig → ℕ)

/-- One of the call's semaphores joins the protocol, at round zero. -/
theorem open_one (c : Dev nD) (k : Fin 11) :
    iprop(records A K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hv⟩
  ihave #HI := (inv_at A K (sc_mem c k)) $$ HR
  imod (Rounds.cell_open ER (rd A) (g := ((c : Thread nD τ), osem k)) (Set.mem_univ (K ((c : Thread nD τ), osem k)))) $$ [Ho Hv] with ⟨Ha, #Hr⟩
  · isplitr; · iexact HI
    isplitl [Ho]; · iexact Ho
    iexact Hv
  imodintro
  isplitl [Ha]; · iexact Ha
  iexact Hr

/-- A semaphore whose round is over leaves the protocol at zero. -/
theorem close_one (c : Dev nD) (s : SemLoc sig) (hs : ((c : Thread nD τ), s) ∈ (barCells ∪ scCells : Finset (GSem nD τ sig))) :
    iprop(records A K ∗ atPos ER ((c : Thread nD τ), s) 1 ∅ 0) ⊢ (|={Set.univ}=> semVal ((c : Thread nD τ), s) 0 : sProp 𝕄) := by
  iintro ⟨#HR, Ha⟩
  ihave #HI := (inv_at A K hs) $$ HR
  iapply (Rounds.cell_close ER (rd A) (Set.mem_univ (K ((c : Thread nD τ), s))) id (duties_later A ((c : Thread nD τ), s)))
  isplitr; · iexact HI
  iexact Ha

/-- All eleven open at once. -/
theorem open_all (c : Dev nD) :
    iprop(records A K ∗ (bigSep Finset.univ fun k : Fin 11 => openTok ER ((c : Thread nD τ), osem k)) ∗ Pipeline.ownSems0 osem c)
      ⊢ (|={Set.univ}=> iprop((bigSep Finset.univ fun k : Fin 11 => atPos ER ((c : Thread nD τ), osem k) 0 ∅ 0)
        ∗ (bigSep Finset.univ fun k : Fin 11 => reached ER ((c : Thread nD τ), osem k) 0)) : sProp 𝕄) := by
  unfold Pipeline.ownSems0
  have e := bigSep_sep' Finset.univ (fun k : Fin 11 => (atPos ER ((c : Thread nD τ), osem k) 0 ∅ 0 : sProp 𝕄))
    (fun k => reached ER ((c : Thread nD τ), osem k) 0)
  rw [← e]
  iintro ⟨#HR, Ho, Hv⟩
  iapply (bigSep_fupd Finset.univ fun k : Fin 11 => (iprop(atPos ER ((c : Thread nD τ), osem k) 0 ∅ 0
    ∗ reached ER ((c : Thread nD τ), osem k) 0) : sProp 𝕄))
  iapply (bigSep_with_persistent (R := records A K) (Φ := fun k : Fin 11 => iprop(openTok ER ((c : Thread nD τ), osem k)
    ∗ semVal ((c : Thread nD τ), osem k) 0)) fun k _ => open_one A K c k)
  isplitr; · iexact HR
  iapply (Entails.of_eq (bigSep_sep' Finset.univ (fun k : Fin 11 => (openTok ER ((c : Thread nD τ), osem k) : sProp 𝕄))
    (fun k => semVal ((c : Thread nD τ), osem k) 0)).symm)
  isplitl [Ho]; · iexact Ho
  iexact Hv

/-- The kernel call's start: the device's part of the protocol, opened. -/
theorem open_run (c : Dev nD) :
    iprop(records A K ∗ linear c ∗ creds c ∗ Pipeline.ownSems0 osem c) ⊢ (|={Set.univ}=> opened c : sProp 𝕄) := by
  unfold linear creds opened stepPre payToks
  iintro ⟨#HR, ⟨Ha, Ho, T1, T2, T3, T4⟩, ⟨C1, C2, C3⟩, Hv⟩
  imod (open_all A K c) $$ [Ho Hv] with ⟨HA, #Hr⟩
  · isplitr; · iexact HR
    isplitl [Ho]; · iexact Ho
    iexact Hv
  imodintro
  ihave HA := (Entails.of_eq (bigSep_own fun s => (atPos ER ((c : Thread nD τ), s) 0 ∅ 0 : sProp 𝕄))) $$ HA
  icases HA with ⟨A2, AS, AR⟩
  ihave Hr := (Entails.of_eq (bigSep_own fun s => (reached ER ((c : Thread nD τ), s) 0 : sProp 𝕄))) $$ Hr
  icases Hr with ⟨#R2, #RS, #RR⟩
  simp only [bigSep_sep']
  isplitl [T1]; · iexact T1
  isplitl [T2]; · iexact T2
  isplitl [T3 T4 AS AR C3]
  · isplitl [T3]; · iexact T3
    isplitl [T4]; · iexact T4
    isplitl [AS]; · iexact AS
    isplitl [AR]; · iexact AR
    isplitr [C3]; · iexact RS
    iexact C3
  isplitr; · iexact RR
  isplitr; · iexact R2
  isplitl [C1]; · iexact C1
  isplitl [C2]; · iexact C2
  isplitl [Ha]; · iexact Ha
  iexact A2

/-- Its end: every semaphore at zero. -/
theorem close_run (c : Dev nD) :
    iprop(records A K ∗ bodyPost c) ⊢ (|={Set.univ}=> iprop(semVal (barC c) 0 ∗ Pipeline.ownSems0 osem c ∗ owing c []
      ∗ holdsAny c 0 (2 ^ 5) zero_all_le) : sProp 𝕄) := by
  unfold bodyPost stepPost
  simp only [bigSep_sep']
  iintro ⟨#HR, ⟨AS, AR⟩, Ha, A2, HO, Hs⟩
  imod (close_one A K c (.reg barS) (bar_mem c)) $$ [Ha] with V
  · isplitr; · iexact HR
    iexact Ha
  imod ((bigSep_with_persistent (R := records A K) (Φ := fun k : Fin 11 => atPos ER ((c : Thread nD τ), osem k) 1 ∅ 0)
    fun k _ => close_one A K c (osem k) (sc_mem c k)).trans (bigSep_fupd Finset.univ fun k : Fin 11 => (semVal ((c : Thread nD τ), osem k) 0 : sProp 𝕄)))
    $$ [A2 AS AR] with V2
  · isplitr; · iexact HR
    iapply (Entails.of_eq (bigSep_own fun s => (atPos ER ((c : Thread nD τ), s) 1 ∅ 0 : sProp 𝕄)).symm)
    isplitl [A2]; · iexact A2
    isplitl [AS]; · iexact AS
    iexact AR
  imodintro
  isplitl [V]; · iexact V
  isplitl [V2]; · unfold Pipeline.ownSems0; iexact V2
  isplitl [HO]; · iexact HO
  iexact Hs

end Cert.Sort
-- ==== Proof.Region.lean ====
/- The kernel call as one region of the program: what it holds before and after its one point, the
body's obligation, and the region's record. -/
module

public import proofs.«01_k».proof.Proof.Ghost
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The blocks the devices bring to the kernel call. -/
def inA : Blocks F := fun c => V18 m c main_v27

/-- What device `c`'s buffers hold after the call: its result's array rewritten. -/
def endV (c : Dev nD) : Valuation τ sig (Elt F) := Function.update (V18 m c) (Proc.devRef .tc main_v28) (result (inA m) c)

/-- The same, as the contents the call leaves. -/
def outsV : Outs (F := F) := fun _ r c => endV m c r

/-- The host's buffers after the call hold what the call's end says. -/
theorem outs_eq (c : Dev nD) : V19 m (outsV m) c = endV m c := by
  unfold V19 outsV endV; rw [Function.update_self]

/-- From launch to the call, device `c` has its ghost state and its credit; -/
def tk (c : Dev nD) : sProp 𝕄 := iprop((∃ K, records (inA m) K ∗ linear c) ∗ creds c)
/-- in the call, its semaphores opened; -/
def xk (c : Dev nD) : sProp 𝕄 := iprop(∃ K, records (inA m) K ∗ levAts L lv ∗ opened c)
/-- after it, the barrier semaphore at zero. -/
def yk (c : Dev nD) : sProp 𝕄 := semVal (barC c) 0

/-- Before the body, -/
def phi0 (c : Dev nD) : sProp 𝕄 := iprop(xk m c ∗ holdsAny c 0 (2 ^ 5) zero_all_le ∗ ∃ r, prngReg c r)
/-- and after it. -/
def phi1 (c : Dev nD) : sProp 𝕄 :=
  iprop(yk c ∗ Pipeline.ownSems0 osem c ∗ holdsAny c 0 (2 ^ 5) zero_all_le ∗ ∃ r, prngReg c r)

/-- The call on device `c`: its operand is read, its result's array written, at the one point. -/
def datS (c : Dev nD) : Dat τ (Elt F) Unit ℕ UU ℕ cfg0 c where
  A w := V18 m c (Proc.devRef .tc (Pipeline.arrRef spec0 w))
  after w _ := match w with
    | 0 => inA m c
    | 1 => result (inA m) c
  Φ t := if t.val = 0 then phi0 m c else phi1 c
  q _ := fullShare
  owed t := if t.val = 0 then O₀ c else 0

/-- The program's one call with its data. -/
def pdatsS : (p : Fin 1) → (c : Dev nD) → Dat τ (Elt F) Unit ℕ UU ℕ (cfgs p) c
  | 0 => datS m

/-- What the call keeps before its one point, -/
theorem phi_first (c : Dev nD) : (datS m c).Φ (t0_0 : Fin cfg0.N).castSucc = phi0 m c := rfl
/-- and after it. -/
theorem phi_last (c : Dev nD) : (datS m c).Φ (t0_0 : Fin cfg0.N).succ = phi1 c := rfl
/-- What a device owes before the point, -/
theorem owed_first (c : Dev nD) : (datS m c).owed (t0_0 : Fin cfg0.N).castSucc = O₀ c := rfl
/-- and after it. -/
theorem owed_last (c : Dev nD) : (datS m c).owed (t0_0 : Fin cfg0.N).succ = 0 := rfl

/-- Owing at a point, as the region states it, -/
theorem owing_in (c : Dev nD) (t : Fin (cfg0.N + 1)) (l : List (GSem nD τ sig × ℕ)) (h : (datS m c).owed t = owed l) :
    (owing c l : sProp 𝕄) ⊢ (datS m c).owesAt () t := by
  unfold owing Dat.owesAt Pipeline.owesWithin Dat.bound; rw [h]
  iintro ⟨%W, HO⟩; iexists W
  isplitr; · ipureintro; exact fun _ _ => Or.inl trivial
  iexact HO
/-- and back. -/
theorem owing_out (c : Dev nD) (t : Fin (cfg0.N + 1)) (l : List (GSem nD τ sig × ℕ)) (h : (datS m c).owed t = owed l) :
    (datS m c).owesAt () t ⊢ (owing c l : sProp 𝕄) := by
  unfold owing Dat.owesAt Pipeline.owesWithin Dat.bound; rw [h]
  iintro ⟨%W, -, HO⟩; iexists W; iexact HO

/-- The body's run in the region's own words. -/
theorem body_here (c : Dev nD) (y : FVec F S128x64 .f32) (Kt : PUnit → sProp 𝕄) :
    iprop(phi0 m c ∗ owing c (dues c) ∗ inPts c (inA m c) ∗ outPts c y
        ∗ ((phi1 c ∗ owing c [] ∗ inPts c (inA m c) ∗ outPts c (result (inA m) c)) -∗ Kt ⟨⟩))
      ⊢ wp frame (wpE (defs₀ (F := F)) 𝒱₀ c none) Set.univ (bodyAt0 t0_0) Kt := by
  show _ ⊢ wp frame (wpE (defs₀ (F := F)) 𝒱₀ c none) Set.univ
    (cc0_body (Memref.whole cc0_stg0_0) (Memref.isWhole_whole _) (Memref.whole cc0_stg1_0) (Memref.isWhole_whole _) xM (Memref.isWhole_whole _) cc0_scratch1 cc0_scratch2 cc0_scoped0) _
  have hbody : cc0_body (F := F) (Memref.whole cc0_stg0_0) (Memref.isWhole_whole _) (Memref.whole cc0_stg1_0) (Memref.isWhole_whole _) xM (Memref.isWhole_whole _) cc0_scratch1 cc0_scratch2 cc0_scoped0
      = Prog.op .deviceId fun d0 => rest d0 (Memref.whole cc0_stg0_0) (Memref.whole cc0_stg1_0) xM cc0_scratch1 cc0_scratch2 cc0_scoped0.sem := by
    rw [cc0_body_eq]; rfl
  rw [hbody, wp_deviceId]
  have hrest : rest (F := F) c (Memref.whole cc0_stg0_0) (Memref.whole cc0_stg1_0) xM cc0_scratch1 cc0_scratch2 cc0_scoped0.sem
    = restP c (Memref.whole cc0_stg0_0) (Memref.whole cc0_stg1_0) xM cc0_scratch1 cc0_scratch2 bar2S := rest_eq ..
  rw [hrest]
  unfold phi0 xk phi1 yk
  iintro ⟨⟨⟨%K, #Hrec, #Hlev, Hop⟩, Hany, Hp⟩, HO, Hx, Hy, Hk⟩
  iapply (wp_fupd _ _ _ _ _)
  iapply (body_run (inA m) K c y _)
  isplitr; · iexact Hrec
  isplitr; · iexact Hlev
  isplitl [Hop HO Hany]
  · unfold bodyPre
    isplitl [Hop]; · iexact Hop
    isplitl [HO]; · iexact HO
    iexact Hany
  isplitl [Hx]; · iexact Hx
  isplitl [Hy]; · iexact Hy
  iintro ⟨Hpost, Hx, Hy⟩
  imod (close_run (inA m) K c) $$ [Hpost] with ⟨Hb, Hs, HO, Hany⟩
  · isplitr; · iexact Hrec
    iexact Hpost
  imodintro
  iapply Hk
  isplitl [Hb Hs Hany Hp]
  · isplitl [Hb]; · iexact Hb
    isplitl [Hs]; · iexact Hs
    isplitl [Hany]; · iexact Hany
    iexact Hp
  isplitl [HO]; · iexact HO
  isplitl [Hx]; · iexact Hx
  iexact Hy

/-- The call's one block starts at zero. -/
theorem idx_in : ∀ a, win0_0.index t0_0 a = 0 := by decide +kernel

/-- The call's one block is the whole array. -/
theorem read_block (f : FVec F S128x64 .f32) : ((cfg0.win 0).blk t0_0).view.read (Elt F) f = f := by
  funext j; blk_ext <;> rw [idx_in] <;> omega

/-- The input window holds what the device brings. -/
theorem before_in (c : Dev nD) (d) : (datS m c).before (0 : Fin 2) t0_0 d = inA m c := by
  unfold Dat.before; rw [if_pos (fetch0_0 t0_0)]; exact read_block (inA m c)

/-- The input's staging buffer. -/
theorem st_in : st0_0 t0_0 = Memref.whole cc0_stg0_0 := rfl
/-- The output's staging buffer. -/
theorem st_out : st0_1 t0_0 = Memref.whole cc0_stg1_0 := rfl

/-- To own the input's staging is to hold the input window. -/
theorem owns_in (c : Dev nD) (X : FVec F S128x64 .f32) :
    (owns (c : Thread nD τ) (st0_0 t0_0) fullShare X : sProp 𝕄) = inPts c X := by
  rw [st_in]; exact owns_whole _ _ _ _
/-- To own the output's staging is to hold the output window. -/
theorem owns_out (c : Dev nD) (X : FVec F S128x64 .f32) :
    (owns (c : Thread nD τ) (st0_1 t0_0) fullShare X : sProp 𝕄) = outPts c X := by
  rw [st_out]; exact owns_whole _ _ _ _

/-- The region's body obligation. -/
theorem body_obl (c : Dev nD) : BodyObligation (datS m c) (defs₀ (F := F)) 𝒱₀ () Set.univ := fun t => by
  obtain rfl := fin_N0 t
  rw [bigSep_W0, bigSep_W0, phi_first, phi_last]
  show iprop(phi0 m c ∗ (datS m c).owesAt () (t0_0 : Fin cfg0.N).castSucc
      ∗ (∃ d, owns (c : Thread nD τ) (st0_0 t0_0) fullShare ((datS m c).before (0 : Fin 2) t0_0 d))
      ∗ (∃ d, owns (c : Thread nD τ) (st0_1 t0_0) fullShare ((datS m c).before (1 : Fin 2) t0_0 d)))
    ⊢ wp frame (wpE (defs₀ (F := F)) 𝒱₀ c none) Set.univ (bodyAt0 t0_0)
      (fun _ => iprop(phi1 c ∗ (datS m c).owesAt () (t0_0 : Fin cfg0.N).succ
        ∗ owns (c : Thread nD τ) (st0_0 t0_0) fullShare (inA m c) ∗ owns (c : Thread nD τ) (st0_1 t0_0) fullShare (result (inA m) c)))
  simp only [before_in, owns_in, owns_out]
  iintro ⟨HP, HO, ⟨%d, Hx⟩, ⟨%e, Hy⟩⟩
  ihave HO' := (owing_out m c _ (dues c) (owed_first m c)) $$ HO
  iapply (body_here m c _ _)
  isplitl [HP]; · iexact HP
  isplitl [HO']; · iexact HO'
  isplitl [Hx]; · iexact Hx
  isplitl [Hy]; · iexact Hy
  iintro ⟨HP, HO, Hx, Hy⟩
  isplitl [HP]; · iexact HP
  isplitl [HO]; · iapply (owing_in m c _ [] (owed_last m c)); iexact HO
  isplitl [Hx]; · iexact Hx
  iexact Hy

/-! ## The region's record -/

/-- Everything owed at launch is above the staging semaphores' level. -/
theorem dues_above (c : Dev nD) : Above 0 (dues c) := by
  intro p hp
  have h : p ∈ [(barC (prt 0 c), 1), (barC (prt 1 c), 1), (barC (prt 2 c), 1), (barC (prt 3 c), 1), (barC (prt 4 c), 1),
      (recvC 0 (prt 0 c), amt 0), (recvC 1 (prt 1 c), amt 1), (recvC 2 (prt 2 c), amt 2), (recvC 3 (prt 3 c), amt 3), (recvC 4 (prt 4 c), amt 4),
      (bar2C (prt 0 c), 1), (bar2C (prt 1 c), 1), (bar2C (prt 2 c), 1), (bar2C (prt 3 c), 1), (bar2C (prt 4 c), 1)] := hp
  fin_cases h <;> refine ⟨rfl, ?_⟩ <;> first
    | exact (show 0 < lvl (.reg barS) by decide)
    | exact (show 0 < lvl (.reg bar2S) by decide)
    | exact (show 0 < lvl (.dma (recvS _)) by rw [lvl_recv]; omega)

/-- A device's own cell has a level. -/
theorem L_mem (c : Dev nD) (s : SemLoc sig) : () ∈ L ((c : Thread nD τ), s) := by
  rw [L_tc]; exact Finset.mem_singleton_self _

/-- All that a device owes is on cells with a positive level. -/
theorem owed_cut (c : Dev nD) (t : Fin (cfg0.N + 1)) (g : GSem nD τ sig) (i : Unit) (h : 0 < (datS m c).owed t g i) :
    i ∈ L g ∧ (0 : ℕ) < lv g i := by
  have e : (datS m c).owed t = if t.val = 0 then O₀ c else 0 := rfl
  rw [e] at h
  split at h
  · obtain ⟨p, hp, rfl⟩ := owed_pos h
    obtain ⟨h1, h2⟩ := dues_above c p hp
    exact ⟨by rw [L, if_pos h1]; exact Finset.mem_singleton_self _, h2⟩
  · exact absurd h (Nat.lt_irrefl 0)

/-- The call's scratch is the exchange buffer with any contents. -/
theorem scratch_any (c : Dev nD) :
    (Pipeline.scopedRest (Ix := Unit) (Name := ℕ) (U := UU) (Lvl := ℕ) (Val := Elt F) spec0 c : sProp 𝕄) = holdsAny c 0 (2 ^ 5) zero_all_le :=
  (scopedRest0_eq c).trans (holdsAny_whole c zero_all_le).symm

/-- At the call's entry its eleven semaphores join the protocol. -/
theorem open_in (c : Dev nD) :
    iprop(tk m c ∗ Pipeline.ownSems0 osem c ∗ levAts L lv) ⊢ (|={Set.univ}=> xk m c : sProp 𝕄) := by
  unfold tk xk
  iintro ⟨⟨⟨%K, #Hrec, Hlin⟩, Hcr⟩, Hs, #Hlev⟩
  imod (open_run (inA m) K c) $$ [Hlin Hcr Hs] with Hop
  · isplitr; · iexact Hrec
    isplitl [Hlin]; · iexact Hlin
    isplitl [Hcr]; · iexact Hcr
    iexact Hs
  imodintro
  iexists K
  isplitr; · iexact Hrec
  isplitr; · iexact Hlev
  iexact Hop

/-- What the call takes is what it keeps before its point. -/
theorem in_phi (c : Dev nD) (W : Valuation τ sig (Elt F)) :
    iprop(Pipeline.scopedRest spec0 c ∗ (∃ r, prngReg c r) ∗ StableHlo.held (c.tc : Thread nD τ) ∅ W ∗ xk m c) ⊢ phi0 m c := by
  rw [scratch_any]; unfold phi0
  iintro ⟨Hs, Hp, -, Hx⟩
  isplitl [Hx]; · iexact Hx
  isplitl [Hs]; · iexact Hs
  iexact Hp

/-- To hold no buffer is to hold nothing. -/
theorem held_none (c : Dev nD) (W : Valuation τ sig (Elt F)) : (StableHlo.held (c.tc : Thread nD τ) ∅ W : sProp 𝕄) = BI.emp := by
  unfold StableHlo.held; exact BI.bigSep_empty

/-- What the call keeps after its point is what it gives back. -/
theorem out_phi (c : Dev nD) (W : Valuation τ sig (Elt F)) :
    phi1 c ⊢ (iprop(Pipeline.scopedRest spec0 c ∗ (∃ r, prngReg c r) ∗ StableHlo.held (c.tc : Thread nD τ) ∅ W ∗ Pipeline.ownSems0 osem c ∗ yk c) : sProp 𝕄) := by
  rw [scratch_any, held_none]; unfold phi1
  iintro ⟨Hy, Ho, Hs, Hp⟩
  isplitl [Hs]; · iexact Hs
  isplitl [Hp]; · iexact Hp
  isplitr; · iempintro
  isplitl [Ho]; · iexact Ho
  iexact Hy

/-- The output array ends with the result. -/
theorem arr_out (c : Dev nD) : (datS m c).arrAt (1 : Fin 2) cfg0.N = endV m c (Proc.devRef .tc main_v28) := by
  refine ((datS m c).arrAt_eq_of_after_last (1 : Fin 2) t0_0 (by decide +kernel) _ fun j => ?_)
  unfold endV
  rw [Function.update_self]
  blk_simp
  rfl

/-- The call changes no other buffer. -/
theorem end_other (c : Dev nD) (b : DevRef τ sig) (h : b ≠ Proc.devRef .tc main_v28) : endV m c b = V18 m c b := by
  unfold endV; exact Function.update_of_ne h _ _

/-- The input array is as it was. -/
theorem arr_in (c : Dev nD) : (datS m c).arrAt (0 : Fin 2) cfg0.N = endV m c (Proc.devRef .tc main_v27) :=
  ((datS m c).arrAt_in (0 : Fin 2) rfl _).trans (end_other m c (Proc.devRef .tc main_v27) (by decide)).symm

/-- The last of what the call keeps. -/
theorem phi_end (c : Dev nD) : (datS m c).Φ (Fin.last cfg0.N) = phi1 c := rfl
/-- Nothing is owed at the end. -/
theorem owed_end (c : Dev nD) : (datS m c).owed (Fin.last cfg0.N) = 0 := rfl

/-- The unscoped buffers other than the call's two arrays. -/
def restRefs : Finset (DevRef τ sig) := Pipeline.ucRefs τ sig \ Pipeline.arrRefs (τ := τ) spec0

set_option backward.isDefEq.respectTransparency.types false in
/-- The call as a region: entered with the arrays as the host lines left them, owing what the devices
    owe at launch; left with the result's array rewritten, nothing owed and the barrier at zero. -/
def callSeg : Pipeline.RegionSeg (pcfgs (F := F)) adm (pdatsS m) () defs₀ 𝒱₀ L lv 0 :=
  Pipeline.RegionSeg.ofTalk (pcfgs (F := F)) adm (pdatsS m) () defs₀ 𝒱₀ L lv 0 osem (by decide : Pipeline.OwnSemFacts spec0 osem)
    ∅ restRefs (Finset.empty_subset _) launch0.toP rfl (fun c => (body_obl m c).loose)
    (fun _ => 0) O₀ (fun c => (zero_add _).symm) (owed_end m) (fun _ => rfl) (fun _ w => by fin_cases w <;> rfl)
    (V18 m) (endV m) (fun c b hb => end_other m c b fun e => by
      subst e
      exact absurd hb (by decide))
    (tk m) yk (xk m) yk (open_in m) (fun c => in_phi m c _) (fun c => out_phi c _)
    (fun c => by iintro H; imodintro; iexact H)
    (fun _ => 0)
    ⟨fun c w s => L_mem c _, fun c w s => by fin_cases w <;> fin_cases s <;> exact Nat.le_refl 0, fun c t g i h => owed_cut m c t g i h⟩
    (fun _ => iprop(emp))
    (fun _ w => rfl) (fun c w => by
      fin_cases w
      · exact arr_in m c
      · exact arr_out m c)

end Cert.Sort

end
-- ==== Proof.Launch.lean ====
/- The whole program's run: the protocol's ghost state made at launch, the host lines, the kernel
call, and what the final memories hold. -/
module

public import proofs.«01_k».proof.Proof.Region

@[expose] public section

set_option maxRecDepth 16384

noncomputable section

namespace Cert.Sort

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The protocol's share of the launch element. -/
def protoEl : UX := launchOf barCells scCells toks

/-- The launch element: the staging protocol's and the exchange's. -/
def launchEl : UU :=
  (initOf (Pipeline.cells cfgs cellOf_inj) (Pipeline.launchToks cfgs cellOf_inj), protoEl)

/-- The exchange's share, kept with device 0 until it is dealt. -/
def parked (c : Dev nD) : sProp 𝕄 := if c = 0 then BI.own (ER protoEl) else BI.emp

/-- What is parked with the devices is the whole protocol. -/
theorem parked_all : bigSep Finset.univ (parked (F := F)) = (BI.own (ER protoEl) : sProp 𝕄) := by
  have h : ∀ c ∈ Finset.univ.erase (0 : Dev nD), parked (F := F) c = (BI.emp : sProp 𝕄) := fun c hc => by
    unfold parked; rw [if_neg (Finset.ne_of_mem_erase hc)]
  rw [bigSep_univ_at _ (0 : Dev nD), bigSep_congr h, BI.bigSep_emp_const]
  unfold parked; rw [if_pos rfl]
  exact BI.equiv_iff.mp sep_emp

/-- The launch's ghost state splits into the pipeline's and the protocol's. -/
theorem launch_split : (ownU launchEl : sProp 𝕄)
    ⊢ |={Set.univ}=> iprop(BI.own (EP (initOf (Pipeline.cells cfgs cellOf_inj) (Pipeline.launchToks cfgs cellOf_inj))) ∗ bigSep Finset.univ parked) := by
  rw [parked_all]; unfold launchEl
  iintro Hu
  ihave H := (ownU_pair _ _) $$ Hu
  icases H with ⟨HP, HX⟩
  imodintro
  isplitl [HP]; · iexact HP
  iexact HX

/-- What rides along with the buffers: before the call and after it. -/
def ride : Fin 2 → Dev nD → sProp 𝕄
  | 0, c => iprop((∃ r, prngReg c r) ∗ tk m c ∗ owing c (dues c))
  | 1, c => iprop(yk c ∗ owing c [])

/-- The one semaphore outside the call is the first barrier's. -/
theorem unscoped_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What a device has at launch that is not dealt. -/
def own0 (c : Dev nD) : sProp 𝕄 := iprop(creds c ∗ owing c (dues c) ∗ ∃ r, prngReg c r)

/-- A device's resources at launch, put in the order in which they are used. -/
theorem own0_intro (c : Dev nD) :
    iprop(unscopedSems0 c ∗ owes (c : Thread nD τ) (O₀ c) ∅ ∗ Pipeline.launchCred O₀ c ∗ prngReg c (ρ c) ∗ parked c)
      ⊢ (iprop(own0 c ∗ semVal (barC c) 0 ∗ parked c) : sProp 𝕄) := by
  rw [unscoped_bar]; unfold own0 owing
  iintro ⟨Hs, HO, Hcr, Hp, HG⟩
  isplitl [HO Hcr Hp]
  · isplitl [Hcr]; · iapply (creds_intro (F := F) c); iexact Hcr
    isplitl [HO]; · iexists ∅; iexact HO
    iexists _; iexact Hp
  isplitl [Hs]; · iexact Hs
  iexact HG

/-- What a device carries to the call. -/
theorem ride_intro (K : GSem nD τ sig → ℕ) (c : Dev nD) :
    iprop(records (inA m) K ∗ linear c ∗ own0 c) ⊢ (ride m 0 c : sProp 𝕄) := by
  unfold ride own0 tk
  iintro ⟨#Hrec, Hlin, Hcr, HO, Hp⟩
  isplitl [Hp]; · iexact Hp
  isplitr [HO]
  · isplitr [Hcr]
    · iexists K
      isplitr; · iexact Hrec
      iexact Hlin
    iexact Hcr
  iexact HO

/-- What all devices hold of the protocol together. -/
theorem linear_all :
    (bigSep Finset.univ fun c : Dev nD => linear (F := F) c)
      = iprop((bigSep barCells fun g => atPos ER g 0 ∅ 0) ∗ (bigSep scCells fun g => openTok ER g)
          ∗ bigSep toks fun x => dutyTok ER x.1 x.2.1 x.2.2) := by
  unfold linear
  rw [bigSep_sep', bigSep_sep', toks_dealt, bigSep_map, bigSep_map, bigSep_univ_prod]
  rfl

/-- The launch makes every device's ghost state at once. -/
theorem start_all :
    iprop((bigSep Finset.univ fun c : Dev nD => iprop(unscopedSems0 c ∗ owes (c : Thread nD τ) (O₀ c) ∅ ∗ Pipeline.launchCred O₀ c ∗ prngReg c (ρ c) ∗ parked c))
        ∗ levAts L lv)
      ⊢ (|={Set.univ}=> bigSep Finset.univ (ride m 0) : sProp 𝕄) := by
  have hsplit : (bigSep Finset.univ fun c : Dev nD => iprop(unscopedSems0 c ∗ owes (c : Thread nD τ) (O₀ c) ∅ ∗ Pipeline.launchCred O₀ c ∗ prngReg c (ρ c) ∗ parked c))
      ⊢ (iprop((bigSep Finset.univ fun c : Dev nD => own0 c) ∗ (bigSep barCells fun g => semVal g 0) ∗ BI.own (ER protoEl)) : sProp 𝕄) := by
    rw [← parked_all, bigSep_map, ← bigSep_sep', ← bigSep_sep']
    exact bigSep_mono fun c _ => own0_intro ρ c
  iintro ⟨H, -⟩
  ihave H' := hsplit $$ H
  icases H' with ⟨HB, Hv, Hu⟩
  unfold protoEl
  imod (Rounds.fund_launch ER (rd (inA m)) disjoint_cells (fun g _ h => h) toks) $$ [Hv Hu] with ⟨%κ, -, #Hinv, #Hr, Hat, Hopen, Htok⟩
  · isplitl [Hv]; · iexact Hv
    iexact Hu
  imodintro
  iapply (bigSep_with_persistent (R := records (inA m) κ) (Φ := fun c => iprop(linear c ∗ own0 c)) fun c _ => ride_intro m κ c)
  isplitr
  · unfold records
    isplitr; · iexact Hinv
    iexact Hr
  iapply (Entails.of_eq (bigSep_sep' Finset.univ (fun c : Dev nD => linear (F := F) c) (fun c : Dev nD => own0 (F := F) c)).symm)
  isplitr [HB]
  · iapply (Entails.of_eq (linear_all (F := F)).symm)
    isplitl [Hat]; · iexact Hat
    isplitl [Hopen]; · iexact Hopen
    iexact Htok
  iexact HB

/-! ## Into the call and out of it -/

/-- The call's arrays are among the host's buffers. -/
theorem arr_sub : Pipeline.arrRefs (τ := τ) spec0 ⊆ Pipeline.ucRefs τ sig := by decide

/-- The host's buffers are the call's arrays and the others. -/
theorem held_arr_split (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) restRefs V) :=
  StableHlo.held_sub_split (c : Thread nD τ) arr_sub V

/-- What the host holds before the call is what the call takes. -/
theorem call_pre (c : Dev nD) :
    iprop(StableHlo.held (c : Thread nD τ) (Pipeline.ucRefs τ sig) (V18 m c) ∗ ride m 0 c) ⊢ ((callSeg m).pre c : sProp 𝕄) := by
  show _ ⊢ iprop(StableHlo.held (c : Thread nD τ) (Pipeline.arrRefs (τ := τ) spec0) (V18 m c) ∗ (∃ r, prngReg c r)
    ∗ (StableHlo.held (c : Thread nD τ) restRefs (V18 m c) ∗ emp) ∗ tk m c ∗ ∃ Wd, owes (c : Thread nD τ) (0 + O₀ c) Wd)
  rw [held_arr_split, zero_add]; unfold ride owing O₀
  iintro ⟨⟨Ha, Hr⟩, Hp, Ht, HO⟩
  isplitl [Ha]; · iexact Ha
  isplitl [Hp]; · iexact Hp
  isplitl [Hr]
  · isplitl [Hr]; · iexact Hr
    iempintro
  isplitl [Ht]; · iexact Ht
  iexact HO

/-- What the call gives back is what the host holds after it. -/
theorem call_post (c : Dev nD) :
    ((callSeg m).post c : sProp 𝕄) ⊢ iprop((StableHlo.held (c : Thread nD τ) (Pipeline.ucRefs τ sig) (V19 m (outsV m) c) ∗ semVal (barC c) 0)
      ∗ ∃ W, owes (c : Thread nD τ) (0 : CellTallies nD τ sig Unit) W) := by
  show iprop(StableHlo.held (c : Thread nD τ) (Pipeline.arrRefs (τ := τ) spec0) (endV m c) ∗ (∃ r, prngReg c r)
    ∗ (StableHlo.held (c : Thread nD τ) restRefs (endV m c) ∗ emp) ∗ yk c ∗ ∃ Wd, owes (c : Thread nD τ) 0 Wd) ⊢ _
  rw [outs_eq, held_arr_split]; unfold yk
  iintro ⟨Ha, -, ⟨Hr, -⟩, Hb, HO⟩
  isplitr [HO]
  · isplitr [Hb]
    · isplitl [Ha]; · iexact Ha
      iexact Hr
    iexact Hb
  iexact HO

/-! ## The run -/

/-- What a final memory holds on device `c`. -/
def done (c : Dev nD) (s : MemSt nD τ sig (Elt F)) : Prop :=
  (s.mem ((c.tc : Thread nD τ).loc main_arg0) = m ((c.tc : Thread nD τ).loc main_arg0)
    ∧ s.mem ((c.tc : Thread nD τ).loc main_v28) = result (inA m) c) ∧ s.sem (barC c) = 0

/-- A device's final holdings tell what its memory holds. -/
theorem done_read (c : Dev nD) (s' : Phys nD τ sig (Elt F)) :
    iprop((StableHlo.held (c : Thread nD τ) (Pipeline.ucRefs τ sig) (V19 m (outsV m) c) ∗ semVal (barC c) 0) ∗ SI s')
      ⊢ (|={Set.univ}=> iprop(⌜done m c s'.mem⌝ ∗ SI s') : sProp 𝕄) := by
  unfold StableHlo.held
  iintro ⟨⟨Hh, Hb⟩, HSI⟩
  ihave Hr := (pointsTo_read_all (Pipeline.ucRefs τ sig) (fun b => ((c : Thread nD τ).1, b)) (V19 m (outsV m) c) s') $$ [Hh HSI]
  · isplitl [Hh] <;> iassumption
  icases Hr with ⟨%h, HSI⟩
  icombine HSI Hb gives %hs
  imodintro
  isplitr
  · ipureintro
    refine ⟨⟨?_, ?_⟩, by simpa using hs⟩
    · exact (h (Proc.devRef .tc main_arg0) (Finset.mem_filter.mpr ⟨StableHlo.devRef_mem_tcRefs main_arg0, by decide⟩)).trans (V19_main_arg0 m (outsV m) c)
    · refine (h (Proc.devRef .tc main_v28) (Finset.mem_filter.mpr ⟨StableHlo.devRef_mem_tcRefs main_v28, by decide⟩)).trans ?_
      rw [outs_eq]; unfold endV
      exact Function.update_self ..
  · iexact HSI

/-- No semaphore but the first barrier's is outside the call. -/
theorem unscoped_only : ∀ sm : SemLoc sig, sm.isScoped .tc = false → sm = .reg barS := by decide

set_option backward.isDefEq.respectTransparency.types false in
set_option maxRecDepth 1064 in
/-- From any memory with zero counters every weakly fair execution of the program on the 32 devices
    terminates, and in every final memory each device's argument is as it was, its result is its block of
    the sorted exchange buffer, and every semaphore counter is at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v28) = result (inA m) c) ∧ r.2.sem = fun _ => 0) :=
  Pipeline.θ_run_regions_kit_dev_sems (pcfgs (F := F)) adm (pdatsS m) () cellOf_inj EP defs₀ 𝒱₀ L lv m ρ main
    (segs m 𝒱₀ L lv (ride m) () (pdatsS m) (callSeg m))
    (fun c Q => by
      rewrite [main_chain c, Seg.run_eq_chain,
        show (segs m 𝒱₀ L lv (ride m) () (pdatsS m) (callSeg m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne parked launchEl launch_split
    (T₀ := fun c => iprop(StableHlo.held (c : Thread nD τ) (Pipeline.ucRefs τ sig) (V0 m c) ∗ ride m 0 c))
    (Tₙ := fun c => iprop(StableHlo.held (c : Thread nD τ) (Pipeline.ucRefs τ sig) (V19 m (outsV m) c) ∗ semVal (barC c) 0))
    (hch := fun c => ⟨.rfl, .rfl, .rfl, .rfl, .rfl, .rfl, .rfl, .rfl, .rfl, .rfl, .rfl, .rfl, .rfl, .rfl, .rfl, .rfl, .rfl, .rfl, call_pre m c, call_post m c⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ parked c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ parked c))
              : sProp 𝕄) := by
        rw [← bigSep_sep']
        exact bigSep_mono fun c _ => by rw [← Pipeline.unscopedBufs_held c (V0 m c)]; exact BI.Entails.refl _
      iintro ⟨H, Hla⟩
      ihave H' := hsplit $$ H
      icases H' with ⟨Hh, Hr⟩
      imod (start_all m ρ) $$ [Hr Hla] with HE
      · isplitl [Hr]; · iexact Hr
        iexact Hla
      imodintro
      rw [bigSep_sep']
      isplitl [Hh]; · iexact Hh
      iexact HE)
    (QY := done m) (hfin := fun c s' => done_read m c s')
    (hQ := fun s h hs => ⟨fun c => (h c).1, sem_eq_zero hs fun c sm hsm => by
      obtain rfl := unscoped_only sm hsm
      exact (h c).2⟩)

end Cert.Sort

end
-- ==== Proof.Reference.lean ====
/- The reference's run: its result is its argument sorted by rows, its argument is unchanged. -/
module

public import proofs.«01_k».proof.Proof.Gen.ReferenceIdeal
public import proofs.«01_k».proof.ReferenceIdeal
public import Idealize.ShloMosaic.Lib.StableHlo.RunHlo

@[expose] public section

set_option maxRecDepth 16384

noncomputable section

namespace Cert.Sort.Ref

open Idealize.ShloMosaic Idealize.ShloMosaic.TcCoe Cert.ReferenceIdeal Cert.ReferenceIdeal.Gen

variable {F : FTy → Type} [FloatOps F]

/-- The reference's one operation. -/
def ops : List (HloOp τ sig (Elt F)) :=
  [StableHlo.TRef.unary (.of main_arg0 : StableHlo.TRef sig ⟨S4096x64, .f32⟩) (.of main_v0 : StableHlo.TRef sig ⟨S4096x64, .f32⟩)
    (fun x => Host.sort S4096x64 0 comparator_f32_d0 x)]

/-- The program is that operation. -/
theorem main_eq (c : Dev nD) : main (F := F) c = StableHlo.seq ops := rfl

/-- It touches the core's own buffers only. -/
theorem ops_sub : (ops : List (HloOp τ sig (Elt F))).Forall fun op => op.bufs ⊆ StableHlo.tcRefs τ sig :=
  StableHlo.unary_bufs_sub ..

/-- Nothing is scoped. -/
theorem scopedRefs_eq : (Finset.univ.filter fun b : Ref sig .tc => b.isScoped) = ∅ := by decide
/-- The reference has no semaphores. -/
theorem scopedSems_eq : (Finset.univ.filter fun sm : SemLoc sig => sm.isScoped .tc) = ∅ := by decide

/-- After it the result holds the argument sorted, -/
theorem value_eq (V : Valuation τ sig (Elt F)) :
    StableHlo.after ops V main_v0 = (Host.sort S4096x64 0 comparator_f32_d0 (V main_arg0 : FVec F S4096x64 .f32) : FVec F S4096x64 .f32) := by
  unfold ops
  after_results
  rfl

/-- and the argument holds what it held. -/
theorem arg_eq (V : Valuation τ sig (Elt F)) : StableHlo.after ops V main_arg0 = V main_arg0 := by
  unfold ops
  after_results

/-- The program uses no semaphore. -/
theorem no_sem (s : GSem nD τ sig → Int) : s = fun _ => 0 := by
  funext g; cases g.2 with
  | reg s => exact s.elim0
  | dma s => exact s.elim0

/-- The run. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v0)
          = (Host.sort S4096x64 0 comparator_f32_d0 (m ((c.tc : Thread nD τ).loc main_arg0) : FVec F S4096x64 .f32) : FVec F S4096x64 .f32))
      ∧ r.2.sem = fun _ => 0 :=
  (θ_run defs _ _).mono (fun _ h => ⟨fun c => ⟨(h c main_arg0).trans (arg_eq _), (h c main_v0).trans (value_eq _)⟩, no_sem _⟩)
    (StableHlo.run_seq scopedRefs_eq scopedSems_eq defs main (fun _ => ops) main_eq (fun _ => ops_sub) m ρ)

end Cert.Sort.Ref
-- ==== Proof.Entry.lean ====
/- What a device brings to the exchange: its block sorted, upwards when its slot is even and downwards when
it is odd. The slot's words are computed by the host from the device's number. -/
module

public import proofs.«01_k».proof.Proof.Gen.KernelIdeal.Regions
public import Idealize.ShloMosaic.Lib.StableHlo.RunRead
public import proofs.«01_k».proof.Proof.Region

@[expose] public section

set_option maxRecDepth 16384

noncomputable section

namespace Cert.Sort

open Idealize.ShloMosaic Idealize.ShloMosaic.TcCoe Cert.KernelIdeal Cert.KernelIdeal.Gen

/-- A word, as the host holds one. -/
abbrev HW := IVec S_ 32

/-- The host's quotient rounded downwards. -/
def hdiv (x y : HW) : HW :=
  select (andi (cmpi .ne (signi x) (signi y)) (cmpi .ne (Host.remsi x y) (constantI S_ 32 0#32)))
    (subi (Host.divsi x y) (constantI S_ 32 1#32)) (Host.divsi x y)

/-- The divisor of a remainder, one in place of zero. -/
def hnz (y : HW) : HW := select (cmpi .eq y (constantI S_ 32 0#32)) (constantI S_ 32 1#32) y

/-- The host's remainder with the divisor's sign. -/
def hmod (x y : HW) : HW :=
  select (andi (cmpi .ne (cmpi .slt (Host.remsi x (hnz y)) (constantI S_ 32 0#32)) (cmpi .slt (hnz y) (constantI S_ 32 0#32)))
      (cmpi .ne (Host.remsi x (hnz y)) (constantI S_ 32 0#32)))
    (addi (Host.remsi x (hnz y)) (hnz y)) (Host.remsi x (hnz y))

/-- The slot's bits 4, 3 and 2. -/
def bits4 (v5 v7 v8 : HW) : HW :=
  addi (addi (muli (xori v8 (andi v7 (constantI S_ 32 1#32))) (constantI S_ 32 16#32))
    (muli (andi v7 (constantI S_ 32 1#32)) (constantI S_ 32 8#32))) (muli (andi v5 (constantI S_ 32 1#32)) (constantI S_ 32 4#32))

section

variable {F : FTy → Type} [FloatOps F]
variable (V : Valuation τ sig (Elt F)) (c : Dev nD)

/-- The first host stage computes the device's number. -/
theorem st0 : StableHlo.after (hostOps0 c) V main_v4
    = (Host.remui (Host.divui (constantI S_ 32 (Dev.word c)) (constantI S_ 32 1#32)) (constantI S_ 32 32#32) : HW) := by
  after_reads_simp; rfl

/-- The stage that divides the number by 8. -/
theorem st1 : StableHlo.after hostOps0_1 V main_v5 = hdiv (V main_v4) (V main_c_1) := by
  after_reads_simp; rfl

/-- The stage that takes the number's remainder by 8. -/
theorem st3 : StableHlo.after hostOps0_3 V main_v6 = (hmod (V main_v4) (V main_c_2)) := by
  after_reads_simp
  simp only [StableHlo.TRef.ofBuf_toBuf]
  rfl

/-- The stage that halves that remainder. -/
theorem st5 : StableHlo.after hostOps0_5 V main_v7 = (hdiv (V main_v6) (V main_c_3)) := by
  after_reads_simp
  simp only [StableHlo.TRef.ofBuf_toBuf]
  rfl

/-- The stage that takes the remainder's parity. -/
theorem st7 : StableHlo.after hostOps0_7 V main_v8 = (hmod (V main_v6) (V main_c_4)) := by
  after_reads_simp
  simp only [StableHlo.TRef.ofBuf_toBuf]
  rfl

/-- The stage that halves the row of the device in its plane. -/
theorem st9 : StableHlo.after hostOps0_9 V main_v18 = (hdiv (V main_v7) (V main_c_11)) := by
  after_reads_simp
  simp only [StableHlo.TRef.ofBuf_toBuf]
  rfl

/-- The stage that halves the device's plane. -/
theorem st11 : StableHlo.after hostOps0_11 V main_v21 = (hdiv (V main_v5) (V main_c_13)) := by
  after_reads_simp
  simp only [StableHlo.TRef.ofBuf_toBuf]
  rfl

/-- The stage that takes the slot's parity. -/
theorem st15 : StableHlo.after hostOps0_15 V main_v24 = (hmod (V main_v22) (V main_c_14)) := by
  after_reads_simp
  simp only [StableHlo.TRef.ofBuf_toBuf]
  rfl

/-- The divisor of the first quotient is 8. -/
theorem c1 : StableHlo.after (hostOps0 c) V main_c_1 = (constantI S_ 32 8#32 : HW) := by
  after_reads_simp

/-- The divisor of the first remainder is 8. -/
theorem c2 : StableHlo.after hostOps0_2 V main_c_2 = (constantI S_ 32 8#32 : HW) := by
  after_reads_simp

/-- The divisor of the second quotient is 2. -/
theorem c3 : StableHlo.after hostOps0_4 V main_c_3 = (constantI S_ 32 2#32 : HW) := by
  after_reads_simp

/-- The divisor of the second remainder is 2. -/
theorem c4 : StableHlo.after hostOps0_6 V main_c_4 = (constantI S_ 32 2#32 : HW) := by
  after_reads_simp

/-- The divisor of the row is 2. -/
theorem c11 : StableHlo.after hostOps0_8 V main_c_11 = (constantI S_ 32 2#32 : HW) := by
  after_reads_simp

/-- The divisor of the plane is 2. -/
theorem c13 : StableHlo.after hostOps0_10 V main_c_13 = (constantI S_ 32 2#32 : HW) := by
  after_reads_simp

/-- The divisor of the slot is 2. -/
theorem c14 : StableHlo.after hostOps0_14 V main_c_14 = (constantI S_ 32 2#32 : HW) := by
  after_reads_simp

/-- The stage that puts the slot's bits 4, 3 and 2 together. -/
theorem st8 : StableHlo.after hostOps0_8 V main_v17 = (bits4 (V main_v5) (V main_v7) (V main_v8)) := by
  after_reads_simp
  rfl

/-- The stage that adds the slot's bit 1. -/
theorem st10 : StableHlo.after hostOps0_10 V main_v20 = (addi (V main_v17 : HW) (muli (V main_v18 : HW) (constantI S_ 32 2#32)) : HW) := by
  after_reads_simp

/-- The stage that adds the slot's bit 0. -/
theorem st12 : StableHlo.after hostOps0_12 V main_v22 = (addi (V main_v20 : HW) (V main_v21 : HW) : HW) := by
  after_reads_simp

/-- The stage that sorts the device's block. -/
theorem st13 : StableHlo.after hostOps0_13 V main_v23 = (Host.sort S128x64 0 comparator_f32_d0 (V main_arg0 : FVec F S128x64 .f32) : FVec F S128x64 .f32) := by
  after_reads_simp
  rfl

/-- The stage that asks whether the slot is even. -/
theorem st16a : StableHlo.after hostOps0_16 V main_v25 = (cmpi .eq (V main_v24 : HW) (constantI S_ 32 0#32) : IVec S_ 1) := by
  after_reads_simp

/-- The stage that reverses the sorted block. -/
theorem st16b : StableHlo.after hostOps0_16 V main_v26 = (Host.reverse [0] (V main_v23 : FVec F S128x64 .f32) : FVec F S128x64 .f32) := by
  after_reads_simp

/-- The stage that chooses the sorted block or its reverse. -/
theorem st17 : StableHlo.after hostOps0_17 V main_v27 = (select (broadcastInDim S128x64 ![] bcast_S_S128x64 (V main_v25 : IVec S_ 1)) (V main_v23 : FVec F S128x64 .f32) (V main_v26 : FVec F S128x64 .f32) : FVec F S128x64 .f32) := by
  after_reads_simp
  rfl

end

/-- The device's number. -/
def word4 (c : Dev nD) : HW := Host.remui (Host.divui (constantI S_ 32 (Dev.word c)) (constantI S_ 32 1#32)) (constantI S_ 32 32#32)

/-- The device's plane. -/
def word5 (c : Dev nD) : HW := hdiv (word4 c) (constantI S_ 32 8#32)
/-- The device's number in its plane. -/
def word6 (c : Dev nD) : HW := hmod (word4 c) (constantI S_ 32 8#32)
/-- The device's row in its plane. -/
def word7 (c : Dev nD) : HW := hdiv (word6 c) (constantI S_ 32 2#32)
/-- The parity of the device's number in its plane. -/
def word8 (c : Dev nD) : HW := hmod (word6 c) (constantI S_ 32 2#32)

/-- The device's slot, as the host computes it. -/
def hostSlot (c : Dev nD) : HW :=
  addi (addi (bits4 (word5 c) (word7 c) (word8 c)) (muli (hdiv (word7 c) (constantI S_ 32 2#32)) (constantI S_ 32 2#32)))
    (hdiv (word5 c) (constantI S_ 32 2#32))

/-- Whether the slot is even, as the host computes it. -/
def hostEven (c : Dev nD) : IVec S_ 1 := cmpi .eq (hmod (hostSlot c) (constantI S_ 32 2#32)) (constantI S_ 32 0#32)

/-- The host's answer is the parity of the slot, by the 32 devices. -/
theorem hostEven_at : ∀ c : Dev nD, hostEven c (fun a => a.elim0) = if (slot c).val % 2 = 0 then 1#1 else 0#1 := by decide +kernel

/-- The same at any index of a scalar. -/
theorem hostEven_eq (c : Dev nD) (j : S_.Idx) : hostEven c j = if (slot c).val % 2 = 0 then 1#1 else 0#1 := by
  rw [← hostEven_at c]; congr 1; funext a; exact a.elim0

section

variable {F : FTy → Type} [FloatOps F] (m : (b : Loc nD τ sig) → Buf (Elt F) b) (c : Dev nD)

/-- The host holds the device's number. -/
theorem v4 : V1 m c main_v4 = word4 c := st0 _ c

/-- The host holds the device's plane. -/
theorem v5 : V2 m c main_v5 = word5 c := by
  rw [show V2 m c main_v5 = _ from st1 (V1 m c), v4, show V1 m c main_c_1 = _ from c1 _ c]; rfl

/-- The host holds the device's number in its plane. -/
theorem v6 : V4 m c main_v6 = word6 c := by
  rw [show V4 m c main_v6 = _ from st3 (V3 m c), V3_of m c main_v4 (by decide), V2_of m c main_v4 (by decide), v4,
    show V3 m c main_c_2 = _ from c2 _]; rfl

/-- The host holds the device's row. -/
theorem v7 : V6 m c main_v7 = word7 c := by
  rw [show V6 m c main_v7 = _ from st5 (V5 m c), V5_of m c main_v6 (by decide), v6, show V5 m c main_c_3 = _ from c3 _]; rfl

/-- The host holds the parity of the number in its plane. -/
theorem v8 : V8 m c main_v8 = word8 c := by
  rw [show V8 m c main_v8 = _ from st7 (V7 m c), V7_of m c main_v6 (by decide), V6_of m c main_v6 (by decide),
    V5_of m c main_v6 (by decide), v6, show V7 m c main_c_4 = _ from c4 _]; rfl

/-- The plane is still held when the slot's bits are put together. -/
theorem v5' : V8 m c main_v5 = word5 c := by
  rw [V8_of m c main_v5 (by decide), V7_of m c main_v5 (by decide), V6_of m c main_v5 (by decide), V5_of m c main_v5 (by decide),
    V4_of m c main_v5 (by decide), V3_of m c main_v5 (by decide), v5]

/-- So is the row. -/
theorem v7' : V8 m c main_v7 = word7 c := by
  rw [V8_of m c main_v7 (by decide), V7_of m c main_v7 (by decide), v7]

/-- The host holds the slot's upper three bits. -/
theorem v17 : V9 m c main_v17 = bits4 (word5 c) (word7 c) (word8 c) := by
  rw [show V9 m c main_v17 = _ from st8 (V8 m c), v5', v7', v8]

/-- The host holds the halved row. -/
theorem v18 : V10 m c main_v18 = hdiv (word7 c) (constantI S_ 32 2#32) := by
  rw [show V10 m c main_v18 = _ from st9 (V9 m c), V9_of m c main_v7 (by decide), v7', show V9 m c main_c_11 = _ from c11 _]

/-- The host holds the slot's upper four bits. -/
theorem v20 : V11 m c main_v20
    = addi (bits4 (word5 c) (word7 c) (word8 c)) (muli (hdiv (word7 c) (constantI S_ 32 2#32)) (constantI S_ 32 2#32)) := by
  rw [show V11 m c main_v20 = _ from st10 (V10 m c), V10_of m c main_v17 (by decide), v17, v18]

/-- The host holds the halved plane. -/
theorem v21 : V12 m c main_v21 = hdiv (word5 c) (constantI S_ 32 2#32) := by
  rw [show V12 m c main_v21 = _ from st11 (V11 m c), V11_of m c main_v5 (by decide), V10_of m c main_v5 (by decide),
    V9_of m c main_v5 (by decide), v5', show V11 m c main_c_13 = _ from c13 _]

/-- The host holds the slot. -/
theorem v22 : V13 m c main_v22 = hostSlot c := by
  rw [show V13 m c main_v22 = _ from st12 (V12 m c), V12_of m c main_v20 (by decide), v20, v21]; rfl

/-- The host holds whether the slot is even. -/
theorem v25 : V17 m c main_v25 = hostEven c := by
  rw [show V17 m c main_v25 = _ from st16a (V16 m c), show V16 m c main_v24 = _ from st15 (V15 m c), V15_of m c main_v22 (by decide),
    V14_of m c main_v22 (by decide), v22, show V15 m c main_c_14 = _ from c14 _]; rfl

/-- The device's block sorted. -/
def sorted : FVec F S128x64 .f32 := Host.sort S128x64 0 comparator_f32_d0 (m ((c.tc : Thread nD τ).loc main_arg0))

/-- The host holds the sorted block. -/
theorem v23 : V16 m c main_v23 = sorted m c := by
  rw [V16_of m c main_v23 (by decide), V15_of m c main_v23 (by decide), show V14 m c main_v23 = _ from st13 (V13 m c),
    V13_of m c main_arg0 (by decide), V12_of m c main_arg0 (by decide), V11_of m c main_arg0 (by decide), V10_of m c main_arg0 (by decide),
    V9_of m c main_arg0 (by decide), V8_of m c main_arg0 (by decide), V7_of m c main_arg0 (by decide), V6_of m c main_arg0 (by decide),
    V5_of m c main_arg0 (by decide), V4_of m c main_arg0 (by decide), V3_of m c main_arg0 (by decide), V2_of m c main_arg0 (by decide),
    V1_of m c main_arg0 (by decide)]; rfl

/-- What the device brings to the exchange. -/
theorem inA_eq : inA m c = if (slot c).val % 2 = 0 then sorted m c else Host.reverse [0] (sorted m c) := by
  unfold inA
  rw [show V18 m c main_v27 = _ from st17 (V17 m c), v25, V17_of m c main_v23 (by decide), v23,
    show V17 m c main_v26 = _ from st16b (V16 m c), v23]
  funext j
  show Scalar.select (hostEven c _) _ _ = _
  rw [hostEven_eq]
  split <;> rfl

end

end Cert.Sort
-- ==== Proof.Net.lean ====
/- One level of a bitonic merge, told by a threshold: which rows lie at or below it. A block of rows
whose low ones form one run, around its end, splits into two such blocks of half the size. -/
module

public import Mathlib.Tactic.Ring
public import Idealize.ShloMosaic.Lib.SortFacts

@[expose] public section

namespace Cert.Sort

/-- How many of the low rows go to the blocks which come before row `i`'s block, of size `b`, among `n`
    rows; the last block comes first when the order is downwards. -/
def before (up : Prop) [Decidable up] (n b i : ℕ) : ℕ := if up then i / b * b else n - b - i / b * b

/-- Among `n` rows in blocks of `b`, the low rows are `k` in all, placed in the blocks in order and in
    each block in one run, turned around by `s`. -/
def Runs (up : Prop) [Decidable up] (n b s k : ℕ) (p : ℕ → Prop) : Prop :=
  ∀ i, i < n → (p i ↔ (i + s) % b + before up n b i < k)

/-- Of two rows `j` apart in a block of `2 * j`, one lies as far along as in the half block, the other
    `j` further. -/
theorem mod_pair (x j : ℕ) (hj : 0 < j) :
    (x % (2 * j) = x % j ∧ (x + j) % (2 * j) = x % j + j) ∨ (x % (2 * j) = x % j + j ∧ (x + j) % (2 * j) = x % j) := by
  have h1 : x % (2 * j) = x % j + j * (x / j % 2) := by rw [Nat.mul_comm 2 j, Nat.mod_mul]
  have h2 : (x + j) % (2 * j) = x % j + j * ((x / j + 1) % 2) := by
    rw [Nat.mul_comm 2 j, Nat.mod_mul, Nat.add_mod_right, Nat.add_div_right x hj]
  rcases Nat.mod_two_eq_zero_or_one (x / j) with h | h
  · have h' : (x / j + 1) % 2 = 1 := by omega
    rw [h] at h1; rw [h'] at h2; left; constructor <;> omega
  · have h' : (x / j + 1) % 2 = 0 := by omega
    rw [h] at h1; rw [h'] at h2; right; constructor <;> omega

/-- Where a row's block lies, at both sizes. -/
theorem block_pair (i j : ℕ) (hj : 0 < j) :
    (i / j % 2 = 0 ∧ i / j * j = i / (2 * j) * (2 * j)) ∨ (i / j % 2 = 1 ∧ i / j * j = i / (2 * j) * (2 * j) + j) := by
  have h : i / (2 * j) = i / j / 2 := by rw [Nat.mul_comm 2 j, Nat.div_div_eq_div_mul]
  rw [h]
  generalize i / j = u
  rcases Nat.mod_two_eq_zero_or_one u with hu | hu
  · left; refine ⟨hu, ?_⟩
    have : u = u / 2 * 2 := by omega
    calc u * j = (u / 2 * 2) * j := by rw [← this]
      _ = u / 2 * (2 * j) := by ring
  · right; refine ⟨hu, ?_⟩
    have : u = u / 2 * 2 + 1 := by omega
    calc u * j = (u / 2 * 2 + 1) * j := by rw [← this]
      _ = u / 2 * (2 * j) + j := by ring

/-- A block fits among the rows. -/
theorem block_fits (i n b : ℕ) (hd : b ∣ n) (hi : i < n) : i / b * b + b ≤ n := by
  obtain ⟨u, rfl⟩ := hd
  have hb : 0 < b := Nat.pos_of_ne_zero fun e => by subst e; simp at hi
  have : i / b < u := Nat.div_lt_of_lt_mul hi
  calc i / b * b + b = (i / b + 1) * b := by ring
    _ ≤ u * b := Nat.mul_le_mul_right b this
    _ = b * u := Nat.mul_comm _ _

/-- One level: in each block of `2 * j` rows the lower half is low where either partner is (where both
    are, downwards), the upper half the other way. Each half is then a block of its own. -/
theorem level (up : Prop) [Decidable up] (n j s k : ℕ) (hj : 0 < j) (hd : 2 * j ∣ n) (p p' : ℕ → Prop)
    (h : Runs up n (2 * j) s k p)
    (hlo : ∀ i, i < n → i / j % 2 = 0 → (p' i ↔ if up then p i ∨ p (i + j) else p i ∧ p (i + j)))
    (hhi : ∀ i, i < n → i / j % 2 = 1 → (p' i ↔ if up then p (i - j) ∧ p i else p (i - j) ∨ p i)) :
    Runs up n j s k p' := by
  intro i hi
  have hf := block_fits i n (2 * j) hd hi
  have hle : i / j * j ≤ i := Nat.div_mul_le_self i j
  have hlt : i < i / j * j + j := Nat.lt_div_mul_add hj
  rcases block_pair i j hj with ⟨hb, he⟩ | ⟨hb, he⟩
  · rw [hlo i hi hb]
    have hi2 : i + j < n := by omega
    have e2 : (i + j) / (2 * j) = i / (2 * j) := by
      refine Nat.div_eq_of_lt_le (by omega) ?_
      have : (i / (2 * j) + 1) * (2 * j) = i / (2 * j) * (2 * j) + 2 * j := by ring
      omega
    have hm := mod_pair (i + s) j hj
    rw [h i hi, h (i + j) hi2, show i + j + s = i + s + j by omega]
    unfold before
    rw [e2, he]
    split
    · rcases hm with ⟨m1, m2⟩ | ⟨m1, m2⟩ <;> rw [m1, m2] <;> omega
    · rcases hm with ⟨m1, m2⟩ | ⟨m1, m2⟩ <;> rw [m1, m2] <;> omega
  · rw [hhi i hi hb]
    have hij : j ≤ i := by omega
    obtain ⟨i', rfl⟩ : ∃ i', i = i' + j := ⟨i - j, by omega⟩
    have e2 : i' / (2 * j) = (i' + j) / (2 * j) := by
      refine Nat.div_eq_of_lt_le (by omega) ?_
      have : ((i' + j) / (2 * j) + 1) * (2 * j) = (i' + j) / (2 * j) * (2 * j) + 2 * j := by ring
      omega
    have hm := mod_pair (i' + s) j hj
    have ej : (i' + j + s) % j = (i' + s) % j := by
      rw [show i' + j + s = i' + s + j by omega, Nat.add_mod_right]
    rw [Nat.add_sub_cancel, h i' (by omega), h (i' + j) hi, ej, show i' + j + s = i' + s + j by omega]
    unfold before
    rw [e2, he]
    split
    · rcases hm with ⟨m1, m2⟩ | ⟨m1, m2⟩ <;> rw [m1, m2] <;> omega
    · rcases hm with ⟨m1, m2⟩ | ⟨m1, m2⟩ <;> rw [m1, m2] <;> omega

/-- Two runs of `h` rows side by side, the first with its low rows first and the second with its low rows
    last, are one block. -/
theorem runs_join (up : Prop) [Decidable up] (h k₁ k₂ : ℕ) (h₁ : k₁ ≤ h) (h₂ : k₂ ≤ h) (p : ℕ → Prop)
    (hp : ∀ i, i < h → (p i ↔ i < k₁)) (hq : ∀ i, i < h → (p (h + i) ↔ h ≤ i + k₂)) :
    Runs up (h + h) (h + h) k₂ (k₁ + k₂) p := by
  intro i hi
  have hb : before up (h + h) (h + h) i = 0 := by
    unfold before; rw [Nat.div_eq_of_lt hi]; split <;> omega
  rw [hb]
  rcases Nat.lt_or_ge i h with hc | hc
  · rw [hp i hc, Nat.mod_eq_of_lt (by omega)]; omega
  · obtain ⟨i', rfl⟩ : ∃ i', i = h + i' := ⟨i - h, by omega⟩
    rw [hq i' (by omega)]
    rcases Nat.lt_or_ge (i' + k₂) h with hk | hk
    · rw [Nat.mod_eq_of_lt (by omega)]; omega
    · rw [show h + i' + k₂ = (i' + k₂ - h) + (h + h) by omega, Nat.add_mod_right, Nat.mod_eq_of_lt (by omega)]; omega

/-- Blocks of one row are in order: the low rows come first, upwards, -/
theorem runs_up (up : Prop) [Decidable up] (hu : up) (n s k : ℕ) (p : ℕ → Prop) (h : Runs up n 1 s k p) (i : ℕ) (hi : i < n) :
    p i ↔ i < k := by
  rw [h i hi, Nat.mod_one]; unfold before; rw [if_pos hu]; omega

/-- and last, downwards. -/
theorem runs_down (up : Prop) [Decidable up] (hu : ¬ up) (n s k : ℕ) (p : ℕ → Prop) (h : Runs up n 1 s k p) (i : ℕ) (hi : i < n) :
    p i ↔ n ≤ i + k := by
  rw [h i hi, Nat.mod_one]; unfold before; rw [if_neg hu]; omega

end Cert.Sort
-- ==== Proof.Rows.lean ====
/- The levels of the merge read at a row: at either distance, the lower row of a pair takes the minimum
of the two and the upper row the maximum, or the other way around. -/
module

public import proofs.«01_k».proof.Proof.Levels
public import Idealize.ShloMosaic.Lib.Pipeline.Value
public import Mathlib.Tactic.Ring

@[expose] public section

set_option maxRecDepth 16384

noncomputable section

namespace Cert.Sort

open Idealize.ShloMosaic

variable {F : FTy → Type} [FloatOps F]

/-- Row `i` and column `q` of a block of rows. -/
abbrev at2 {m : ℕ} (i : ℕ) (h : i < m) (q : Fin 64) : (M2 m).Idx
  | ⟨0, _⟩ => ⟨i, h⟩
  | ⟨1, _⟩ => q

/-- Block `b`, row `r` and column `q`. -/
abbrev at3 {n j : ℕ} (b : ℕ) (hb : b < n) (r : ℕ) (hr : r < j) (q : Fin 64) : (J3 n j).Idx
  | ⟨0, _⟩ => ⟨b, hb⟩
  | ⟨1, _⟩ => ⟨r, hr⟩
  | ⟨2, _⟩ => q

/-- Block `b`, half `s`, row `r` and column `q`. -/
abbrev at4 {n p j : ℕ} (b : ℕ) (hb : b < n) (s : ℕ) (hs : s < p) (r : ℕ) (hr : r < j) (q : Fin 64) : (J4 n p j).Idx
  | ⟨0, _⟩ => ⟨b, hb⟩
  | ⟨1, _⟩ => ⟨s, hs⟩
  | ⟨2, _⟩ => ⟨r, hr⟩
  | ⟨3, _⟩ => q

/-- An index depends on its row's number alone. -/
theorem at2_congr {m : ℕ} {i i' : ℕ} (e : i = i') (h : i < m) (h' : i' < m) (q : Fin 64) : at2 i h q = at2 i' h' q := by
  subst e; rfl

/-- Where a row lies in the array. -/
theorem pos2 {m : ℕ} (i : ℕ) (h : i < m) (q : Fin 64) : ((M2 m).rowMajor (at2 i h q)).val = i * 64 + q.val :=
  Shape.rowMajor_val_two _

/-- The position of an element among blocks. -/
theorem pos3 {n j : ℕ} (b : ℕ) (hb : b < n) (r : ℕ) (hr : r < j) (q : Fin 64) :
    ((J3 n j).rowMajor (at3 b hb r hr q)).val = (b * j + r) * 64 + q.val :=
  Shape.rowMajor_val_three _

/-- The position of an element among pairs of halves. -/
theorem pos4 {n p j : ℕ} (b : ℕ) (hb : b < n) (s : ℕ) (hs : s < p) (r : ℕ) (hr : r < j) (q : Fin 64) :
    ((J4 n p j).rowMajor (at4 b hb s hs r hr q)).val = ((b * p + s) * j + r) * 64 + q.val :=
  Shape.rowMajor_val_four _

/-- Choosing between two vectors chooses at each place. -/
theorem select_at {ι : Type} {α : Type} (c : BitVec 1) (f g : ι → α) (i : ι) : Scalar.select c f g i = Scalar.select c (f i) (g i) := by
  unfold Scalar.select; split <;> rfl

section Big

variable {nb j m : ℕ} (asc : BitVec 1) (h : m = nb * (2 * j)) (x : FVec F (M2 m) .f32)

/-- A row of block `b`'s half `s` is a row of the whole. -/
theorem row_lt {b s r : ℕ} (hb : b < nb) (hs : s < 2) (hr : r < j) : (b * 2 + s) * j + r < nb * (2 * j) := by
  have h1 : (b * 2 + s) * j + r < (b * 2 + s + 1) * j := by rw [Nat.add_mul _ 1, Nat.one_mul]; omega
  have h2 : (b * 2 + s + 1) * j ≤ (nb * 2) * j := Nat.mul_le_mul_right j (by omega)
  rw [Nat.mul_assoc] at h2; omega

variable (b r : ℕ) (hb : b < nb) (hr : r < j) (q : Fin 64)

/-- Half `s` of the blocks, as the level reads it. -/
theorem half_at (s : ℕ) (hs : s < 2) (hsl : (J4 nb 2 j).Slices ![0, s, 0, 0] (J4 nb 1 j)) :
    shapeCast (J3 nb j) (extractStridedSlice (J4 nb 1 j) ![0, s, 0, 0] (shapeCast (J4 nb 2 j) x (casts_M2_J4 h)) hsl)
      casts_J4_J3 (at3 b hb r hr q) = x (at2 ((b * 2 + s) * j + r) (h ▸ row_lt hb hs hr) q) := by
  rw [shapeCast_apply _ casts_J4_J3 _ (at4 b hb 0 Nat.zero_lt_one r hr q) (by rw [pos4, pos3]; simp),
    extractStridedSlice_apply _ _ hsl _ (at4 b hb s hs r hr q) (by
      intro a
      match a with
      | ⟨0, _⟩ => show b = 0 + b; omega
      | ⟨1, _⟩ => show s = s + 0; omega
      | ⟨2, _⟩ => show r = 0 + r; omega
      | ⟨3, _⟩ => show q.val = 0 + q.val; omega),
    shapeCast_apply x _ _ (at2 ((b * 2 + s) * j + r) (h ▸ row_lt hb hs hr) q) (by rw [pos2, pos4])]

/-- A level at a large distance, at a row of a block's lower half. -/
theorem lvlBig_lo :
    lvlBig nb j asc h x (at2 ((b * 2 + 0) * j + r) (h ▸ row_lt hb Nat.zero_lt_two hr) q)
      = Scalar.select asc
          (FloatOps.minimumf (x (at2 ((b * 2 + 0) * j + r) (h ▸ row_lt hb Nat.zero_lt_two hr) q))
            (x (at2 ((b * 2 + 1) * j + r) (h ▸ row_lt hb Nat.one_lt_two hr) q)))
          (FloatOps.maximumf (x (at2 ((b * 2 + 0) * j + r) (h ▸ row_lt hb Nat.zero_lt_two hr) q))
            (x (at2 ((b * 2 + 1) * j + r) (h ▸ row_lt hb Nat.one_lt_two hr) q))) := by
  unfold lvlBig
  rw [shapeCast_apply _ (casts_J4_M2 h) _ (at4 b hb 0 Nat.zero_lt_two r hr q) (by rw [pos4, pos2]),
    concatenate_pair_apply_left (t := J4 nb 2 j) 1 _ _ concats_J4 _ rfl (at4 b hb 0 Nat.zero_lt_one r hr q) (by
      intro a; match a with | ⟨0, _⟩ | ⟨1, _⟩ | ⟨2, _⟩ | ⟨3, _⟩ => rfl),
    shapeCast_apply _ casts_J3_J4 _ (at3 b hb r hr q) (by rw [pos4, pos3]; simp), select_at]
  show Scalar.select asc (FloatOps.minimumf _ _) (FloatOps.maximumf _ _) = _
  rw [half_at h x b r hb hr q 0 Nat.zero_lt_two slices_lo, half_at h x b r hb hr q 1 Nat.one_lt_two slices_hi]

/-- And at a row of its upper half. -/
theorem lvlBig_hi :
    lvlBig nb j asc h x (at2 ((b * 2 + 1) * j + r) (h ▸ row_lt hb Nat.one_lt_two hr) q)
      = Scalar.select asc
          (FloatOps.maximumf (x (at2 ((b * 2 + 0) * j + r) (h ▸ row_lt hb Nat.zero_lt_two hr) q))
            (x (at2 ((b * 2 + 1) * j + r) (h ▸ row_lt hb Nat.one_lt_two hr) q)))
          (FloatOps.minimumf (x (at2 ((b * 2 + 0) * j + r) (h ▸ row_lt hb Nat.zero_lt_two hr) q))
            (x (at2 ((b * 2 + 1) * j + r) (h ▸ row_lt hb Nat.one_lt_two hr) q))) := by
  unfold lvlBig
  rw [shapeCast_apply _ (casts_J4_M2 h) _ (at4 b hb 1 Nat.one_lt_two r hr q) (by rw [pos4, pos2]),
    concatenate_pair_apply_right (t := J4 nb 2 j) 1 _ _ concats_J4 _ rfl rfl (at4 b hb 0 Nat.zero_lt_one r hr q) (by
      intro a ha; match a with | ⟨0, _⟩ => rfl | ⟨1, _⟩ => exact absurd rfl ha | ⟨2, _⟩ => rfl | ⟨3, _⟩ => rfl) rfl,
    shapeCast_apply _ casts_J3_J4 _ (at3 b hb r hr q) (by rw [pos4, pos3]; simp), select_at]
  show Scalar.select asc (FloatOps.maximumf _ _) (FloatOps.minimumf _ _) = _
  rw [half_at h x b r hb hr q 0 Nat.zero_lt_two slices_lo, half_at h x b r hb hr q 1 Nat.one_lt_two slices_hi]

end Big

section Small

variable {j mj m : ℕ} (h : j + mj = m) (x : FVec F (M2 m) .f32) (i : ℕ) (hi : i < m) (q : Fin 64)

/-- The rows moved up, at a row with a row `j` below it. -/
theorem rotUp_at (hj : i + j < m) : rotUp j mj h x (at2 i hi q) = x (at2 (i + j) hj q) := by
  unfold rotUp
  rw [concatenate_pair_apply_left (t := M2 m) (s₁ := M2 mj) 0 _ _ _ _ rfl (at2 i (by omega) q) (by
      intro a; match a with | ⟨0, _⟩ | ⟨1, _⟩ => rfl),
    extractStridedSlice_apply _ _ _ _ (at2 (i + j) hj q) (by
      intro a
      match a with
      | ⟨0, _⟩ => show i + j = j + i; omega
      | ⟨1, _⟩ => show q.val = 0 + q.val; omega)]

/-- The rows moved down, at a row with a row `j` above it. -/
theorem rotDn_at (hj : j ≤ i) : rotDn j mj h x (at2 i hi q) = x (at2 (i - j) (by omega) q) := by
  unfold rotDn
  rw [concatenate_pair_apply_right (t := M2 m) (s₁ := M2 j) (s₂ := M2 mj) 0 _ _ _ _ rfl rfl (at2 (i - j) (by omega) q) (by
      intro a ha; match a with | ⟨0, _⟩ => exact absurd rfl ha | ⟨1, _⟩ => rfl) (by show i - j + j = i; omega),
    extractStridedSlice_apply _ _ _ _ (at2 (i - j) (by omega) q) (by
      intro a
      match a with
      | ⟨0, _⟩ => show i - j = 0 + (i - j); omega
      | ⟨1, _⟩ => show q.val = 0 + q.val; omega)]

/-- A row's bit at distance `j` is that of its index. -/
theorem rowBit_at (jw : BitVec 32) : rowBit m jw (at2 i hi q) = fmod (fdiv (BitVec.ofNat 32 i) jw) 2#32 := by
  have e : rowOf m (at2 i hi q) = BitVec.ofNat 32 i := by
    unfold rowOf iota; simp; rfl
  rw [← e]; rfl

/-- A level at a small distance, at a row whose bit is zero. -/
theorem lvlSmall_lo (asc : BitVec 1) (jw : BitVec 32) (hb : rowBit m jw (at2 i hi q) = 0#32) (hj : i + j < m) :
    lvlSmall j mj asc h jw x (at2 i hi q)
      = Scalar.select asc (FloatOps.minimumf (x (at2 i hi q)) (x (at2 (i + j) hj q)))
          (FloatOps.maximumf (x (at2 i hi q)) (x (at2 (i + j) hj q))) := by
  have e : lvlSmall j mj asc h jw x (at2 i hi q)
      = Scalar.select (Scalar.xori (Scalar.xori (Scalar.cmpi .eq (rowBit m jw (at2 i hi q)) 0#32) asc) 1#1)
          (FloatOps.minimumf (x (at2 i hi q))
            (Scalar.select (Scalar.cmpi .eq (rowBit m jw (at2 i hi q)) 0#32) (rotUp j mj h x (at2 i hi q)) (rotDn j mj h x (at2 i hi q))))
          (FloatOps.maximumf (x (at2 i hi q))
            (Scalar.select (Scalar.cmpi .eq (rowBit m jw (at2 i hi q)) 0#32) (rotUp j mj h x (at2 i hi q)) (rotDn j mj h x (at2 i hi q)))) := rfl
  rw [e, hb, rotUp_at h x i hi q hj]
  have e1 : Scalar.cmpi .eq 0#32 0#32 = 1#1 := by decide
  have e2 : Scalar.xori (Scalar.xori 1#1 asc) 1#1 = asc := by clear e; revert asc; decide
  rw [e1, e2]; rfl

/-- And at a row whose bit is one. -/
theorem lvlSmall_hi (asc : BitVec 1) (jw : BitVec 32) (hb : rowBit m jw (at2 i hi q) = 1#32) (hj : j ≤ i) :
    lvlSmall j mj asc h jw x (at2 i hi q)
      = Scalar.select asc (FloatOps.maximumf (x (at2 i hi q)) (x (at2 (i - j) (by omega) q)))
          (FloatOps.minimumf (x (at2 i hi q)) (x (at2 (i - j) (by omega) q))) := by
  have e : lvlSmall j mj asc h jw x (at2 i hi q)
      = Scalar.select (Scalar.xori (Scalar.xori (Scalar.cmpi .eq (rowBit m jw (at2 i hi q)) 0#32) asc) 1#1)
          (FloatOps.minimumf (x (at2 i hi q))
            (Scalar.select (Scalar.cmpi .eq (rowBit m jw (at2 i hi q)) 0#32) (rotUp j mj h x (at2 i hi q)) (rotDn j mj h x (at2 i hi q))))
          (FloatOps.maximumf (x (at2 i hi q))
            (Scalar.select (Scalar.cmpi .eq (rowBit m jw (at2 i hi q)) 0#32) (rotUp j mj h x (at2 i hi q)) (rotDn j mj h x (at2 i hi q)))) := rfl
  rw [e, hb, rotDn_at h x i hi q hj]
  have e1 : Scalar.cmpi .eq 1#32 0#32 = 0#1 := by decide
  rw [e1]
  have ha : asc = 0#1 ∨ asc = 1#1 := by clear e; revert asc; decide
  rcases ha with rfl | rfl <;> rfl

end Small

end Cert.Sort
-- ==== Proof.WordBit.lean ====
/- The bit of a row's index as the kernel computes it in words, for every row and small distance it uses. -/
module

public import proofs.«01_k».proof.Proof.Levels

@[expose] public section

namespace Cert.Sort

open Idealize.ShloMosaic

/-- A word's bit at distance 4, 2 or 1, over the rows the kernel has. -/
theorem word_bit : ∀ (j : Fin 3) (u v : Fin 64),
    fmod (fdiv (BitVec.ofNat 32 (u.val * 64 + v.val)) (BitVec.ofNat 32 (2 ^ j.val))) 2#32
      = BitVec.ofNat 32 ((u.val * 64 + v.val) / 2 ^ j.val % 2) := by decide +kernel

end Cert.Sort
-- ==== Proof.Merge.lean ====
/- The bitonic merge of two runs, over the extended reals: of the rows of a column, those at or below a
threshold come first (last, downwards), as many as the two runs have together. -/
module

public import proofs.«01_k».proof.Proof.Net
public import proofs.«01_k».proof.Proof.Rows
public import proofs.«01_k».proof.Proof.WordBit
public import Idealize.ShloMosaic.PureOps.Ideal.Laws

@[expose] public section

set_option maxRecDepth 16384

noncomputable section

namespace Cert.Sort

open Idealize.ShloMosaic

/-- Row `i` of column `q` is at or below the threshold. -/
def Low (a : EReal) (q : Fin 64) {m : ℕ} (x : FVec Ideal (M2 m) .f32) (i : ℕ) : Prop :=
  ∃ h : i < m, (x (at2 i h q) : EReal) ≤ a

section

variable (a : EReal) (q : Fin 64) {m : ℕ}

/-- Low rows of a block, by the value at the row. -/
theorem low_iff (x : FVec Ideal (M2 m) .f32) (i : ℕ) (h : i < m) : Low a q x i ↔ (x (at2 i h q) : EReal) ≤ a :=
  ⟨fun ⟨_, e⟩ => e, fun e => ⟨h, e⟩⟩

/-- The lower place of a pair: the minimum is low where either is, the maximum where both are. -/
theorem pick_lo (c : BitVec 1) (u v : Ideal .f32) :
    (Scalar.select c (FloatOps.minimumf u v) (FloatOps.maximumf u v) : EReal) ≤ a
      ↔ if c = 1#1 then (u : EReal) ≤ a ∨ (v : EReal) ≤ a else (u : EReal) ≤ a ∧ (v : EReal) ≤ a := by
  unfold Scalar.select
  split
  · rename_i hc; rw [if_pos (show c = 1#1 from hc)]; exact min_le_iff (α := EReal)
  · rename_i hc; rw [if_neg (show ¬ c = 1#1 from hc)]; exact max_le_iff (α := EReal)

/-- The upper place of a pair. -/
theorem pick_hi (c : BitVec 1) (u v : Ideal .f32) :
    (Scalar.select c (FloatOps.maximumf u v) (FloatOps.minimumf u v) : EReal) ≤ a
      ↔ if c = 1#1 then (u : EReal) ≤ a ∧ (v : EReal) ≤ a else (u : EReal) ≤ a ∨ (v : EReal) ≤ a := by
  unfold Scalar.select
  split
  · rename_i hc; rw [if_pos (show c = 1#1 from hc)]; exact max_le_iff (α := EReal)
  · rename_i hc; rw [if_neg (show ¬ c = 1#1 from hc)]; exact min_le_iff (α := EReal)

/-- The same, the two named the other way around. -/
theorem pick_hi' (c : BitVec 1) (u v : Ideal .f32) :
    (Scalar.select c (FloatOps.maximumf u v) (FloatOps.minimumf u v) : EReal) ≤ a
      ↔ if c = 1#1 then (v : EReal) ≤ a ∧ (u : EReal) ≤ a else (v : EReal) ≤ a ∨ (u : EReal) ≤ a := by
  rw [pick_hi]; split
  · exact and_comm
  · exact or_comm

variable (asc : BitVec 1) (s k : ℕ)

/-- A level at a large distance halves the blocks. -/
theorem big_runs (nb j : ℕ) (hj : 0 < j) (h : m = nb * (2 * j)) (x : FVec Ideal (M2 m) .f32)
    (hx : Runs (asc = 1#1) m (2 * j) s k (Low a q x)) :
    Runs (asc = 1#1) m j s k (Low a q (lvlBig nb j asc h x)) := by
  refine level _ m j s k hj ⟨nb, by rw [h, Nat.mul_comm]⟩ _ _ hx ?_ ?_
  · intro i hi hb
    rcases block_pair i j hj with ⟨_, he⟩ | ⟨hb', _⟩
    · have hlt : i < i / j * j + j := Nat.lt_div_mul_add hj
      have hle : i / j * j ≤ i := Nat.div_mul_le_self i j
      have hbn : i / (2 * j) < nb := Nat.div_lt_of_lt_mul (by rw [Nat.mul_comm, ← h]; exact hi)
      obtain ⟨b, hbd⟩ : ∃ b, b = i / (2 * j) := ⟨_, rfl⟩
      obtain ⟨r, hr⟩ : ∃ r, r = i - i / j * j := ⟨_, rfl⟩
      have hrj : r < j := by omega
      have e0 : i = (b * 2 + 0) * j + r := by
        rw [Nat.add_zero, Nat.mul_assoc, hbd, ← he]; omega
      have e1 : i + j = (b * 2 + 1) * j + r := by
        rw [e0, Nat.add_mul _ 1, Nat.one_mul, Nat.add_zero]; omega
      rw [← hbd] at hbn
      rw [e1]
      subst e0
      rw [low_iff _ _ _ _ hi, low_iff _ _ _ _ hi, low_iff _ _ _ _ (by rw [h]; exact row_lt hbn Nat.one_lt_two hrj),
        lvlBig_lo asc h x b r hbn hrj q, pick_lo]
    · omega
  · intro i hi hb
    rcases block_pair i j hj with ⟨hb', _⟩ | ⟨_, he⟩
    · omega
    · have hlt : i < i / j * j + j := Nat.lt_div_mul_add hj
      have hle : i / j * j ≤ i := Nat.div_mul_le_self i j
      have hbn : i / (2 * j) < nb := Nat.div_lt_of_lt_mul (by rw [Nat.mul_comm, ← h]; exact hi)
      obtain ⟨b, hbd⟩ : ∃ b, b = i / (2 * j) := ⟨_, rfl⟩
      obtain ⟨r, hr⟩ : ∃ r, r = i - i / j * j := ⟨_, rfl⟩
      have hrj : r < j := by omega
      have e0 : i = (b * 2 + 1) * j + r := by
        rw [Nat.add_mul _ 1, Nat.one_mul, Nat.mul_assoc, hbd]; omega
      have e1 : i - j = (b * 2 + 0) * j + r := by
        rw [e0, Nat.add_mul _ 1, Nat.one_mul, Nat.add_zero]; omega
      rw [← hbd] at hbn
      rw [e1]
      subst e0
      rw [low_iff _ _ _ _ hi, low_iff _ _ x _ hi, low_iff _ _ _ _ (by rw [h]; exact row_lt hbn Nat.zero_lt_two hrj),
        lvlBig_hi asc h x b r hbn hrj q, pick_hi]

/-- A row's bit, over the rows the kernel has. -/
theorem rowBit_eq (e : Fin 3) (hm : m ≤ 4096) (i : ℕ) (hi : i < m) :
    rowBit m (BitVec.ofNat 32 (2 ^ e.val)) (at2 i hi q) = BitVec.ofNat 32 (i / 2 ^ e.val % 2) := by
  rw [rowBit_at]
  have := word_bit e ⟨i / 64, by omega⟩ ⟨i % 64, by omega⟩
  rwa [show i / 64 * 64 + i % 64 = i by omega] at this

/-- A level at a small distance halves the blocks. -/
theorem small_runs (e : Fin 3) (j mj : ℕ) (hj : j = 2 ^ e.val) (h : j + mj = m) (hm : m ≤ 4096) (hd : 2 * j ∣ m) (x : FVec Ideal (M2 m) .f32)
    (jw : BitVec 32) (hjw : jw = BitVec.ofNat 32 (2 ^ e.val))
    (hx : Runs (asc = 1#1) m (2 * j) s k (Low a q x)) :
    Runs (asc = 1#1) m j s k (Low a q (lvlSmall j mj asc h jw x)) := by
  have hj0 : 0 < j := by rw [hj]; exact Nat.two_pow_pos _
  refine level _ m j s k hj0 hd _ _ hx ?_ ?_
  · intro i hi hb
    have hf := block_fits i m (2 * j) hd hi
    have hlt : i < i / j * j + j := Nat.lt_div_mul_add hj0
    have hij : i + j < m := by
      rcases block_pair i j hj0 with ⟨_, he⟩ | ⟨hb', _⟩ <;> omega
    have hbit : rowBit m jw (at2 i hi q) = 0#32 := by rw [hjw, rowBit_eq q e hm i hi, ← hj, hb]
    rw [low_iff _ _ _ _ hi, low_iff _ _ _ _ hi, low_iff _ _ _ _ hij, lvlSmall_lo h x i hi q asc jw hbit hij, pick_lo]
  · intro i hi hb
    have hle : i / j * j ≤ i := Nat.div_mul_le_self i j
    have hij : j ≤ i := by
      rcases block_pair i j hj0 with ⟨hb', _⟩ | ⟨_, he⟩ <;> omega
    have hbit : rowBit m jw (at2 i hi q) = 1#32 := by rw [hjw, rowBit_eq q e hm i hi, ← hj, hb]
    rw [low_iff _ _ _ _ hi, low_iff _ _ x _ hi, low_iff _ _ _ (i - j) (by omega), lvlSmall_hi h x i hi q asc jw hbit hij, pick_hi']

/-- The levels at distances `8 * 2 ^ k` to 8. -/
theorem bigs_runs : ∀ (e nb : ℕ) (h : m = nb * (2 * (8 * 2 ^ e))) (x : FVec Ideal (M2 m) .f32),
    Runs (asc = 1#1) m (2 * (8 * 2 ^ e)) s k (Low a q x) → Runs (asc = 1#1) m 8 s k (Low a q (bigs asc e nb h x))
  | 0, nb, h, x, hx => by
    have := big_runs a q asc s k nb (8 * 2 ^ 0) (by decide) h x hx
    exact this
  | e + 1, nb, h, x, hx => by
    have h1 := big_runs a q asc s k nb (8 * 2 ^ (e + 1)) (Nat.mul_pos (by decide) (Nat.two_pow_pos _)) h x hx
    refine bigs_runs e (nb * 2) _ _ ?_
    have e8 : 2 * (8 * 2 ^ e) = 8 * 2 ^ (e + 1) := by rw [pow_succ]; omega
    rw [e8]; exact h1

/-- The levels at distances 4, 2 and 1. -/
theorem smalls_runs (h4 : 4 + (m - 4) = m) (hm : m ≤ 4096) (hd : 8 ∣ m) (x : FVec Ideal (M2 m) .f32)
    (hx : Runs (asc = 1#1) m 8 s k (Low a q x)) : Runs (asc = 1#1) m 1 s k (Low a q (smalls h4 asc x)) := by
  unfold smalls
  refine small_runs a q asc s k 0 1 _ rfl _ hm (by omega) _ _ rfl ?_
  refine small_runs a q asc s k 1 2 _ rfl _ hm (by omega) _ _ rfl ?_
  exact small_runs a q asc s k 2 4 _ rfl _ hm (by omega) _ _ rfl hx

/-- Two runs one above the other, at a row of the first and at a row of the second. -/
theorem join_lo (u v : FVec Ideal (M2 m) .f32) (i : ℕ) (hi : i < m) :
    Low a q (concatenate (M2 (m + m)) 0 [⟨M2 m, u⟩, ⟨M2 m, v⟩] (concats_M2 rfl)) i ↔ Low a q u i := by
  rw [low_iff _ _ _ _ (by omega), low_iff _ _ _ _ hi,
    concatenate_pair_apply_left (t := M2 (m + m)) (s₁ := M2 m) (s₂ := M2 m) 0 _ _ _ _ rfl (at2 i hi q) (by
      intro b; match b with | ⟨0, _⟩ | ⟨1, _⟩ => rfl)]

/-- The upper rows of two blocks put together are the second block's. -/
theorem join_hi (u v : FVec Ideal (M2 m) .f32) (i : ℕ) (hi : i < m) :
    Low a q (concatenate (M2 (m + m)) 0 [⟨M2 m, u⟩, ⟨M2 m, v⟩] (concats_M2 rfl)) (m + i) ↔ Low a q v i := by
  rw [low_iff _ _ _ _ (by omega), low_iff _ _ _ _ hi,
    concatenate_pair_apply_right (t := M2 (m + m)) (s₁ := M2 m) (s₂ := M2 m) 0 _ _ _ _ rfl rfl (at2 i hi q) (by
      intro b hb; match b with | ⟨0, _⟩ => exact absurd rfl hb | ⟨1, _⟩ => rfl) (by show i + m = m + i; omega)]

/-- The merge of a run with its low rows first and a run with its low rows last: every block of one row
    is in its place. -/
theorem merge_runs (e : ℕ) (hm : m = 8 * 2 ^ e) (low : BitVec 1) (mine theirs : FVec Ideal (M2 m) .f32) (hle : m + m ≤ 4096)
    (k₁ k₂ : ℕ) (h₁ : k₁ ≤ m) (h₂ : k₂ ≤ m)
    (hp : ∀ i, i < m → (Low a q (Scalar.select low mine theirs) i ↔ i < k₁))
    (hq : ∀ i, i < m → (Low a q (Scalar.select low theirs mine) i ↔ m ≤ i + k₂)) :
    Runs (asc = 1#1) (m + m) 1 k₂ (k₁ + k₂) (Low a q (mergeRows e m hm low asc mine theirs)) := by
  have e2 : 2 * (8 * 2 ^ e) = m + m := by omega
  unfold mergeRows
  refine smalls_runs a q asc _ _ _ hle ⟨2 ^ e + 2 ^ e, by omega⟩ _ ?_
  refine bigs_runs a q asc _ _ e 1 _ _ ?_
  rw [e2]
  unfold Scalar.select at hp hq ⊢
  split at hp
  · rename_i hl
    rw [if_pos hl] at hq ⊢
    exact runs_join _ m k₁ k₂ h₁ h₂ _ (fun i hi => (join_lo a q _ _ i hi).trans (hp i hi))
      (fun i hi => (join_hi a q _ _ i hi).trans (hq i hi))
  · rename_i hl
    rw [if_neg hl] at hq ⊢
    exact runs_join _ m k₁ k₂ h₁ h₂ _ (fun i hi => (join_lo a q _ _ i hi).trans (hp i hi))
      (fun i hi => (join_hi a q _ _ i hi).trans (hq i hi))

end

end Cert.Sort
-- ==== Proof.Exchange.lean ====
/- What the exchange leaves, over the extended reals: after step `t` the devices of a group of `2 ^ (t + 1)`
hold the group's rows in one run, upwards or downwards by the group's place; after the last step every
device holds all rows in order. -/
module

public import proofs.«01_k».proof.Proof.Merge
public import proofs.«01_k».proof.Proof.Body

@[expose] public section

set_option maxRecDepth 16384

noncomputable section

namespace Cert.Sort

open Idealize.ShloMosaic Idealize.ShloMosaic.TcCoe Cert.KernelIdeal Cert.KernelIdeal.Gen

/-- The low rows of the group of slots whose index over `2 ^ t` is `u`, counted by device. -/
def group (w : Dev nD → ℕ) (t u : ℕ) : ℕ := ∑ s : Fin 32, if s.val / 2 ^ t = u then w (devOf s) else 0

/-- A slot's group one step on is half its group. -/
theorem div_succ (s t : ℕ) : s / 2 ^ (t + 1) = s / 2 ^ t / 2 := by
  rw [pow_succ, Nat.div_div_eq_div_mul]

/-- Before the first step a group is one device. -/
theorem group_zero (w : Dev nD → ℕ) (c : Dev nD) : group w 0 (slot c).val = w c := by
  unfold group
  rw [Finset.sum_eq_single (slot c)]
  · rw [if_pos (by simp), devOf_slot]
  · intro s _ hs
    rw [if_neg]
    intro e; apply hs; apply Fin.ext; simpa using e
  · intro h; exact absurd (Finset.mem_univ _) h

/-- A step joins two neighbouring groups. -/
theorem group_succ (w : Dev nD → ℕ) (t u : ℕ) : group w (t + 1) u = group w t (2 * u) + group w t (2 * u + 1) := by
  unfold group
  rw [← Finset.sum_add_distrib]
  refine Finset.sum_congr rfl fun s _ => ?_
  rw [div_succ]
  split <;> split <;> split <;> omega

/-- The last group is everyone. -/
theorem group_all (w : Dev nD → ℕ) : group w 5 0 = ∑ d, w d := by
  unfold group
  rw [← slotEquiv.sum_comp]
  refine Finset.sum_congr rfl fun c _ => ?_
  have : (slotEquiv c).val / 2 ^ 5 = 0 := Nat.div_eq_of_lt (slotEquiv c).isLt
  rw [if_pos this]
  exact congrArg w (devOf_slot c)

/-- A group's low rows are at most its rows. -/
theorem group_le (w : Dev nD → ℕ) (hw : ∀ d, w d ≤ 128) : ∀ t u, group w t u ≤ 2 ^ t * 128
  | 0, u => by
    rcases Nat.lt_or_ge u 32 with h | h
    · have e := group_zero w (devOf ⟨u, h⟩)
      rw [slot_devOf] at e
      have := hw (devOf ⟨u, h⟩)
      rw [show group w 0 u = _ from e]; omega
    · unfold group
      rw [Finset.sum_eq_zero]
      · omega
      · intro s _; have := s.isLt; rw [if_neg (by simp; omega)]
  | t + 1, u => by
    have h1 := group_le w hw t (2 * u)
    have h2 := group_le w hw t (2 * u + 1)
    rw [group_succ, pow_succ]; omega

/-- The partner's place in its group: the other one of the pair. -/
theorem flip_place : ∀ (t : Fin 5) (s : Fin 32), (flip t.val s).val / 2 ^ t.val
    = if s.val / 2 ^ t.val % 2 = 0 then s.val / 2 ^ t.val + 1 else s.val / 2 ^ t.val - 1 := by decide +kernel

section Reading

variable (a : EReal) (q : Fin 64)

/-- A row of blocks laid out as rows. -/
theorem rows_at {n m : ℕ} (h : m = n * 128) (X : FVec Ideal (M3 n) .f32) (i : ℕ) (hi : i < m) :
    shapeCast (M2 m) X (casts_M3_M2 h) (at2 i hi q)
      = X (at3 (n := n) (i / 128) (by omega) (i % 128) (Nat.mod_lt _ (by decide)) q) :=
  shapeCast_apply X _ _ _ (by rw [pos2]; exact (pos3 _ _ _ _ _).trans (by congr 2; omega))

/-- Rows laid out as blocks and as rows again. -/
theorem rows_blocks {n m m' : ℕ} (h : m = n * 128) (h' : m' = n * 128) (x : FVec Ideal (M2 m') .f32) (i : ℕ) (hi : i < m) :
    Low a q (shapeCast (M2 m) (shapeCast _ (shapeCast (M3 n) x (casts_M2_M3 h')) rfl : FVec Ideal (M3 n) .f32) (casts_M3_M2 h)) i
      ↔ Low a q x i := by
  rw [low_iff _ _ _ _ hi, low_iff _ _ _ _ (by omega), rows_at q h _ i hi, shapeCast_apply _ rfl _ _ rfl,
    shapeCast_apply x _ _ (at2 i (by omega) q) (by rw [pos2]; exact ((pos3 _ _ _ _ _).trans (by congr 2; omega)).symm)]

/-- Whether a row is low does not depend on how the number of blocks is written. -/
theorem rows_cast {n n' : ℕ} (e : n = n') (X : FVec Ideal (M3 n) .f32) (i : ℕ) :
    Low a q (shapeCast (M2 (n' * 128)) (castRows e X) (casts_M3_M2 rfl)) i ↔ Low a q (shapeCast (M2 (n * 128)) X (casts_M3_M2 rfl)) i := by
  subst e; exact Iff.rfl

variable (A : Blocks Ideal)

/-- Row `i` of what device `c`'s buffer holds before step `t` is low. -/
def LowAt (t : ℕ) (c : Dev nD) (i : ℕ) : Prop :=
  Low a q (shapeCast (M2 (2 ^ t * 128)) (cont A t c) (casts_M3_M2 rfl)) i

/-- Before the first step: the device's own block. -/
theorem lowAt_zero (c : Dev nD) (i : ℕ) (hi : i < 128) : LowAt a q A 0 c i ↔ Low a q (m := 128) (A c) i := by
  unfold LowAt
  rw [low_iff _ _ _ _ (by omega), low_iff _ _ _ _ hi, rows_at q rfl _ i (by omega)]
  show (cont A 0 c _ : EReal) ≤ a ↔ _
  unfold cont
  rw [shapeCast_apply _ _ _ (at2 (m := 128) i hi q) (by rw [pos2]; exact ((pos3 _ _ _ _ _).trans (by congr 2; omega)).symm),
    shapeCast_apply _ _ _ _ rfl]

/-- After a step: the merge of its own run and the partner's. -/
theorem lowAt_succ (t : ℕ) (c : Dev nD) (i : ℕ) (hi : i < 2 ^ (t + 1) * 128) :
    LowAt a q A (t + 1) c i ↔ Low a q (mergeRows (t + 4) (2 ^ t * 128) (by rw [pow_add]; omega) (lowT t c) (ascT t c)
      (shapeCast (M2 (2 ^ t * 128)) (cont A t c) (casts_M3_M2 rfl))
      (shapeCast (M2 (2 ^ t * 128)) (cont A t (prt t c)) (casts_M3_M2 rfl))) i := by
  unfold LowAt
  rw [cont, rows_cast]
  unfold stepOn stepVal
  exact rows_blocks a q rfl (by omega) _ i (by rw [pow_succ] at hi; omega)

end Reading

section Steps

variable (a : EReal) (q : Fin 64) (A : Blocks Ideal) (w : Dev nD → ℕ)

/-- The run a device holds before step `t`: its group's low rows first or last, by the group's place. -/
def RunAt (t : ℕ) : Prop :=
  ∀ c i, i < 2 ^ t * 128 → (LowAt a q A t c i ↔
    if (slot c).val / 2 ^ t % 2 = 0 then i < group w t ((slot c).val / 2 ^ t) else 2 ^ t * 128 ≤ i + group w t ((slot c).val / 2 ^ t))

/-- Before the first step each device holds a run, by what it brings. -/
theorem runAt_zero (hA : ∀ c i, i < 128 → (Low a q (m := 128) (A c) i ↔ if (slot c).val % 2 = 0 then i < w c else 128 ≤ i + w c)) :
    RunAt a q A w 0 := by
  intro c i hi
  have hi' : i < 128 := by omega
  rw [lowAt_zero a q A c i hi', hA c i hi', pow_zero, Nat.div_one, group_zero, Nat.one_mul]

/-- One step takes runs of a group to runs of the joined group. -/
theorem runAt_succ (hw : ∀ d, w d ≤ 128) (t : Fin 5) (h : RunAt a q A w t.val) : RunAt a q A w (t.val + 1) := by
  intro c i hi
  obtain ⟨u, hu⟩ : ∃ u, u = (slot c).val / 2 ^ (t.val + 1) := ⟨_, rfl⟩
  have hsplit := div_succ (slot c).val t.val
  have hp : (slot (prt t.val c)).val / 2 ^ t.val = _ := (congrArg (fun s : Fin 32 => s.val / 2 ^ t.val) (slot_prt t.val c)).trans
    (flip_place t (slot c))
  have hmm : 2 ^ (t.val + 1) * 128 = 2 ^ t.val * 128 + 2 ^ t.val * 128 := by rw [pow_succ]; omega
  have hpow : 2 ^ t.val ≤ 2 ^ 4 := Nat.pow_le_pow_right (by decide) (by have := t.isLt; omega)
  have hg1 := group_le w hw t.val (2 * u)
  have hg2 := group_le w hw t.val (2 * u + 1)
  have hm := merge_runs a q (ascT t.val c) (m := 2 ^ t.val * 128) (t.val + 4) (by rw [pow_add]; omega) (lowT t.val c)
    (shapeCast (M2 (2 ^ t.val * 128)) (cont A t.val c) (casts_M3_M2 rfl))
    (shapeCast (M2 (2 ^ t.val * 128)) (cont A t.val (prt t.val c)) (casts_M3_M2 rfl)) (by omega)
    (group w t.val (2 * u)) (group w t.val (2 * u + 1)) hg1 hg2
    (by
      intro i hi
      rw [lowT_eq t c]
      by_cases hb : (slot c).val / 2 ^ t.val % 2 = 0
      · rw [if_pos hb]
        refine (h c i hi).trans ?_
        rw [if_pos hb, show (slot c).val / 2 ^ t.val = 2 * u by omega]
      · rw [if_neg hb] at hp ⊢
        refine (h (prt t.val c) i hi).trans ?_
        rw [hp, if_pos (by omega), show (slot c).val / 2 ^ t.val - 1 = 2 * u by omega])
    (by
      intro i hi
      rw [lowT_eq t c]
      by_cases hb : (slot c).val / 2 ^ t.val % 2 = 0
      · rw [if_pos hb] at hp ⊢
        refine (h (prt t.val c) i hi).trans ?_
        rw [hp, if_neg (by omega), show (slot c).val / 2 ^ t.val + 1 = 2 * u + 1 by omega]
      · rw [if_neg hb]
        refine (h c i hi).trans ?_
        rw [if_neg hb, show (slot c).val / 2 ^ t.val = 2 * u + 1 by omega])
  rw [lowAt_succ a q A t.val c i hi, ← hu, group_succ, hmm]
  have hi' : i < 2 ^ t.val * 128 + 2 ^ t.val * 128 := by omega
  by_cases hb : (slot c).val / 2 ^ (t.val + 1) % 2 = 0
  · have ha : ascT t.val c = 1#1 := by rw [ascT_eq t c, if_pos hb]
    rw [if_pos (by rw [hu]; exact hb)]
    exact runs_up _ ha _ _ _ _ hm i hi'
  · have ha : ¬ ascT t.val c = 1#1 := by rw [ascT_eq t c, if_neg hb]; decide
    rw [if_neg (by rw [hu]; exact hb)]
    exact runs_down _ ha _ _ _ _ hm i hi'

/-- What device `c` returns: row `i` of its block is low exactly when its place among all rows is under
    the number of low rows there are. -/
theorem result_low (hw : ∀ d, w d ≤ 128)
    (hA : ∀ c i, i < 128 → (Low a q (m := 128) (A c) i ↔ if (slot c).val % 2 = 0 then i < w c else 128 ≤ i + w c))
    (c : Dev nD) (i : ℕ) (hi : i < 128) : Low a q (m := 128) (result A c) i ↔ c.val * 128 + i < ∑ d, w d := by
  have h5 : RunAt a q A w 5 :=
    runAt_succ a q A w hw 4 (runAt_succ a q A w hw 3 (runAt_succ a q A w hw 2 (runAt_succ a q A w hw 1
      (runAt_succ a q A w hw 0 (runAt_zero a q A w hA)))))
  have hc : c.val < 32 := c.isLt
  have hz : (slot c).val / 2 ^ 5 = 0 := Nat.div_eq_of_lt (slot c).isLt
  have h := h5 c (c.val * 128 + i) (by omega)
  rw [hz, if_pos rfl, group_all] at h
  rw [← h]
  unfold LowAt
  rw [low_iff _ _ _ _ hi, low_iff _ _ _ _ (by omega), rows_at q rfl _ _ (by omega)]
  unfold result
  rw [shapeCast_apply _ _ _ (at3 (n := 1) 0 Nat.zero_lt_one i hi q) (by rw [pos2]; exact (pos3 _ _ _ _ _).trans (by congr 2; omega))]
  have e : ownBlock c (cont A 5 c) (at3 (n := 1) 0 Nat.zero_lt_one i hi q)
      = cont A 5 c (at3 (n := 2 ^ 5) ((c.val * 128 + i) / 128) (by omega) ((c.val * 128 + i) % 128) (Nat.mod_lt _ (by decide)) q) := by
    unfold ownBlock
    congr 1
    funext b
    match b with
    | ⟨0, _⟩ => exact Fin.ext (show c.val = (c.val * 128 + i) / 128 by omega)
    | ⟨1, _⟩ => exact Fin.ext (show i = (c.val * 128 + i) % 128 by omega)
    | ⟨2, _⟩ => rfl
  rw [e]

end Steps

end Cert.Sort
-- ==== Proof.HostSort.lean ====
/- A column sorted by the host, over the extended reals: the rows at or below a threshold come first, as
many as the unsorted column has. -/
module

public import proofs.«01_k».proof.Proof.Merge
public import proofs.«01_k».proof.KernelIdeal
public import proofs.«01_k».proof.ReferenceIdeal
public import Idealize.ShloMosaic.Lib.SortFacts

@[expose] public section

set_option maxRecDepth 16384

noncomputable section

namespace Cert.Sort

open Idealize.ShloMosaic

/-- Of a property closed downwards, the places holding it are the first ones. -/
theorem first_places {n : ℕ} (P : Fin n → Prop) [DecidablePred P] (hP : ∀ i j, i < j → P j → P i) (i : Fin n) :
    P i ↔ i.val < (Finset.univ.filter P).card := by
  constructor
  · intro h
    have hs : Finset.Iic i ⊆ Finset.univ.filter P := by
      intro j hj
      rw [Finset.mem_Iic] at hj
      rw [Finset.mem_filter]
      refine ⟨Finset.mem_univ _, ?_⟩
      rcases lt_or_eq_of_le hj with hlt | rfl
      · exact hP j i hlt h
      · exact h
    have := Finset.card_le_card hs
    rw [Fin.card_Iic] at this; omega
  · intro h
    by_contra hn
    have hs : Finset.univ.filter P ⊆ Finset.Iio i := by
      intro j hj
      rw [Finset.mem_filter] at hj
      rw [Finset.mem_Iio]
      by_contra hji
      rcases lt_or_eq_of_le (not_lt.mp hji) with hlt | rfl
      · exact hn (hP i j hlt hj.2)
      · exact hn hj.2
    have := Finset.card_le_card hs
    rw [Fin.card_Iio] at this; omega

/-- How many rows of a column are at or below the threshold. -/
def lowCount (a : EReal) (q : Fin 64) {m : ℕ} (x : FVec Ideal (M2 m) .f32) : ℕ :=
  (Finset.univ.filter fun i : Fin m => (x (at2 i.val i.isLt q) : EReal) ≤ a).card

/-- A column has at most as many low rows as rows. -/
theorem lowCount_le (a : EReal) (q : Fin 64) {m : ℕ} (x : FVec Ideal (M2 m) .f32) : lowCount a q x ≤ m :=
  (Finset.card_le_univ _).trans_eq (Fintype.card_fin m)

/-- Moving along the rows. -/
theorem along_at {m : ℕ} (i : ℕ) (hi : i < m) (q : Fin 64) (k : Fin m) :
    (at2 i hi q : (M2 m).Idx).along 0 k = at2 k.val k.isLt q := by
  funext b
  match b with
  | ⟨0, _⟩ => exact Function.update_self (β := fun b => Fin ((M2 m).size b)) 0 k (at2 i hi q)
  | ⟨1, _⟩ => exact Function.update_of_ne (α := Fin 2) (β := fun b => Fin ((M2 m).size b)) (a := 1) (a' := 0) (by decide) k (at2 i hi q)

/-- The comparison of extended reals, as the host sorts by it. -/
def before_cmp (cmp : Ideal .f32 → Ideal .f32 → BitVec 1) : Prop :=
  ∀ l r : Ideal .f32, (cmp l r == 1#1) = decide ((l : EReal) < (r : EReal))

/-- A sorted column. -/
theorem sort_low (a : EReal) (q : Fin 64) {m : ℕ} (cmp : Ideal .f32 → Ideal .f32 → BitVec 1) (hc : before_cmp cmp)
    (x : FVec Ideal (M2 m) .f32) (i : ℕ) (hi : i < m) : Low a q (Host.sort (M2 m) 0 cmp x) i ↔ i < lowCount a q x := by
  obtain ⟨col, hcol⟩ : ∃ col : Fin m → EReal, col = fun k => x (at2 k.val k.isLt q) := ⟨_, rfl⟩
  obtain ⟨σ, hσ⟩ : ∃ σ : Fin m → Fin m, σ = sortedFrom (fun k k' => decide (col k < col k')) := ⟨_, rfl⟩
  have hy : ∀ (i : ℕ) (hi : i < m), Host.sort (M2 m) 0 cmp x (at2 i hi q) = col (σ ⟨i, hi⟩) := by
    intro i hi
    have e : (fun k k' : Fin m => cmp (x ((at2 i hi q : (M2 m).Idx).along 0 k)) (x ((at2 i hi q : (M2 m).Idx).along 0 k')) == 1#1)
        = fun k k' => decide (col k < col k') := by
      funext k k'
      rw [hc, along_at, along_at, hcol]
    unfold Host.sort
    rw [dif_pos (show 0 < (M2 m).rank from Nat.zero_lt_two)]
    refine (congrArg (fun R : Fin m → Fin m → Bool => x ((at2 i hi q : (M2 m).Idx).along 0 (sortedFrom R ⟨i, hi⟩))) e).trans ?_
    rw [hσ]
    exact (congrArg x (along_at i hi q _)).trans (congrFun hcol _).symm
  have hbij : Function.Bijective σ := by
    rw [hσ]; exact ⟨sortedFrom_injective _, sortedFrom_surjective _⟩
  have hmono : ∀ i j : Fin m, i < j → col (σ i) ≤ col (σ j) := by
    intro i j hij
    have := sortedFrom_noInversion (fun k k' => decide (col k < col k')) (fun k k' => decide (col k < col k'))
      (fun u v h => by simp only [decide_eq_true_eq, decide_eq_false_iff_not, not_lt] at h ⊢; exact h.le)
      (fun _ _ h => h)
      (fun u v z h h' => by simp only [decide_eq_false_iff_not, not_lt] at h h' ⊢; exact h'.trans h) i j hij
    rw [← hσ] at this
    simpa using this
  have hcount : lowCount a q x = (Finset.univ.filter fun i : Fin m => col (σ i) ≤ a).card := by
    unfold lowCount
    refine (Finset.card_equiv (Equiv.ofBijective σ hbij) ?_).symm
    intro i
    simp [hcol]
  rw [low_iff _ _ _ _ hi, hy i hi, hcount]
  exact first_places (fun i : Fin m => col (σ i) ≤ a) (fun i j hij h => (hmono i j hij).trans h) ⟨i, hi⟩

/-- The comparison the kernel's program sorts by is that of the extended reals: a zero is replaced by zero,
    and no value is unequal to itself. -/
theorem kernel_cmp : before_cmp Cert.KernelIdeal.comparator_f32_d0 := by
  intro l r
  have h0 : ∀ u : Ideal .f32, Scalar.select (FloatOps.cmpf .une u u) (FloatOps.ofBits .f32 0x7FC00000#32 : Ideal .f32)
      (Scalar.select (FloatOps.cmpf .oeq u (FloatOps.ofBits .f32 0x00000000#32)) (FloatOps.ofBits .f32 0x00000000#32) u) = u := by
    intro u
    have e1 : FloatOps.cmpf (F := Ideal) .une u u = 0#1 := by simp [Ideal.cmpf_def, Ideal.cmp]
    rw [e1]
    show Scalar.select (FloatOps.cmpf .oeq u (FloatOps.ofBits .f32 0x00000000#32)) (FloatOps.ofBits .f32 0x00000000#32) u = u
    rw [Ideal.cmpf_def]
    unfold Scalar.select
    split
    · rename_i h
      simp [Ideal.cmp] at h
      by_cases hu : u = 0
      · rw [hu]; exact Ideal.ofBits_zero_f32
      · simp [hu] at h
    · rfl
  have e : Cert.KernelIdeal.comparator_f32_d0 (F := Ideal) l r = FloatOps.cmpfTotal .lt
      (Scalar.select (FloatOps.cmpf .une l l) (FloatOps.ofBits .f32 0x7FC00000#32 : Ideal .f32)
        (Scalar.select (FloatOps.cmpf .oeq l (FloatOps.ofBits .f32 0x00000000#32)) (FloatOps.ofBits .f32 0x00000000#32) l))
      (Scalar.select (FloatOps.cmpf .une r r) (FloatOps.ofBits .f32 0x7FC00000#32 : Ideal .f32)
        (Scalar.select (FloatOps.cmpf .oeq r (FloatOps.ofBits .f32 0x00000000#32)) (FloatOps.ofBits .f32 0x00000000#32) r)) := rfl
  rw [e, h0, h0, Ideal.cmpfTotal_def]
  by_cases h : (l : EReal) < (r : EReal)
  · simp [Ideal.cmp, CmpDirection.ordered, h]
  · simp [Ideal.cmp, CmpDirection.ordered, h]

/-- The reference sorts by the same comparison. -/
theorem reference_cmp : before_cmp Cert.ReferenceIdeal.comparator_f32_d0 := kernel_cmp

end Cert.Sort
-- ==== Proof.Equation.lean ====
/- The equation: what each device returns is its block of the whole array sorted by rows. -/
module

public import proofs.«01_k».proof.Proof.Entry
public import proofs.«01_k».proof.Proof.Exchange
public import proofs.«01_k».proof.Proof.HostSort
public import Idealize.ShloMosaic.Lib.Layout

@[expose] public section

set_option maxRecDepth 16384

noncomputable section

namespace Cert.Sort

open Idealize.ShloMosaic Idealize.ShloMosaic.TcCoe Cert.KernelIdeal Cert.KernelIdeal.Gen

/-- Device `c`'s block of an array of 4096 rows. -/
abbrev blockOf (c : Dev nD) (X : FVec Ideal (M2 4096) .f32) : FVec Ideal (M2 128) .f32 :=
  Layout.block ⟨2, ![128, 64]⟩ ⟨2, ![4096, 64]⟩ 0 32 c X

/-- A block's row is a row of the whole. -/
theorem blockOf_at (c : Dev nD) (X : FVec Ideal (M2 4096) .f32) (i : ℕ) (hi : i < 128) (q : Fin 64) :
    blockOf c X (at2 i hi q) = X (at2 (c.val * 128 + i) (by have : c.val < 32 := c.isLt; omega) q) := by
  unfold blockOf
  rw [Layout.block_apply]
  congr 1
  funext b
  match b with
  | ⟨0, _⟩ => rfl
  | ⟨1, _⟩ => rfl

/-- The low rows of the whole column, counted by blocks. -/
theorem lowCount_blocks (a : EReal) (q : Fin 64) (X : FVec Ideal (M2 4096) .f32) :
    ∑ d : Dev nD, lowCount a q (blockOf d X) = lowCount a q X := by
  unfold lowCount
  simp only [Finset.card_filter]
  rw [← (finProdFinEquiv (m := 32) (n := 128)).sum_comp (fun i : Fin 4096 => if (X (at2 i.val i.isLt q) : EReal) ≤ a then 1 else 0),
    Fintype.sum_prod_type]
  refine Finset.sum_congr rfl fun d _ => Finset.sum_congr rfl fun i _ => ?_
  rw [blockOf_at]
  have e : d.val * 128 + i.val = (finProdFinEquiv (m := 32) (n := 128) (d, i)).val := by
    show _ = i.val + 128 * d.val; omega
  rw [at2_congr e _ (finProdFinEquiv (m := 32) (n := 128) (d, i)).isLt q]

/-- A column turned around. -/
theorem reverse_low (a : EReal) (q : Fin 64) (x : FVec Ideal (M2 128) .f32) (i : ℕ) (hi : i < 128) :
    Low a q (m := 128) (Host.reverse [0] x) i ↔ Low a q x (127 - i) := by
  rw [low_iff _ _ _ _ hi, low_iff _ _ _ _ (by omega)]
  have e : Host.reverse [0] x (at2 i hi q) = x (at2 (127 - i) (by omega) q) := by
    unfold Host.reverse
    congr 1
    funext b
    match b with
    | ⟨0, _⟩ => exact Fin.ext (show 128 - (i + 1) = 127 - i by omega)
    | ⟨1, _⟩ => rfl
  rw [e]

/-- What a device brings, under a threshold. -/
theorem inA_low (a : EReal) (q : Fin 64) (m : (b : Loc nD τ sig) → Buf (Elt Ideal) b) (c : Dev nD) (i : ℕ) (hi : i < 128) :
    Low a q (m := 128) (inA m c) i ↔
      if (slot c).val % 2 = 0 then i < lowCount a q (m := 128) (m ((c.tc : Thread nD τ).loc main_arg0))
        else 128 ≤ i + lowCount a q (m := 128) (m ((c.tc : Thread nD τ).loc main_arg0)) := by
  rw [inA_eq]
  split
  · exact sort_low a q _ kernel_cmp _ i hi
  · have h := sort_low a q _ kernel_cmp (m ((c.tc : Thread nD τ).loc main_arg0) : FVec Ideal (M2 128) .f32) (127 - i) (by omega)
    refine (reverse_low a q _ i hi).trans (h.trans ?_)
    have := lowCount_le a q (m ((c.tc : Thread nD τ).loc main_arg0) : FVec Ideal (M2 128) .f32)
    omega

/-- The equation at a row and column: both sides are at or below the same thresholds. -/
theorem result_at (m : (b : Loc nD τ sig) → Buf (Elt Ideal) b) (X : FVec Ideal (M2 4096) .f32)
    (hX : ∀ c : Dev nD, m ((c.tc : Thread nD τ).loc main_arg0) = blockOf c X) (c : Dev nD) (i : ℕ) (hi : i < 128) (q : Fin 64) :
    result (inA m) c (at2 (m := 128) i hi q)
      = blockOf c (Host.sort (M2 4096) 0 Cert.ReferenceIdeal.comparator_f32_d0 X) (at2 i hi q) := by
  rw [blockOf_at]
  have hc : c.val < 32 := c.isLt
  refine eq_of_forall_ge_iff (α := EReal) fun a => ?_
  have h1 := result_low a q (inA m) (fun d => lowCount a q (m := 128) (m ((d.tc : Thread nD τ).loc main_arg0)))
    (fun d => lowCount_le a q (m := 128) _) (fun d i hi => inA_low a q m d i hi) c i hi
  have h2 := sort_low a q _ reference_cmp X (c.val * 128 + i) (by omega)
  have hs : (∑ d : Dev nD, lowCount a q (m := 128) (m ((d.tc : Thread nD τ).loc main_arg0))) = lowCount a q X := by
    rw [← lowCount_blocks]
    exact Finset.sum_congr rfl fun d _ => congrArg (lowCount a q (m := 128)) (hX d)
  rw [hs] at h1
  exact ((low_iff a q _ _ _).symm.trans h1).trans (h2.symm.trans (low_iff a q _ _ _))

/-- The equation. -/
theorem result_eq (m : (b : Loc nD τ sig) → Buf (Elt Ideal) b) (X : FVec Ideal (M2 4096) .f32)
    (hX : ∀ c : Dev nD, m ((c.tc : Thread nD τ).loc main_arg0) = blockOf c X) (c : Dev nD) :
    result (inA m) c = blockOf c (Host.sort (M2 4096) 0 Cert.ReferenceIdeal.comparator_f32_d0 X) := by
  funext j
  have hj : j = at2 (m := 128) (j 0).val (j 0).isLt (j 1) := by
    funext b
    match b with
    | ⟨0, _⟩ => rfl
    | ⟨1, _⟩ => rfl
  rw [hj]
  exact result_at m X hX c (j 0).val (j 0).isLt (j 1)

end Cert.Sort
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Launch
public import proofs.«01_k».proof.Proof.Reference
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The run with the values dropped, over any float values. -/
theorem frame_any {F : FTy → Type} [FloatOps F] (m : (b : Loc Cert.KernelIdeal.nD Cert.KernelIdeal.τ Cert.KernelIdeal.sig) → Buf (Elt F) b)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (Cert.Sort.run_main (F := F) m ρ)

/-- The two kernel modules have the same body, over any float values. -/
theorem body_eq {F : FTy → Type} [FloatOps F] :
    Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- So they have the same functions. -/
theorem defs_eq {F : FTy → Type} [FloatOps F] :
    Cert.Kernel.defs (F := F) = Cert.KernelIdeal.defs (F := F) :=
  congrArg (Pipeline.defs (Cert.KernelIdeal.pcfgs (F := F))) body_eq

set_option maxHeartbeats 4000000 in
/-- And the same host program. -/
theorem main_eq {F : FTy → Type} [FloatOps F] :
    Cert.Kernel.main (F := F) = Cert.KernelIdeal.main (F := F) := by
  exact rfl

/-- The same, for any functions and any host program equal to the ones run. -/
theorem frame_of {F : FTy → Type} [FloatOps F] (m : (b : Loc Cert.KernelIdeal.nD Cert.KernelIdeal.τ Cert.KernelIdeal.sig) → Buf (Elt F) b)
    (ρ : Dev Cert.KernelIdeal.nD → PrngReg) {D} (hD : D = Cert.KernelIdeal.defs (F := F)) {p} (hp : p = Cert.KernelIdeal.main (F := F)) :
    θ_run D (onTc (τ := Cert.KernelIdeal.τ) p) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) := by
  subst hD hp
  exact frame_any m ρ

/-- The frame of the kernel's program. -/
theorem frame_kernel : Cert.quiescent_Kernel := fun m ρ _ => frame_of (F := Bits) m ρ defs_eq main_eq

/-- The frame of its idealization. -/
theorem frame_kernelIdeal : Cert.quiescent_KernelIdeal := fun m ρ _ => frame_any (F := Ideal) m ρ

/-- The frame of the reference. -/
theorem frame_reference : Cert.quiescent_ReferenceIdeal := fun m ρ _ =>
  (θ_run Cert.ReferenceIdeal.defs _ _).mono (fun _ h => ⟨fun c => (h.1 c).1, h.2⟩) (Cert.Sort.Ref.run_main (F := Ideal) m ρ)

/-- Over the extended reals, each device returns its block of the whole array sorted. -/
theorem values : Cert.algebraic_KernelIdeal_ReferenceIdeal := fun m ρ m' ρ' _ hX =>
  ⟨_, (θ_run Cert.KernelIdeal.defs _ _).mono (fun _ h c => ⟨((h.1 c).2).trans (Cert.Sort.result_eq m _ hX c), (h.1 c).1⟩)
      (Cert.Sort.run_main (F := Ideal) m ρ),
    (θ_run Cert.ReferenceIdeal.defs _ _).mono (fun _ h => ⟨(h.1 0).2, (h.1 0).1⟩) (Cert.Sort.Ref.run_main (F := Ideal) m' ρ')⟩

theorem claim : Cert.Claim := ⟨Cert.Kernel.Gen.facts, Cert.KernelIdeal.Gen.facts, Cert.ReferenceIdeal.Gen.facts,
  frame_kernel, frame_kernelIdeal, frame_reference, trivial, values⟩

end Cert.Proof

end
